-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_nearest_determined [hPre_nearest_determined : Cert.Pre_nearest_determined.Facts] (m : (ℓ : Loc Cert.KernelIdeal.nD Cert.KernelIdeal.τ Cert.KernelIdeal.sig) → Buf (Elt Ideal) ℓ) : Prop :=
  ∀ c : Dev Cert.KernelIdeal.nD,
    (Cert.Pre_nearest_determined.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_nearest_determined [hPre_nearest_determined : Cert.Pre_nearest_determined.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_nearest_determined.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_nearest_determined [hKernelIdeal : Cert.KernelIdeal.Facts] [hPre_nearest_determined : Cert.Pre_nearest_determined.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_nearest_determined m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_nearest_determined [hReferenceIdeal : Cert.ReferenceIdeal.Facts] [hPre_nearest_determined : Cert.Pre_nearest_determined.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_nearest_determined m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_nearest_determined [hKernelIdeal : Cert.KernelIdeal.Facts] [hReferenceIdeal : Cert.ReferenceIdeal.Facts] [hPre_nearest_determined : Cert.Pre_nearest_determined.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_nearest_determined m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v17)) (v1 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_v55) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_v64) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_nearest_determined : Cert.Pre_nearest_determined.Facts),
    quiescent_Kernel (hKernel := hKernel)
    ∧ quiescent_KernelIdeal (hKernelIdeal := hKernelIdeal)
    ∧ quiescent_KernelIdeal_pre_nearest_determined (hKernelIdeal := hKernelIdeal) (hPre_nearest_determined := hPre_nearest_determined)
    ∧ quiescent_ReferenceIdeal (hReferenceIdeal := hReferenceIdeal)
    ∧ quiescent_ReferenceIdeal_pre_nearest_determined (hReferenceIdeal := hReferenceIdeal) (hPre_nearest_determined := hPre_nearest_determined)
    ∧ preserves_Kernel_KernelIdeal
    ∧ algebraic_KernelIdeal_ReferenceIdeal_pre_nearest_determined (hKernelIdeal := hKernelIdeal) (hReferenceIdeal := hReferenceIdeal) (hPre_nearest_determined := hPre_nearest_determined)
-- ==== Pre_nearest_determined.lean ====
abbrev S4x16384x3 : Shape := ⟨3, ![4, 16384, 3]⟩
abbrev S4x16x16384 : Shape := ⟨3, ![4, 16, 16384]⟩
abbrev S32x19 : Shape := ⟨2, ![32, 19]⟩
abbrev S32 : Shape := ⟨1, ![32]⟩
abbrev S32x32 : Shape := ⟨2, ![32, 32]⟩
abbrev S64x32 : Shape := ⟨2, ![64, 32]⟩
abbrev S64 : Shape := ⟨1, ![64]⟩
abbrev S_ : Shape := ⟨0, ![]⟩
abbrev S4x16384 : Shape := ⟨2, ![4, 16384]⟩
abbrev S4x16384x1 : Shape := ⟨3, ![4, 16384, 1]⟩
abbrev S4x16384x16384 : Shape := ⟨3, ![4, 16384, 16384]⟩
abbrev S4x1x16384 : Shape := ⟨3, ![4, 1, 16384]⟩
abbrev S4x16384x33 : Shape := ⟨3, ![4, 16384, 33]⟩

class Facts : Prop where
  reducesTo_S4x16384x3_S4x16384_d2 : S4x16384x3.ReducesTo [2] S4x16384
  h_S_ : 0 < S_.numel
  bcast_S4x16384_S4x16384x1_0_1 : S4x16384.BroadcastsInDim S4x16384x1 (![0, 1] : Fin 2 → Fin S4x16384x1.rank)
  bcast_S_S4x16384x16384 : S_.BroadcastsInDim S4x16384x16384 (![] : Fin 0 → Fin S4x16384x16384.rank)
  bcast_S4x16384x1_S4x16384x16384_0_1_2 : S4x16384x1.BroadcastsInDim S4x16384x16384 (![0, 1, 2] : Fin 3 → Fin S4x16384x16384.rank)
  bcast_S4x16384_S4x1x16384_0_2 : S4x16384.BroadcastsInDim S4x1x16384 (![0, 2] : Fin 2 → Fin S4x1x16384.rank)
  bcast_S4x1x16384_S4x16384x16384_0_1_2 : S4x1x16384.BroadcastsInDim S4x16384x16384 (![0, 1, 2] : Fin 3 → Fin S4x16384x16384.rank)
  sliceFits_S4x16384x16384_S4x16384x33 : S4x16384x16384.Slices (fun _ => 0) S4x16384x33
  slices_S4x16384x33_S4x16384x1_0_0_32 : S4x16384x33.Slices ![0, 0, 32] S4x16384x1
  shapeCasts_S4x16384x1_S4x16384 : S4x16384x1.ShapeCasts S4x16384
  slices_S4x16384x33_S4x16384x1_0_0_31 : S4x16384x33.Slices ![0, 0, 31] S4x16384x1
  dot_S4x16384x3_S4x16384x3_S4x16384x16384_2_2_1_1_0_0_wf : DotDims.WF S4x16384x3 S4x16384x3 S4x16384x16384 [2] [2] [1] [1] [0] [0]

variable [Facts]

def dot_S4x16384x3_S4x16384x3_S4x16384x16384_2_2_1_1_0_0 : DotDims S4x16384x3 S4x16384x3 S4x16384x16384 where
  lhsContracting := [2]
  rhsContracting := [2]
  lhsNonContracting := [1]
  rhsNonContracting := [1]
  lhsBatch := [0]
  rhsBatch := [0]
  wf := dot_S4x16384x3_S4x16384x3_S4x16384x16384_2_2_1_1_0_0_wf
def fn {F : FTy → Type} [FloatOps F] (main_arg0 : FVec F S4x16384x3 .f32) (main_arg1 : FVec F S4x16x16384 .f32) (main_arg2 : FVec F S32x19 .f32) (main_arg3 : FVec F S32 .f32) (main_arg4 : FVec F S32x32 .f32) (main_arg5 : FVec F S32 .f32) (main_arg6 : FVec F S64x32 .f32) (main_arg7 : FVec F S64 .f32) : IVec S4x16384 1 :=
  let main_v0 : FVec F S4x16384x3 .f32 := mulf main_arg0 main_arg0
  let main_cst : FVec F S_ .f32 := constant S_ .f32 0x00000000#32
  let main_v1 : FVec F S4x16384 .f32 := (fun x v => Host.reduceAdd x v reducesTo_S4x16384x3_S4x16384_d2 h_S_) main_v0 main_cst
  let main_v2 : FVec F S4x16384x1 .f32 := broadcastInDim S4x16384x1 ![0, 1] bcast_S4x16384_S4x16384x1_0_1 main_v1
  let main_v3 : FVec F S4x16384x16384 .f32 := (fun l r => Host.dotGeneral dot_S4x16384x3_S4x16384x3_S4x16384x16384_2_2_1_1_0_0 none l r) main_arg0 main_arg0
  let main_cst_0 : FVec F S_ .f32 := constant S_ .f32 0x40000000#32
  let main_v4 : FVec F S4x16384x16384 .f32 := broadcastInDim S4x16384x16384 ![] bcast_S_S4x16384x16384 main_cst_0
  let main_v5 : FVec F S4x16384x16384 .f32 := mulf main_v4 main_v3
  let main_v6 : FVec F S4x16384x16384 .f32 := broadcastInDim S4x16384x16384 ![0, 1, 2] bcast_S4x16384x1_S4x16384x16384_0_1_2 main_v2
  let main_v7 : FVec F S4x16384x16384 .f32 := subf main_v6 main_v5
  let main_v8 : FVec F S4x16384x3 .f32 := mulf main_arg0 main_arg0
  let main_cst_1 : FVec F S_ .f32 := constant S_ .f32 0x00000000#32
  let main_v9 : FVec F S4x16384 .f32 := (fun x v => Host.reduceAdd x v reducesTo_S4x16384x3_S4x16384_d2 h_S_) main_v8 main_cst_1
  let main_v10 : FVec F S4x1x16384 .f32 := broadcastInDim S4x1x16384 ![0, 2] bcast_S4x16384_S4x1x16384_0_2 main_v9
  let main_v11 : FVec F S4x16384x16384 .f32 := broadcastInDim S4x16384x16384 ![0, 1, 2] bcast_S4x1x16384_S4x16384x16384_0_1_2 main_v10
  let main_v12 : FVec F S4x16384x16384 .f32 := addf main_v7 main_v11
  let main_v13 : FVec F S4x16384x16384 .f32 := Host.negf main_v12
  let main_values : FVec F S4x16384x33 .f32 := (fun x => (Host.topK S4x16384x33 2 (FloatOps.cmpfTotal .gt) x sliceFits_S4x16384x16384_S4x16384x33).1) main_v13
  let main_indices : IVec S4x16384x33 32 := (fun x => (Host.topK S4x16384x33 2 (FloatOps.cmpfTotal .gt) x sliceFits_S4x16384x16384_S4x16384x33).2) main_v13
  let main_v14 : FVec F S4x16384x1 .f32 := (extractStridedSlice S4x16384x1 ![0, 0, 32] · slices_S4x16384x33_S4x16384x1_0_0_32) main_values
  let main_v15 : FVec F S4x16384 .f32 := shapeCast S4x16384 main_v14 shapeCasts_S4x16384x1_S4x16384
  let main_v16 : FVec F S4x16384x1 .f32 := (extractStridedSlice S4x16384x1 ![0, 0, 31] · slices_S4x16384x33_S4x16384x1_0_0_31) main_values
  let main_v17 : FVec F S4x16384 .f32 := shapeCast S4x16384 main_v16 shapeCasts_S4x16384x1_S4x16384
  let main_v18 : IVec S4x16384 1 := cmpf .olt main_v15 main_v17
  main_v18
-- ==== Kernel.lean ====
abbrev S4x16384x3 : Shape := ⟨3, ![4, 16384, 3]⟩
abbrev S4x16x16384 : Shape := ⟨3, ![4, 16, 16384]⟩
abbrev S32x19 : Shape := ⟨2, ![32, 19]⟩
abbrev S32 : Shape := ⟨1, ![32]⟩
abbrev S32x32 : Shape := ⟨2, ![32, 32]⟩
abbrev S64x32 : Shape := ⟨2, ![64, 32]⟩
abbrev S64 : Shape := ⟨1, ![64]⟩
abbrev S4x16384x1 : Shape := ⟨3, ![4, 16384, 1]⟩
abbrev S4x16384 : Shape := ⟨2, ![4, 16384]⟩
abbrev S4x128x128 : Shape := ⟨3, ![4, 128, 128]⟩
abbrev S1024x4 : Shape := ⟨2, ![1024, 4]⟩
abbrev S1x128x128 : Shape := ⟨3, ![1, 128, 128]⟩
abbrev S4x1x1 : Shape := ⟨3, ![4, 1, 1]⟩
abbrev S1x4 : Shape := ⟨2, ![1, 4]⟩
abbrev S4 : Shape := ⟨1, ![4]⟩
abbrev S4x1024 : Shape := ⟨2, ![4, 1024]⟩
abbrev S4x1024x1 : Shape := ⟨3, ![4, 1024, 1]⟩
abbrev S4x1024x3 : Shape := ⟨3, ![4, 1024, 3]⟩
abbrev S4x3x1024 : Shape := ⟨3, ![4, 3, 1024]⟩
abbrev S_ : Shape := ⟨0, ![]⟩
abbrev S4x3x8x128 : Shape := ⟨4, ![4, 3, 8, 128]⟩
abbrev S4x8x3x128 : Shape := ⟨4, ![4, 8, 3, 128]⟩
abbrev S4x8x1x128 : Shape := ⟨4, ![4, 8, 1, 128]⟩
abbrev S4x8x32x128 : Shape := ⟨4, ![4, 8, 32, 128]⟩
abbrev S1x16384x3 : Shape := ⟨3, ![1, 16384, 3]⟩
abbrev S1x1x3x128 : Shape := ⟨4, ![1, 1, 3, 128]⟩
abbrev S1x1x1x128 : Shape := ⟨4, ![1, 1, 1, 128]⟩
abbrev S1x1x32x128 : Shape := ⟨4, ![1, 1, 32, 128]⟩
abbrev S16384x128 : Shape := ⟨2, ![16384, 128]⟩
abbrev S16384x3 : Shape := ⟨2, ![16384, 3]⟩
abbrev S16384 : Shape := ⟨1, ![16384]⟩
abbrev S16384x1 : Shape := ⟨2, ![16384, 1]⟩
abbrev S3x128 : Shape := ⟨2, ![3, 128]⟩
abbrev S1x128 : Shape := ⟨2, ![1, 128]⟩
abbrev S32x128 : Shape := ⟨2, ![32, 128]⟩
abbrev S16x2x1x128 : Shape := ⟨4, ![16, 2, 1, 128]⟩
abbrev S16x1x1x128 : Shape := ⟨4, ![16, 1, 1, 128]⟩
abbrev S16x1x128 : Shape := ⟨3, ![16, 1, 128]⟩
abbrev S8x2x2x128 : Shape := ⟨4, ![8, 2, 2, 128]⟩
abbrev S8x1x2x128 : Shape := ⟨4, ![8, 1, 2, 128]⟩
abbrev S8x2x128 : Shape := ⟨3, ![8, 2, 128]⟩
abbrev S8x1x128 : Shape := ⟨3, ![8, 1, 128]⟩
abbrev S4x2x4x128 : Shape := ⟨4, ![4, 2, 4, 128]⟩
abbrev S4x1x4x128 : Shape := ⟨4, ![4, 1, 4, 128]⟩
abbrev S4x4x128 : Shape := ⟨3, ![4, 4, 128]⟩
abbrev S4x1x128 : Shape := ⟨3, ![4, 1, 128]⟩
abbrev S2x2x8x128 : Shape := ⟨4, ![2, 2, 8, 128]⟩
abbrev S2x1x8x128 : Shape := ⟨4, ![2, 1, 8, 128]⟩
abbrev S2x8x128 : Shape := ⟨3, ![2, 8, 128]⟩
abbrev S2x1x128 : Shape := ⟨3, ![2, 1, 128]⟩
abbrev S1x2x16x128 : Shape := ⟨4, ![1, 2, 16, 128]⟩
abbrev S1x1x16x128 : Shape := ⟨4, ![1, 1, 16, 128]⟩
abbrev S1x16x128 : Shape := ⟨3, ![1, 16, 128]⟩
abbrev S64x128 : Shape := ⟨2, ![64, 128]⟩
abbrev S1x2x32x128 : Shape := ⟨4, ![1, 2, 32, 128]⟩
abbrev S1x32x128 : Shape := ⟨3, ![1, 32, 128]⟩
abbrev S2x2x16x128 : Shape := ⟨4, ![2, 2, 16, 128]⟩
abbrev S2x1x16x128 : Shape := ⟨4, ![2, 1, 16, 128]⟩
abbrev S2x16x128 : Shape := ⟨3, ![2, 16, 128]⟩
abbrev S4x2x8x128 : Shape := ⟨4, ![4, 2, 8, 128]⟩
abbrev S4x1x8x128 : Shape := ⟨4, ![4, 1, 8, 128]⟩
abbrev S4x8x128 : Shape := ⟨3, ![4, 8, 128]⟩
abbrev S8x2x4x128 : Shape := ⟨4, ![8, 2, 4, 128]⟩
abbrev S8x1x4x128 : Shape := ⟨4, ![8, 1, 4, 128]⟩
abbrev S8x4x128 : Shape := ⟨3, ![8, 4, 128]⟩
abbrev S16x2x2x128 : Shape := ⟨4, ![16, 2, 2, 128]⟩
abbrev S16x1x2x128 : Shape := ⟨4, ![16, 1, 2, 128]⟩
abbrev S16x2x128 : Shape := ⟨3, ![16, 2, 128]⟩
abbrev S32x2x1x128 : Shape := ⟨4, ![32, 2, 1, 128]⟩
abbrev S32x1x1x128 : Shape := ⟨4, ![32, 1, 1, 128]⟩
abbrev S32x1x128 : Shape := ⟨3, ![32, 1, 128]⟩
abbrev S4x8x128x32 : Shape := ⟨4, ![4, 8, 128, 32]⟩
abbrev S4x1024x32 : Shape := ⟨3, ![4, 1024, 32]⟩
abbrev S4x1024x32x1 : Shape := ⟨4, ![4, 1024, 32, 1]⟩
abbrev S4x1024x32x3 : Shape := ⟨4, ![4, 1024, 32, 3]⟩
abbrev S4x1024x1x3 : Shape := ⟨4, ![4, 1024, 1, 3]⟩
abbrev S4x16384x16 : Shape := ⟨3, ![4, 16384, 16]⟩
abbrev S4x1024x32x16 : Shape := ⟨4, ![4, 1024, 32, 16]⟩
abbrev S4x1024x32x19 : Shape := ⟨4, ![4, 1024, 32, 19]⟩
abbrev S131072x19 : Shape := ⟨2, ![131072, 19]⟩
abbrev S19x32 : Shape := ⟨2, ![19, 32]⟩
abbrev S1x32 : Shape := ⟨2, ![1, 32]⟩
abbrev S32x64 : Shape := ⟨2, ![32, 64]⟩
abbrev S1x64 : Shape := ⟨2, ![1, 64]⟩
abbrev S4096x64 : Shape := ⟨2, ![4096, 64]⟩
abbrev S2048x19 : Shape := ⟨2, ![2048, 19]⟩
abbrev S64x64 : Shape := ⟨2, ![64, 64]⟩
abbrev S2048x32 : Shape := ⟨2, ![2048, 32]⟩
abbrev S2048x64 : Shape := ⟨2, ![2048, 64]⟩
abbrev S64x32x64 : Shape := ⟨3, ![64, 32, 64]⟩
abbrev S4x1024x64 : Shape := ⟨3, ![4, 1024, 64]⟩
abbrev S4x64x1024 : Shape := ⟨3, ![4, 64, 1024]⟩

abbrev nBuf : Space → Nat
  | .hbm => 72
  | .vmem => 26
  | .smem => 0
  | _ => 0

abbrev bufTy : (tb : Table) → Fin (tcTables nBuf tb) → BufTy
  | .hbm, ⟨0, _⟩ => ⟨S4x16384x3, .f32⟩
  | .hbm, ⟨1, _⟩ => ⟨S4x16x16384, .f32⟩
  | .hbm, ⟨2, _⟩ => ⟨S32x19, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S64x32, .f32⟩
  | .hbm, ⟨7, _⟩ => ⟨S64, .f32⟩
  | .hbm, ⟨8, _⟩ => ⟨S4x16384x1, .f32⟩
  | .hbm, ⟨9, _⟩ => ⟨S4x16384, .f32⟩
  | .hbm, ⟨10, _⟩ => ⟨S4x128x128, .f32⟩
  | .hbm, ⟨11, _⟩ => ⟨S4x16384x1, .f32⟩
  | .hbm, ⟨12, _⟩ => ⟨S4x16384, .f32⟩
  | .hbm, ⟨13, _⟩ => ⟨S4x128x128, .f32⟩
  | .hbm, ⟨14, _⟩ => ⟨S4x16384x1, .f32⟩
  | .hbm, ⟨15, _⟩ => ⟨S4x16384, .f32⟩
  | .hbm, ⟨16, _⟩ => ⟨S4x128x128, .f32⟩
  | .hbm, ⟨17, _⟩ => ⟨S1024x4, .i32⟩
  | .hbm, ⟨18, _⟩ => ⟨S1024x4, .f32⟩
  | .hbm, ⟨19, _⟩ => ⟨S1024x4, .f32⟩
  | .hbm, ⟨20, _⟩ => ⟨S1024x4, .f32⟩
  | .hbm, ⟨21, _⟩ => ⟨S4x1024, .i32⟩
  | .hbm, ⟨22, _⟩ => ⟨S4x1024, .f32⟩
  | .hbm, ⟨23, _⟩ => ⟨S4x1024, .f32⟩
  | .hbm, ⟨24, _⟩ => ⟨S4x1024, .f32⟩
  | .hbm, ⟨25, _⟩ => ⟨S4x1024x1, .f32⟩
  | .hbm, ⟨26, _⟩ => ⟨S4x1024x1, .f32⟩
  | .hbm, ⟨27, _⟩ => ⟨S4x1024x1, .f32⟩
  | .hbm, ⟨28, _⟩ => ⟨S4x1024x3, .f32⟩
  | .hbm, ⟨29, _⟩ => ⟨S4x3x1024, .f32⟩
  | .hbm, ⟨30, _⟩ => ⟨S4x1024x3, .f32⟩
  | .hbm, ⟨31, _⟩ => ⟨S_, .f32⟩
  | .hbm, ⟨32, _⟩ => ⟨S4x1024, .f32⟩
  | .hbm, ⟨33, _⟩ => ⟨S4x3x8x128, .f32⟩
  | .hbm, ⟨34, _⟩ => ⟨S4x8x3x128, .f32⟩
  | .hbm, ⟨35, _⟩ => ⟨S4x8x1x128, .f32⟩
  | .hbm, ⟨36, _⟩ => ⟨S4x8x32x128, .i32⟩
  | .hbm, ⟨37, _⟩ => ⟨S4x8x128x32, .i32⟩
  | .hbm, ⟨38, _⟩ => ⟨S4x1024x32, .i32⟩
  | .hbm, ⟨39, _⟩ => ⟨S_, .i32⟩
  | .hbm, ⟨40, _⟩ => ⟨S4x1024x32, .i32⟩
  | .hbm, ⟨41, _⟩ => ⟨S4x1024x32, .i1⟩
  | .hbm, ⟨42, _⟩ => ⟨S_, .i32⟩
  | .hbm, ⟨43, _⟩ => ⟨S4x1024x32, .i32⟩
  | .hbm, ⟨44, _⟩ => ⟨S4x1024x32, .i32⟩
  | .hbm, ⟨45, _⟩ => ⟨S4x1024x32, .i32⟩
  | .hbm, ⟨46, _⟩ => ⟨S4x1024x32x1, .i32⟩
  | .hbm, ⟨47, _⟩ => ⟨S4x1024x32x3, .f32⟩
  | .hbm, ⟨48, _⟩ => ⟨S4x1024x1x3, .f32⟩
  | .hbm, ⟨49, _⟩ => ⟨S4x1024x32x3, .f32⟩
  | .hbm, ⟨50, _⟩ => ⟨S4x1024x32x3, .f32⟩
  | .hbm, ⟨51, _⟩ => ⟨S4x16384x16, .f32⟩
  | .hbm, ⟨52, _⟩ => ⟨S_, .i32⟩
  | .hbm, ⟨53, _⟩ => ⟨S4x1024x32, .i32⟩
  | .hbm, ⟨54, _⟩ => ⟨S4x1024x32, .i1⟩
  | .hbm, ⟨55, _⟩ => ⟨S_, .i32⟩
  | .hbm, ⟨56, _⟩ => ⟨S4x1024x32, .i32⟩
  | .hbm, ⟨57, _⟩ => ⟨S4x1024x32, .i32⟩
  | .hbm, ⟨58, _⟩ => ⟨S4x1024x32, .i32⟩
  | .hbm, ⟨59, _⟩ => ⟨S4x1024x32x1, .i32⟩
  | .hbm, ⟨60, _⟩ => ⟨S4x1024x32x16, .f32⟩
  | .hbm, ⟨61, _⟩ => ⟨S4x1024x32x19, .f32⟩
  | .hbm, ⟨62, _⟩ => ⟨S131072x19, .f32⟩
  | .hbm, ⟨63, _⟩ => ⟨S19x32, .f32⟩
  | .hbm, ⟨64, _⟩ => ⟨S1x32, .f32⟩
  | .hbm, ⟨65, _⟩ => ⟨S32x32, .f32⟩
  | .hbm, ⟨66, _⟩ => ⟨S1x32, .f32⟩
  | .hbm, ⟨67, _⟩ => ⟨S32x64, .f32⟩
  | .hbm, ⟨68, _⟩ => ⟨S1x64, .f32⟩
  | .hbm, ⟨69, _⟩ => ⟨S4096x64, .f32⟩
  | .hbm, ⟨70, _⟩ => ⟨S4x1024x64, .f32⟩
  | .hbm, ⟨71, _⟩ => ⟨S4x64x1024, .f32⟩
  | .local _ .vmem, ⟨0, _⟩ => ⟨S4x128x128, .f32⟩
  | .local _ .vmem, ⟨1, _⟩ => ⟨S4x128x128, .f32⟩
  | .local _ .vmem, ⟨2, _⟩ => ⟨S4x128x128, .f32⟩
  | .local _ .vmem, ⟨3, _⟩ => ⟨S1024x4, .i32⟩
  | .local _ .vmem, ⟨4, _⟩ => ⟨S1024x4, .f32⟩
  | .local _ .vmem, ⟨5, _⟩ => ⟨S1024x4, .f32⟩
  | .local _ .vmem, ⟨6, _⟩ => ⟨S1024x4, .f32⟩
  | .local _ .vmem, ⟨7, _⟩ => ⟨S1x16384x3, .f32⟩
  | .local _ .vmem, ⟨8, _⟩ => ⟨S1x16384x3, .f32⟩
  | .local _ .vmem, ⟨9, _⟩ => ⟨S1x1x3x128, .f32⟩
  | .local _ .vmem, ⟨10, _⟩ => ⟨S1x1x3x128, .f32⟩
  | .local _ .vmem, ⟨11, _⟩ => ⟨S1x1x1x128, .f32⟩
  | .local _ .vmem, ⟨12, _⟩ => ⟨S1x1x1x128, .f32⟩
  | .local _ .vmem, ⟨13, _⟩ => ⟨S1x1x32x128, .i32⟩
  | .local _ .vmem, ⟨14, _⟩ => ⟨S1x1x32x128, .i32⟩
  | .local _ .vmem, ⟨15, _⟩ => ⟨S16384x128, .f32⟩
  | .local _ .vmem, ⟨16, _⟩ => ⟨S2048x19, .f32⟩
  | .local _ .vmem, ⟨17, _⟩ => ⟨S2048x19, .f32⟩
  | .local _ .vmem, ⟨18, _⟩ => ⟨S19x32, .f32⟩
  | .local _ .vmem, ⟨19, _⟩ => ⟨S1x32, .f32⟩
  | .local _ .vmem, ⟨20, _⟩ => ⟨S32x32, .f32⟩
  | .local _ .vmem, ⟨21, _⟩ => ⟨S1x32, .f32⟩
  | .local _ .vmem, ⟨22, _⟩ => ⟨S32x64, .f32⟩
  | .local _ .vmem, ⟨23, _⟩ => ⟨S1x64, .f32⟩
  | .local _ .vmem, ⟨24, _⟩ => ⟨S64x64, .f32⟩
  | .local _ .vmem, ⟨25, _⟩ => ⟨S64x64, .f32⟩
  | _, _ => ⟨S4x16384x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev main_v9_2 : Ref sig .tc := ⟨.hbm, 19, rfl⟩
abbrev main_v9_3 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_c : Ref sig .tc := ⟨.hbm, 39, rfl⟩
abbrev main_v27 : Ref sig .tc := ⟨.hbm, 40, rfl⟩
abbrev main_v28 : Ref sig .tc := ⟨.hbm, 41, rfl⟩
abbrev main_c_0 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_c_1 : Ref sig .tc := ⟨.hbm, 52, rfl⟩
abbrev main_v38 : Ref sig .tc := ⟨.hbm, 53, rfl⟩
abbrev main_v39 : Ref sig .tc := ⟨.hbm, 54, rfl⟩
abbrev main_c_2 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_scratch0 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg6_0 : Ref sig .tc := ⟨.vmem, 23, rfl⟩
abbrev cc2_stg7_0 : Ref sig .tc := ⟨.vmem, 24, rfl⟩
abbrev cc2_stg7_1 : Ref sig .tc := ⟨.vmem, 25, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem6_0 : DmaSem sig := 22
abbrev cc2_sem7_0 : DmaSem sig := 23
abbrev cc2_sem7_1 : DmaSem sig := 24

abbrev nD : Nat := 1
abbrev τ : Topo := Topo.v7x

variable {F : FTy → Type} [FloatOps F]

abbrev grid0 : Pipeline.Grid := .none

@[reducible] def k0_t1_loop : Scf.Loop 32 :=
  let c0_i32_8 : BitVec 32 := 0#32
  let c1024_i32 : BitVec 32 := 1024#32
  let v13 : BitVec 32 := Scalar.addi c0_i32_8 c1024_i32
  let c1_i32 : BitVec 32 := 1#32
  ⟨c0_i32_8, v13, c1_i32⟩
def k0_off1 (k0_t1 : Fin k0_t1_loop.trips) : Fin 2 → Nat :=
  let c0_i32_8 : BitVec 32 := 0#32
  let c1_i32 : BitVec 32 := 1#32
  let arg7 : BitVec 32 := Scf.iv c0_i32_8 c1_i32 k0_t1
  let v16 : Index := Scalar.indexCast arg7
  let c0_10 : Index := 0#32
  ![v16.toNat, 0]
abbrev stage0_0 : Fin 1 → Memref sig .tc .vmem S4x128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x4 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x4 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev grid1 : Pipeline.Grid := ⟨2, ![4, 8], ![false, false]⟩

@[reducible] def k1_t1_loop : Scf.Loop 32 :=
  let c0_i32_15 : BitVec 32 := 0#32
  let c512_i32 : BitVec 32 := 512#32
  let v23 : BitVec 32 := Scalar.addi c0_i32_15 c512_i32
  let c1_i32 : BitVec 32 := 1#32
  ⟨c0_i32_15, v23, c1_i32⟩
def k1_off1 (k1_t1 : Fin k1_t1_loop.trips) : Fin 2 → Nat :=
  let c0_i32_15 : BitVec 32 := 0#32
  let c1_i32 : BitVec 32 := 1#32
  let arg7 : BitVec 32 := Scf.iv c0_i32_15 c1_i32 k1_t1
  let c32_i32 : BitVec 32 := 32#32
  let v28 : BitVec 32 := Scalar.muli arg7 c32_i32
  let v29 : Index := Scalar.indexCast v28
  let c0_21 : Index := 0#32
  ![v29.toNat, 0]
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x16384x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x1x3x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1x1x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x1x32x128 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨1, ![64], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x19 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S19x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S32x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S32x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S64x64 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]
-- ==== ReferenceIdeal.lean ====
abbrev S4x16384x3 : Shape := ⟨3, ![4, 16384, 3]⟩
abbrev S4x16x16384 : Shape := ⟨3, ![4, 16, 16384]⟩
abbrev S32x19 : Shape := ⟨2, ![32, 19]⟩
abbrev S32 : Shape := ⟨1, ![32]⟩
abbrev S32x32 : Shape := ⟨2, ![32, 32]⟩
abbrev S64x32 : Shape := ⟨2, ![64, 32]⟩
abbrev S64 : Shape := ⟨1, ![64]⟩
abbrev S4 : Shape := ⟨1, ![4]⟩
abbrev S_ : Shape := ⟨0, ![]⟩
abbrev S4x1024 : Shape := ⟨2, ![4, 1024]⟩
abbrev S4x16384 : Shape := ⟨2, ![4, 16384]⟩
abbrev S1 : Shape := ⟨1, ![1]⟩
abbrev S4x1 : Shape := ⟨2, ![4, 1]⟩
abbrev S4x2 : Shape := ⟨2, ![4, 2]⟩
abbrev S4x3 : Shape := ⟨2, ![4, 3]⟩
abbrev S4x1x3 : Shape := ⟨3, ![4, 1, 3]⟩
abbrev S4x1024x1 : Shape := ⟨3, ![4, 1024, 1]⟩
abbrev S4x1024x3 : Shape := ⟨3, ![4, 1024, 3]⟩
abbrev S4x1024x16384 : Shape := ⟨3, ![4, 1024, 16384]⟩
abbrev S4x1x16384 : Shape := ⟨3, ![4, 1, 16384]⟩
abbrev S4x1024x32 : Shape := ⟨3, ![4, 1024, 32]⟩
abbrev S4x1024x32x1 : Shape := ⟨4, ![4, 1024, 32, 1]⟩
abbrev S4x1024x32x3 : Shape := ⟨4, ![4, 1024, 32, 3]⟩
abbrev S4x1024x1x3 : Shape := ⟨4, ![4, 1024, 1, 3]⟩
abbrev S4x16384x16 : Shape := ⟨3, ![4, 16384, 16]⟩
abbrev S4x1024x32x16 : Shape := ⟨4, ![4, 1024, 32, 16]⟩
abbrev S4x1024x32x19 : Shape := ⟨4, ![4, 1024, 32, 19]⟩
abbrev S19x32 : Shape := ⟨2, ![19, 32]⟩
abbrev S4x1024x32x32 : Shape := ⟨4, ![4, 1024, 32, 32]⟩
abbrev S1x1x1x32 : Shape := ⟨4, ![1, 1, 1, 32]⟩
abbrev S32x64 : Shape := ⟨2, ![32, 64]⟩
abbrev S4x1024x32x64 : Shape := ⟨4, ![4, 1024, 32, 64]⟩
abbrev S1x1x1x64 : Shape := ⟨4, ![1, 1, 1, 64]⟩
abbrev S4x1024x64 : Shape := ⟨3, ![4, 1024, 64]⟩
abbrev S4x64x1024 : Shape := ⟨3, ![4, 64, 1024]⟩

abbrev nBuf : Space → Nat
  | .hbm => 146
  | .vmem => 0
  | .smem => 0
  | _ => 0

abbrev hbmTy0_0 (i : Nat) : BufTy := match i % 128 with
  | 0 => ⟨S4x16384x3, .f32⟩
  | 1 => ⟨S4x16x16384, .f32⟩
  | 2 => ⟨S32x19, .f32⟩
  | 3 => ⟨S32, .f32⟩
  | 4 => ⟨S32x32, .f32⟩
  | 5 => ⟨S32, .f32⟩
  | 6 => ⟨S64x32, .f32⟩
  | 7 => ⟨S64, .f32⟩
  | 8 => ⟨S4, .i32⟩
  | 9 => ⟨S_, .i32⟩
  | 10 => ⟨S4x1024, .i32⟩
  | 11 => ⟨S_, .f32⟩
  | 12 => ⟨S4x16384, .f32⟩
  | 13 => ⟨S_, .i32⟩
  | 14 => ⟨S4, .i32⟩
  | 15 => ⟨S_, .i32⟩
  | 16 => ⟨S_, .i32⟩
  | 17 => ⟨S4, .i32⟩
  | 18 => ⟨S4x16384x3, .f32⟩
  | 19 => ⟨S_, .i32⟩
  | 20 => ⟨S_, .i32⟩
  | 21 => ⟨S4x1024, .i32⟩
  | 22 => ⟨S4x16384, .f32⟩
  | 23 => ⟨S4, .i32⟩
  | 24 => ⟨S_, .i32⟩
  | 25 => ⟨S_, .i1⟩
  | 26 => ⟨S_, .i32⟩
  | 27 => ⟨S_, .i32⟩
  | 28 => ⟨S_, .i32⟩
  | 29 => ⟨S_, .i1⟩
  | 30 => ⟨S_, .i32⟩
  | 31 => ⟨S_, .i32⟩
  | 32 => ⟨S_, .i32⟩
  | 33 => ⟨S_, .i32⟩
  | 34 => ⟨S1, .i32⟩
  | 35 => ⟨S4x1024, .i32⟩
  | 36 => ⟨S_, .i32⟩
  | 37 => ⟨S4, .i32⟩
  | 38 => ⟨S4, .i1⟩
  | 39 => ⟨S_, .i32⟩
  | 40 => ⟨S4, .i32⟩
  | 41 => ⟨S4, .i32⟩
  | 42 => ⟨S4, .i32⟩
  | 43 => ⟨S_, .i32⟩
  | 44 => ⟨S4, .i32⟩
  | 45 => ⟨S4, .i1⟩
  | 46 => ⟨S_, .i32⟩
  | 47 => ⟨S4, .i32⟩
  | 48 => ⟨S4, .i32⟩
  | 49 => ⟨S4, .i32⟩
  | 50 => ⟨S4x1, .i32⟩
  | 51 => ⟨S4x1, .i32⟩
  | 52 => ⟨S4x2, .i32⟩
  | 53 => ⟨S4x3, .f32⟩
  | 54 => ⟨S4x1x3, .f32⟩
  | 55 => ⟨S4x16384x3, .f32⟩
  | 56 => ⟨S4x16384x3, .f32⟩
  | 57 => ⟨S4x16384x3, .f32⟩
  | 58 => ⟨S_, .f32⟩
  | 59 => ⟨S4x16384, .f32⟩
  | 60 => ⟨S4x16384, .f32⟩
  | 61 => ⟨S4x16384, .i32⟩
  | 62 => ⟨S_, .f32⟩
  | 63 => ⟨S_, .i32⟩
  | 64 => ⟨S4, .f32⟩
  | 65 => ⟨S4, .i32⟩
  | 66 => ⟨S_, .i32⟩
  | 67 => ⟨S_, .i32⟩
  | 68 => ⟨S_, .i32⟩
  | 69 => ⟨S4x1024, .i32⟩
  | 70 => ⟨S4x1024, .i1⟩
  | 71 => ⟨S_, .i32⟩
  | 72 => ⟨S4x1024, .i32⟩
  | 73 => ⟨S4x1024, .i32⟩
  | 74 => ⟨S4x1024, .i32⟩
  | 75 => ⟨S4x1024x1, .i32⟩
  | 76 => ⟨S4x1024x3, .f32⟩
  | 77 => ⟨S4x1024x3, .f32⟩
  | 78 => ⟨S_, .f32⟩
  | 79 => ⟨S4x1024, .f32⟩
  | 80 => ⟨S4x1024x1, .f32⟩
  | 81 => ⟨S4x1024x16384, .f32⟩
  | 82 => ⟨S_, .f32⟩
  | 83 => ⟨S4x1024x16384, .f32⟩
  | 84 => ⟨S4x1024x16384, .f32⟩
  | 85 => ⟨S4x1024x16384, .f32⟩
  | 86 => ⟨S4x1024x16384, .f32⟩
  | 87 => ⟨S4x16384x3, .f32⟩
  | 88 => ⟨S_, .f32⟩
  | 89 => ⟨S4x16384, .f32⟩
  | 90 => ⟨S4x1x16384, .f32⟩
  | 91 => ⟨S4x1024x16384, .f32⟩
  | 92 => ⟨S4x1024x16384, .f32⟩
  | 93 => ⟨S4x1024x16384, .f32⟩
  | 94 => ⟨S4x1024x32, .f32⟩
  | 95 => ⟨S4x1024x32, .i32⟩
  | 96 => ⟨S_, .i32⟩
  | 97 => ⟨S4x1024x32, .i32⟩
  | 98 => ⟨S4x1024x32, .i1⟩
  | 99 => ⟨S_, .i32⟩
  | 100 => ⟨S4x1024x32, .i32⟩
  | 101 => ⟨S4x1024x32, .i32⟩
  | 102 => ⟨S4x1024x32, .i32⟩
  | 103 => ⟨S4x1024x32x1, .i32⟩
  | 104 => ⟨S4x1024x32x3, .f32⟩
  | 105 => ⟨S4x1024x1x3, .f32⟩
  | 106 => ⟨S4x1024x32x3, .f32⟩
  | 107 => ⟨S4x1024x32x3, .f32⟩
  | 108 => ⟨S4x16384x16, .f32⟩
  | 109 => ⟨S_, .i32⟩
  | 110 => ⟨S4x1024x32, .i32⟩
  | 111 => ⟨S4x1024x32, .i1⟩
  | 112 => ⟨S_, .i32⟩
  | 113 => ⟨S4x1024x32, .i32⟩
  | 114 => ⟨S4x1024x32, .i32⟩
  | 115 => ⟨S4x1024x32, .i32⟩
  | 116 => ⟨S4x1024x32x1, .i32⟩
  | 117 => ⟨S4x1024x32x16, .f32⟩
  | 118 => ⟨S4x1024x32x19, .f32⟩
  | 119 => ⟨S19x32, .f32⟩
  | 120 => ⟨S4x1024x32x32, .f32⟩
  | 121 => ⟨S1x1x1x32, .f32⟩
  | 122 => ⟨S4x1024x32x32, .f32⟩
  | 123 => ⟨S4x1024x32x32, .f32⟩
  | 124 => ⟨S_, .f32⟩
  | 125 => ⟨S4x1024x32x32, .f32⟩
  | 126 => ⟨S4x1024x32x32, .f32⟩
  | 127 => ⟨S32x32, .f32⟩
  | _ => ⟨S4x16384x3, .f32⟩

abbrev hbmTy0_1 (i : Nat) : BufTy := match i % 128 with
  | 0 => ⟨S4x1024x32x32, .f32⟩
  | 1 => ⟨S1x1x1x32, .f32⟩
  | 2 => ⟨S4x1024x32x32, .f32⟩
  | 3 => ⟨S4x1024x32x32, .f32⟩
  | 4 => ⟨S_, .f32⟩
  | 5 => ⟨S4x1024x32x32, .f32⟩
  | 6 => ⟨S4x1024x32x32, .f32⟩
  | 7 => ⟨S32x64, .f32⟩
  | 8 => ⟨S4x1024x32x64, .f32⟩
  | 9 => ⟨S1x1x1x64, .f32⟩
  | 10 => ⟨S4x1024x32x64, .f32⟩
  | 11 => ⟨S4x1024x32x64, .f32⟩
  | 12 => ⟨S_, .f32⟩
  | 13 => ⟨S4x1024x32x64, .f32⟩
  | 14 => ⟨S4x1024x32x64, .f32⟩
  | 15 => ⟨S_, .f32⟩
  | 16 => ⟨S4x1024x64, .f32⟩
  | 17 => ⟨S4x64x1024, .f32⟩
  | _ => ⟨S4x16384x3, .f32⟩

abbrev hbmTy (i : Nat) : BufTy := match i / 128 with
  | 0 => hbmTy0_0 i
  | 1 => hbmTy0_1 i
  | _ => ⟨S4x16384x3, .f32⟩

abbrev bufTy : (tb : Table) → Fin (tcTables nBuf tb) → BufTy
  | .hbm, ⟨i, _⟩ => hbmTy i
  | _, _ => ⟨S4x16384x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_c_1 : Ref sig .tc := ⟨.hbm, 15, rfl⟩
abbrev main_c_2 : Ref sig .tc := ⟨.hbm, 16, rfl⟩
abbrev main_v4_0 : Ref sig .tc := ⟨.hbm, 17, rfl⟩
abbrev main_v4_1 : Ref sig .tc := ⟨.hbm, 18, rfl⟩
abbrev main_v4_2 : Ref sig .tc := ⟨.hbm, 19, rfl⟩
abbrev main_v4_3 : Ref sig .tc := ⟨.hbm, 20, rfl⟩
abbrev main_v4_4 : Ref sig .tc := ⟨.hbm, 21, rfl⟩
abbrev main_v4_5 : Ref sig .tc := ⟨.hbm, 22, rfl⟩
abbrev main_v4_6 : Ref sig .tc := ⟨.hbm, 23, rfl⟩
abbrev main_while0c_c_19 : Ref sig .tc := ⟨.hbm, 24, rfl⟩
abbrev main_while0c_v65 : Ref sig .tc := ⟨.hbm, 25, rfl⟩
abbrev main_while0b_c_19 : Ref sig .tc := ⟨.hbm, 26, rfl⟩
abbrev main_while0b_v65 : Ref sig .tc := ⟨.hbm, 27, rfl⟩
abbrev main_while0b_c_20 : Ref sig .tc := ⟨.hbm, 28, rfl⟩
abbrev main_while0b_v66 : Ref sig .tc := ⟨.hbm, 29, rfl⟩
abbrev main_while0b_c_21 : Ref sig .tc := ⟨.hbm, 30, rfl⟩
abbrev main_while0b_v67 : Ref sig .tc := ⟨.hbm, 31, rfl⟩
abbrev main_while0b_v68 : Ref sig .tc := ⟨.hbm, 32, rfl⟩
abbrev main_while0b_v69 : Ref sig .tc := ⟨.hbm, 33, rfl⟩
abbrev main_while0b_v70 : Ref sig .tc := ⟨.hbm, 34, rfl⟩
abbrev main_while0b_v71 : Ref sig .tc := ⟨.hbm, 35, rfl⟩
abbrev main_while0b_c_22 : Ref sig .tc := ⟨.hbm, 36, rfl⟩
abbrev main_while0b_v72 : Ref sig .tc := ⟨.hbm, 37, rfl⟩
abbrev main_while0b_v73 : Ref sig .tc := ⟨.hbm, 38, rfl⟩
abbrev main_while0b_c_23 : Ref sig .tc := ⟨.hbm, 39, rfl⟩
abbrev main_while0b_v74 : Ref sig .tc := ⟨.hbm, 40, rfl⟩
abbrev main_while0b_v75 : Ref sig .tc := ⟨.hbm, 41, rfl⟩
abbrev main_while0b_v76 : Ref sig .tc := ⟨.hbm, 42, rfl⟩
abbrev main_while0b_c_24 : Ref sig .tc := ⟨.hbm, 43, rfl⟩
abbrev main_while0b_v77 : Ref sig .tc := ⟨.hbm, 44, rfl⟩
abbrev main_while0b_v78 : Ref sig .tc := ⟨.hbm, 45, rfl⟩
abbrev main_while0b_c_25 : Ref sig .tc := ⟨.hbm, 46, rfl⟩
abbrev main_while0b_v79 : Ref sig .tc := ⟨.hbm, 47, rfl⟩
abbrev main_while0b_v80 : Ref sig .tc := ⟨.hbm, 48, rfl⟩
abbrev main_while0b_v81 : Ref sig .tc := ⟨.hbm, 49, rfl⟩
abbrev main_while0b_v82 : Ref sig .tc := ⟨.hbm, 50, rfl⟩
abbrev main_while0b_v83 : Ref sig .tc := ⟨.hbm, 51, rfl⟩
abbrev main_while0b_v84 : Ref sig .tc := ⟨.hbm, 52, rfl⟩
abbrev main_while0b_v85 : Ref sig .tc := ⟨.hbm, 53, rfl⟩
abbrev main_while0b_v86 : Ref sig .tc := ⟨.hbm, 54, rfl⟩
abbrev main_while0b_v87 : Ref sig .tc := ⟨.hbm, 55, rfl⟩
abbrev main_while0b_v88 : Ref sig .tc := ⟨.hbm, 56, rfl⟩
abbrev main_while0b_v89 : Ref sig .tc := ⟨.hbm, 57, rfl⟩
abbrev main_while0b_cst_26 : Ref sig .tc := ⟨.hbm, 58, rfl⟩
abbrev main_while0b_v90 : Ref sig .tc := ⟨.hbm, 59, rfl⟩
abbrev main_while0b_v91 : Ref sig .tc := ⟨.hbm, 60, rfl⟩
abbrev main_while0b_call0_v0 : Ref sig .tc := ⟨.hbm, 61, rfl⟩
abbrev main_while0b_call0_cst : Ref sig .tc := ⟨.hbm, 62, rfl⟩
abbrev main_while0b_call0_c : Ref sig .tc := ⟨.hbm, 63, rfl⟩
abbrev main_while0b_call0_v1_0 : Ref sig .tc := ⟨.hbm, 64, rfl⟩
abbrev main_while0b_v92 : Ref sig .tc := ⟨.hbm, 65, rfl⟩
abbrev main_while0b_c_27 : Ref sig .tc := ⟨.hbm, 66, rfl⟩
abbrev main_while0b_v93 : Ref sig .tc := ⟨.hbm, 67, rfl⟩
abbrev main_c_3 : Ref sig .tc := ⟨.hbm, 68, rfl⟩
abbrev main_v5 : Ref sig .tc := ⟨.hbm, 69, rfl⟩
abbrev main_v6 : Ref sig .tc := ⟨.hbm, 70, rfl⟩
abbrev main_c_4 : Ref sig .tc := ⟨.hbm, 71, rfl⟩
abbrev main_v7 : Ref sig .tc := ⟨.hbm, 72, rfl⟩
abbrev main_v8 : Ref sig .tc := ⟨.hbm, 73, rfl⟩
abbrev main_v9 : Ref sig .tc := ⟨.hbm, 74, rfl⟩
abbrev main_v10 : Ref sig .tc := ⟨.hbm, 75, rfl⟩
abbrev main_v11 : Ref sig .tc := ⟨.hbm, 76, rfl⟩
abbrev main_v12 : Ref sig .tc := ⟨.hbm, 77, rfl⟩
abbrev main_cst_5 : Ref sig .tc := ⟨.hbm, 78, rfl⟩
abbrev main_v13 : Ref sig .tc := ⟨.hbm, 79, rfl⟩
abbrev main_v14 : Ref sig .tc := ⟨.hbm, 80, rfl⟩
abbrev main_v15 : Ref sig .tc := ⟨.hbm, 81, rfl⟩
abbrev main_cst_6 : Ref sig .tc := ⟨.hbm, 82, rfl⟩
abbrev main_v16 : Ref sig .tc := ⟨.hbm, 83, rfl⟩
abbrev main_v17 : Ref sig .tc := ⟨.hbm, 84, rfl⟩
abbrev main_v18 : Ref sig .tc := ⟨.hbm, 85, rfl⟩
abbrev main_v19 : Ref sig .tc := ⟨.hbm, 86, rfl⟩
abbrev main_v20 : Ref sig .tc := ⟨.hbm, 87, rfl⟩
abbrev main_cst_7 : Ref sig .tc := ⟨.hbm, 88, rfl⟩
abbrev main_v21 : Ref sig .tc := ⟨.hbm, 89, rfl⟩
abbrev main_v22 : Ref sig .tc := ⟨.hbm, 90, rfl⟩
abbrev main_v23 : Ref sig .tc := ⟨.hbm, 91, rfl⟩
abbrev main_v24 : Ref sig .tc := ⟨.hbm, 92, rfl⟩
abbrev main_v25 : Ref sig .tc := ⟨.hbm, 93, rfl⟩
abbrev main_values : Ref sig .tc := ⟨.hbm, 94, rfl⟩
abbrev main_indices : Ref sig .tc := ⟨.hbm, 95, rfl⟩
abbrev main_c_8 : Ref sig .tc := ⟨.hbm, 96, rfl⟩
abbrev main_v26 : Ref sig .tc := ⟨.hbm, 97, rfl⟩
abbrev main_v27 : Ref sig .tc := ⟨.hbm, 98, rfl⟩
abbrev main_c_9 : Ref sig .tc := ⟨.hbm, 99, rfl⟩
abbrev main_v28 : Ref sig .tc := ⟨.hbm, 100, rfl⟩
abbrev main_v29 : Ref sig .tc := ⟨.hbm, 101, rfl⟩
abbrev main_v30 : Ref sig .tc := ⟨.hbm, 102, rfl⟩
abbrev main_v31 : Ref sig .tc := ⟨.hbm, 103, rfl⟩
abbrev main_v32 : Ref sig .tc := ⟨.hbm, 104, rfl⟩
abbrev main_v33 : Ref sig .tc := ⟨.hbm, 105, rfl⟩
abbrev main_v34 : Ref sig .tc := ⟨.hbm, 106, rfl⟩
abbrev main_v35 : Ref sig .tc := ⟨.hbm, 107, rfl⟩
abbrev main_v36 : Ref sig .tc := ⟨.hbm, 108, rfl⟩
abbrev main_c_10 : Ref sig .tc := ⟨.hbm, 109, rfl⟩
abbrev main_v37 : Ref sig .tc := ⟨.hbm, 110, rfl⟩
abbrev main_v38 : Ref sig .tc := ⟨.hbm, 111, rfl⟩
abbrev main_c_11 : Ref sig .tc := ⟨.hbm, 112, rfl⟩
abbrev main_v39 : Ref sig .tc := ⟨.hbm, 113, rfl⟩
abbrev main_v40 : Ref sig .tc := ⟨.hbm, 114, rfl⟩
abbrev main_v41 : Ref sig .tc := ⟨.hbm, 115, rfl⟩
abbrev main_v42 : Ref sig .tc := ⟨.hbm, 116, rfl⟩
abbrev main_v43 : Ref sig .tc := ⟨.hbm, 117, rfl⟩
abbrev main_v44 : Ref sig .tc := ⟨.hbm, 118, rfl⟩
abbrev main_v45 : Ref sig .tc := ⟨.hbm, 119, rfl⟩
abbrev main_v46 : Ref sig .tc := ⟨.hbm, 120, rfl⟩
abbrev main_v47 : Ref sig .tc := ⟨.hbm, 121, rfl⟩
abbrev main_v48 : Ref sig .tc := ⟨.hbm, 122, rfl⟩
abbrev main_v49 : Ref sig .tc := ⟨.hbm, 123, rfl⟩
abbrev main_call1_cst : Ref sig .tc := ⟨.hbm, 124, rfl⟩
abbrev main_call1_v0 : Ref sig .tc := ⟨.hbm, 125, rfl⟩
abbrev main_v50 : Ref sig .tc := ⟨.hbm, 126, rfl⟩
abbrev main_v51 : Ref sig .tc := ⟨.hbm, 127, rfl⟩
abbrev main_v52 : Ref sig .tc := ⟨.hbm, 128, rfl⟩
abbrev main_v53 : Ref sig .tc := ⟨.hbm, 129, rfl⟩
abbrev main_v54 : Ref sig .tc := ⟨.hbm, 130, rfl⟩
abbrev main_v55 : Ref sig .tc := ⟨.hbm, 131, rfl⟩
abbrev main_call2_cst : Ref sig .tc := ⟨.hbm, 132, rfl⟩
abbrev main_call2_v0 : Ref sig .tc := ⟨.hbm, 133, rfl⟩
abbrev main_v56 : Ref sig .tc := ⟨.hbm, 134, rfl⟩
abbrev main_v57 : Ref sig .tc := ⟨.hbm, 135, rfl⟩
abbrev main_v58 : Ref sig .tc := ⟨.hbm, 136, rfl⟩
abbrev main_v59 : Ref sig .tc := ⟨.hbm, 137, rfl⟩
abbrev main_v60 : Ref sig .tc := ⟨.hbm, 138, rfl⟩
abbrev main_v61 : Ref sig .tc := ⟨.hbm, 139, rfl⟩
abbrev main_call3_cst : Ref sig .tc := ⟨.hbm, 140, rfl⟩
abbrev main_call3_v0 : Ref sig .tc := ⟨.hbm, 141, rfl⟩
abbrev main_v62 : Ref sig .tc := ⟨.hbm, 142, rfl⟩
abbrev main_cst_12 : Ref sig .tc := ⟨.hbm, 143, rfl⟩
abbrev main_v63 : Ref sig .tc := ⟨.hbm, 144, rfl⟩
abbrev main_v64 : Ref sig .tc := ⟨.hbm, 145, rfl⟩

abbrev nD : Nat := 1
abbrev τ : Topo := Topo.v7x

variable {F : FTy → Type} [FloatOps F]

abbrev main_while0_count : Scf.Loop 32 := ⟨0#32, 1024#32, 1#32⟩
-- ==== Proof.KernelRun.lean ====
/- The kernel program's run: every buffer at the end of @main is what the last boundary's fold says. -/
module

public import proofs.«01_k».proof.Proof.Gen.KernelIdeal.Frame

@[expose] public section

set_option maxRecDepth 16384

noncomputable section

namespace Cert.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ

variable (m : (ℓ : Loc nD τ sig) → Buf (Elt F) ℓ) (ρ : Dev nD → PrngReg)

/-- Every fair execution of the kernel program ends; the two results are at the last boundary's fold and the arguments as
    they were. -/
theorem run : θ_run defs (onTc (τ := τ) (main (F := F))) ⟨m, fun _ => 0, ρ⟩ (fun r => ∀ c : Dev nD,
      r.2.mem ((c.tc : Thread nD τ).loc main_v17) = W7 m ρ c (Proc.devRef .tc main_v17)
      ∧ r.2.mem ((c.tc : Thread nD τ).loc main_v55) = W7 m ρ c (Proc.devRef .tc main_v55)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => fun c =>
      ⟨h c _ (mem_uc main_v17 (by decide)), h c _ (mem_uc main_v55 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c)⟩)

end Cert.KernelRun
-- ==== Proof.StageOps.lean ====
/- One bitonic stage on a matrix of columns, as the kernel spells it with reshapes, slices and selects: entry by entry, and as
   an exchange network on every column that moves the companions along with the keys. -/
module

public import Idealize.ShloMosaic.PureOps.ShapeOps
public import Idealize.ShloMosaic.PureOps.Vector
public import Idealize.ShloMosaic.PureOps.Ideal.Laws
public import Idealize.ShloMosaic.Lib.ValueIdx
public import Idealize.ShloMosaic.Lib.ValueLayout
public import Idealize.ShloMosaic.Lib.Pipeline.Value
public import Idealize.ShloMosaic.Lib.SortNet.Ascending

@[expose] public section

noncomputable section

namespace Cert.StageOps

open Idealize.ShloMosaic Idealize.ShloMosaic.ValueIdx Idealize.ShloMosaic.SortNet

/-- `M` rows of 128 columns. -/
abbrev sh2 (M : ℕ) : Shape := ⟨2, ![M, 128]⟩
/-- `n` blocks of `j` rows. -/
abbrev sh3 (n j : ℕ) : Shape := ⟨3, ![n, j, 128]⟩
/-- `n` blocks of `h` halves of `j` rows. -/
abbrev sh4 (n h j : ℕ) : Shape := ⟨4, ![n, h, j, 128]⟩

/-- The shapes of a stage fit. -/
structure Geo (n j M : ℕ) : Prop where
  split : (sh2 M).ShapeCasts (sh4 n 2 j)
  low : (sh4 n 2 j).Slices ![0, 0, 0, 0] (sh4 n 1 j)
  high : (sh4 n 2 j).Slices ![0, 1, 0, 0] (sh4 n 1 j)
  drop : (sh4 n 1 j).ShapeCasts (sh3 n j)
  add : (sh3 n j).ShapeCasts (sh4 n 1 j)
  cat : Shape.Concatenates [sh4 n 1 j, sh4 n 1 j] (sh4 n 2 j) 1
  glue : (sh4 n 2 j).ShapeCasts (sh2 M)
  rows : n * (2 * j) = M

variable {n j M : ℕ} {α : Type}

/-- The first halves of the blocks. -/
def lows (g : Geo n j M) (v : (sh2 M).Idx → α) : (sh3 n j).Idx → α :=
  shapeCast (sh3 n j) (extractStridedSlice (sh4 n 1 j) ![0, 0, 0, 0] (shapeCast (sh4 n 2 j) v g.split) g.low) g.drop

/-- The second halves. -/
def highs (g : Geo n j M) (v : (sh2 M).Idx → α) : (sh3 n j).Idx → α :=
  shapeCast (sh3 n j) (extractStridedSlice (sh4 n 1 j) ![0, 1, 0, 0] (shapeCast (sh4 n 2 j) v g.split) g.high) g.drop

/-- The halves chosen by `c`, put together again. -/
def join (g : Geo n j M) (c : IVec (sh3 n j) 1) (a b : (sh3 n j).Idx → α) : (sh2 M).Idx → α :=
  shapeCast (sh2 M) (concatenate (sh4 n 2 j) 1 [⟨sh4 n 1 j, shapeCast (sh4 n 1 j) (select c a b) g.add⟩,
    ⟨sh4 n 1 j, shapeCast (sh4 n 1 j) (select c b a) g.add⟩] g.cat) g.glue

/-- The row of place `r` in block `q`'s first half. -/
def lowRow (g : Geo n j M) (q : Fin n) (r : Fin j) : Fin M := ⟨q.val * (2 * j) + r.val, by
  have := g.rows; have := r.isLt
  calc q.val * (2 * j) + r.val < (q.val + 1) * (2 * j) := by rw [Nat.add_mul, Nat.one_mul]; omega
    _ ≤ n * (2 * j) := Nat.mul_le_mul_right _ q.isLt
    _ = M := g.rows⟩
/-- The row of place `r` in its second half. -/
def highRow (g : Geo n j M) (q : Fin n) (r : Fin j) : Fin M := ⟨q.val * (2 * j) + j + r.val, by
  have := r.isLt
  calc q.val * (2 * j) + j + r.val < (q.val + 1) * (2 * j) := by rw [Nat.add_mul, Nat.one_mul]; omega
    _ ≤ n * (2 * j) := Nat.mul_le_mul_right _ q.isLt
    _ = M := g.rows⟩

/-- Every row is one of the two. -/
theorem row_cases (g : Geo n j M) (i : Fin M) : (∃ q r, i = lowRow g q r) ∨ ∃ q r, i = highRow g q r := by
  have hi := i.isLt
  have hr := g.rows
  have hj : 0 < 2 * j := Nat.pos_of_ne_zero fun h => by rw [h, Nat.mul_zero] at hr; omega
  have hq : i.val / (2 * j) < n := (Nat.div_lt_iff_lt_mul hj).2 (by omega)
  have hm := Nat.mod_lt i.val hj
  have hd := Nat.div_add_mod' i.val (2 * j)
  by_cases h : i.val % (2 * j) < j
  · exact Or.inl ⟨⟨_, hq⟩, ⟨_, h⟩, Fin.ext (by show i.val = i.val / (2 * j) * (2 * j) + i.val % (2 * j); omega)⟩
  · exact Or.inr ⟨⟨_, hq⟩, ⟨i.val % (2 * j) - j, by omega⟩, Fin.ext (by
      show i.val = i.val / (2 * j) * (2 * j) + j + (i.val % (2 * j) - j); omega)⟩

theorem lows_apply (g : Geo n j M) (v : (sh2 M).Idx → α) (q : Fin n) (r : Fin j) (l : Fin 128) :
    lows g v (ix3 q r l) = v (ix2 (lowRow g q r) l) := by
  refine (shapeCast_apply _ _ _ (ix4 q (0 : Fin 1) r l) ?_).trans ?_
  · refine (Shape.rowMajor_val_four _).trans ((?_ : _ = _).trans (Shape.rowMajor_val_three _).symm)
    show ((q.val * 1 + 0) * j + r.val) * 128 + l.val = (q.val * j + r.val) * 128 + l.val
    rw [Nat.mul_one, Nat.add_zero]
  refine (extractStridedSlice_apply _ _ _ _ (ix4 q (0 : Fin 2) r l) fun a => by
    fin_cases a
    · exact (Nat.zero_add _).symm
    · rfl
    · exact (Nat.zero_add _).symm
    · exact (Nat.zero_add _).symm).trans ?_
  refine shapeCast_apply _ _ _ (ix2 (lowRow g q r) l) ?_
  refine (Shape.rowMajor_val_two _).trans ((?_ : _ = _).trans (Shape.rowMajor_val_four _).symm)
  show (q.val * (2 * j) + r.val) * 128 + l.val = ((q.val * 2 + 0) * j + r.val) * 128 + l.val
  rw [Nat.add_zero, Nat.mul_assoc q.val 2 j]

theorem highs_apply (g : Geo n j M) (v : (sh2 M).Idx → α) (q : Fin n) (r : Fin j) (l : Fin 128) :
    highs g v (ix3 q r l) = v (ix2 (highRow g q r) l) := by
  refine (shapeCast_apply _ _ _ (ix4 q (0 : Fin 1) r l) ?_).trans ?_
  · refine (Shape.rowMajor_val_four _).trans ((?_ : _ = _).trans (Shape.rowMajor_val_three _).symm)
    show ((q.val * 1 + 0) * j + r.val) * 128 + l.val = (q.val * j + r.val) * 128 + l.val
    rw [Nat.mul_one, Nat.add_zero]
  refine (extractStridedSlice_apply _ _ _ _ (ix4 q (1 : Fin 2) r l) fun a => by
    fin_cases a
    · exact (Nat.zero_add _).symm
    · rfl
    · exact (Nat.zero_add _).symm
    · exact (Nat.zero_add _).symm).trans ?_
  refine shapeCast_apply _ _ _ (ix2 (highRow g q r) l) ?_
  refine (Shape.rowMajor_val_two _).trans ((?_ : _ = _).trans (Shape.rowMajor_val_four _).symm)
  show (q.val * (2 * j) + j + r.val) * 128 + l.val = ((q.val * 2 + 1) * j + r.val) * 128 + l.val
  rw [Nat.add_mul (q.val * 2) 1 j, Nat.one_mul, Nat.mul_assoc q.val 2 j]

theorem added_apply (g : Geo n j M) (a : (sh3 n j).Idx → α) (q : Fin n) (r : Fin j) (l : Fin 128) :
    shapeCast (sh4 n 1 j) a g.add (ix4 q (0 : Fin 1) r l) = a (ix3 q r l) := by
  refine shapeCast_apply _ _ _ (ix3 q r l) ?_
  refine (Shape.rowMajor_val_three _).trans ((?_ : _ = _).trans (Shape.rowMajor_val_four _).symm)
  show (q.val * j + r.val) * 128 + l.val = ((q.val * 1 + 0) * j + r.val) * 128 + l.val
  rw [Nat.mul_one, Nat.add_zero]

theorem join_low (g : Geo n j M) (c : IVec (sh3 n j) 1) (a b : (sh3 n j).Idx → α) (q : Fin n) (r : Fin j) (l : Fin 128) :
    join g c a b (ix2 (lowRow g q r) l) = if c (ix3 q r l) = 1#1 then a (ix3 q r l) else b (ix3 q r l) := by
  refine (shapeCast_apply _ _ _ (ix4 q (0 : Fin 2) r l) ?_).trans ?_
  · refine (Shape.rowMajor_val_four _).trans ((?_ : _ = _).trans (Shape.rowMajor_val_two _).symm)
    show ((q.val * 2 + 0) * j + r.val) * 128 + l.val = (q.val * (2 * j) + r.val) * 128 + l.val
    rw [Nat.add_zero, Nat.mul_assoc q.val 2 j]
  refine (concatenate_pair_apply_left (t := sh4 n 2 j) (s₁ := sh4 n 1 j) (s₂ := sh4 n 1 j) 1 _ _ _ _ rfl (ix4 q (0 : Fin 1) r l) fun x => by
    fin_cases x <;> rfl).trans ?_
  exact added_apply g _ q r l

theorem join_high (g : Geo n j M) (c : IVec (sh3 n j) 1) (a b : (sh3 n j).Idx → α) (q : Fin n) (r : Fin j) (l : Fin 128) :
    join g c a b (ix2 (highRow g q r) l) = if c (ix3 q r l) = 1#1 then b (ix3 q r l) else a (ix3 q r l) := by
  refine (shapeCast_apply _ _ _ (ix4 q (1 : Fin 2) r l) ?_).trans ?_
  · refine (Shape.rowMajor_val_four _).trans ((?_ : _ = _).trans (Shape.rowMajor_val_two _).symm)
    show ((q.val * 2 + 1) * j + r.val) * 128 + l.val = (q.val * (2 * j) + j + r.val) * 128 + l.val
    rw [Nat.add_mul (q.val * 2) 1 j, Nat.one_mul, Nat.mul_assoc q.val 2 j]
  refine (concatenate_pair_apply_right (t := sh4 n 2 j) (s₁ := sh4 n 1 j) (s₂ := sh4 n 1 j) 1 _ _ _ _ rfl rfl (ix4 q (0 : Fin 1) r l)
    (fun x hx => by
      fin_cases x
      · rfl
      · exact absurd rfl hx
      · rfl
      · rfl) rfl).trans ?_
  exact added_apply g _ q r l

/-- Keys and their companions. -/
abbrev Pairs (M : ℕ) := FVec Ideal (sh2 M) .f32 × IVec (sh2 M) 32

/-- A stage: `cond` compares the halves of the keys, and keys and companions are put together by it. -/
def step (g : Geo n j M) (cond : FVec Ideal (sh3 n j) .f32 → FVec Ideal (sh3 n j) .f32 → IVec (sh3 n j) 1) (p : Pairs M) : Pairs M :=
  (join g (cond (lows g p.1) (highs g p.1)) (lows g p.1) (highs g p.1), join g (cond (lows g p.1) (highs g p.1)) (lows g p.2) (highs g p.2))

/-- Column `l` of the keys. -/
def keys (p : Pairs M) (l : Fin 128) : Fin M → EReal := fun i => p.1 (ix2 i l)

/-- `p'` is `p` with the rows of column `l` rearranged. -/
def Moved (l : Fin 128) (p p' : Pairs M) : Prop :=
  ∃ σ : Equiv.Perm (Fin M), ∀ i, p'.1 (ix2 i l) = p.1 (ix2 (σ i) l) ∧ p'.2 (ix2 i l) = p.2 (ix2 (σ i) l)

theorem Moved.trans {l : Fin 128} {p p' p'' : Pairs M} (h : Moved l p p') (h' : Moved l p' p'') : Moved l p p'' := by
  obtain ⟨σ, hσ⟩ := h
  obtain ⟨τ, hτ⟩ := h'
  exact ⟨τ.trans σ, fun i => ⟨(hτ i).1.trans (hσ (τ i)).1, (hτ i).2.trans (hσ (τ i)).2⟩⟩

/-- The comparison puts the greater key first where `w` says so, and the smaller first elsewhere. -/
def Puts (g : Geo n j M) (w : Fin M → Bool) (cond : FVec Ideal (sh3 n j) .f32 → FVec Ideal (sh3 n j) .f32 → IVec (sh3 n j) 1) : Prop :=
  ∀ a b q r l, if w (lowRow g q r) then (cond a b (ix3 q r l) = 1#1 → b (ix3 q r l) ≤ (a (ix3 q r l) : EReal)) ∧ (cond a b (ix3 q r l) ≠ 1#1 → a (ix3 q r l) ≤ (b (ix3 q r l) : EReal))
    else (cond a b (ix3 q r l) = 1#1 → a (ix3 q r l) ≤ (b (ix3 q r l) : EReal)) ∧ (cond a b (ix3 q r l) ≠ 1#1 → b (ix3 q r l) ≤ (a (ix3 q r l) : EReal))

section Network

variable {p s : ℕ}

theorem low_and (g : Geo n (2 ^ s) (2 ^ p)) (q : Fin n) (r : Fin (2 ^ s)) : (lowRow g q r).val &&& 2 ^ s = 0 := by
  have e : (lowRow g q r).val = 2 ^ (s + 1) * q.val + r.val := by
    show q.val * (2 * 2 ^ s) + r.val = _; rw [Nat.pow_succ]; ring
  rw [e]
  apply Nat.eq_of_testBit_eq
  intro t
  rw [Nat.testBit_and, Nat.testBit_two_pow, Nat.zero_testBit]
  by_cases h : s = t
  · subst h
    rw [Nat.testBit_two_pow_mul_add _ (lt_of_lt_of_le r.isLt (Nat.pow_le_pow_right (by decide) (Nat.le_succ s))), if_pos (Nat.lt_succ_self s),
      Nat.testBit_lt_two_pow r.isLt, Bool.false_and]
  · rw [decide_eq_false h, Bool.and_false]

theorem partner_low (hs : s < p) (g : Geo n (2 ^ s) (2 ^ p)) (q : Fin n) (r : Fin (2 ^ s)) : partner p s (lowRow g q r) = highRow g q r :=
  Fin.ext (by
    rw [partner_val_of_clear hs _ (low_and g q r)]
    show q.val * (2 * 2 ^ s) + r.val + 2 ^ s = q.val * (2 * 2 ^ s) + 2 ^ s + r.val
    omega)

/-- A stage is the network's stage on the keys of every column. -/
theorem keys_step (hs : s < p) (g : Geo n (2 ^ s) (2 ^ p)) (w : Fin (2 ^ p) → Bool)
    (cond : FVec Ideal (sh3 n (2 ^ s)) .f32 → FVec Ideal (sh3 n (2 ^ s)) .f32 → IVec (sh3 n (2 ^ s)) 1) (hc : Puts g w cond)
    (P : Pairs (2 ^ p)) (l : Fin 128) : keys (step g cond P) l = Network.apply (stage p s w) (keys P l) := by
  funext i
  have key (q : Fin n) (r : Fin (2 ^ s)) := hc (lows g P.1) (highs g P.1) q r l
  rcases row_cases g i with ⟨q, r, rfl⟩ | ⟨q, r, rfl⟩
  · rw [(apply_stage hs w _ _ (low_and g q r)).1, partner_low hs g]
    show join g _ _ _ _ = _
    rw [join_low]
    have h := key q r
    rw [lows_apply, highs_apply] at *
    cases hw : w (lowRow g q r)
    · rw [hw, if_neg (by decide)] at h
      rw [if_neg (c := (false = true)) Bool.false_ne_true]
      split
      · next hq => exact (min_eq_left (h.1 hq)).symm
      · next hq => exact (min_eq_right (h.2 hq)).symm
    · rw [hw, if_pos rfl] at h
      rw [if_pos (c := (true = true)) rfl]
      split
      · next hq => exact (max_eq_left (h.1 hq)).symm
      · next hq => exact (max_eq_right (h.2 hq)).symm
  · rw [← partner_low hs g, (apply_stage hs w _ _ (low_and g q r)).2, partner_low hs g]
    show join g _ _ _ _ = _
    rw [join_high]
    have h := key q r
    rw [lows_apply, highs_apply] at *
    cases hw : w (lowRow g q r)
    · rw [hw, if_neg (by decide)] at h
      rw [if_neg (c := (false = true)) Bool.false_ne_true]
      split
      · next hq => exact (max_eq_right (h.1 hq)).symm
      · next hq => exact (max_eq_left (h.2 hq)).symm
    · rw [hw, if_pos rfl] at h
      rw [if_pos (c := (true = true)) rfl]
      split
      · next hq => exact (min_eq_right (h.1 hq)).symm
      · next hq => exact (min_eq_left (h.2 hq)).symm

/-- The row a stage reads at row `i` of column `l`. -/
def src (g : Geo n (2 ^ s) (2 ^ p)) (c : IVec (sh3 n (2 ^ s)) 1) (l : Fin 128) (i : Fin (2 ^ p)) : Fin (2 ^ p) :=
  if ∃ q r, (i = lowRow g q r ∨ i = highRow g q r) ∧ c (ix3 q r l) ≠ 1#1 then partner p s i else i

theorem row_inj (hs : s < p) (g : Geo n (2 ^ s) (2 ^ p)) {q q' : Fin n} {r r' : Fin (2 ^ s)} (h : lowRow g q r = lowRow g q' r') : q = q' ∧ r = r' := by
  have e : q.val * (2 * 2 ^ s) + r.val = q'.val * (2 * 2 ^ s) + r'.val := congrArg Fin.val h
  have h1 := r.isLt
  have h2 := r'.isLt
  have eq : q.val = q'.val := by
    have a := congrArg (· / (2 * 2 ^ s)) e
    rw [Nat.mul_comm q.val, Nat.mul_comm q'.val, Nat.mul_add_div (by omega), Nat.mul_add_div (by omega), Nat.div_eq_of_lt (by omega), Nat.div_eq_of_lt (by omega)] at a
    simpa using a
  rw [eq] at e
  exact ⟨Fin.ext eq, Fin.ext (by omega)⟩

theorem row_ne (hs : s < p) (g : Geo n (2 ^ s) (2 ^ p)) (q q' : Fin n) (r r' : Fin (2 ^ s)) : lowRow g q r ≠ highRow g q' r' := by
  rw [← partner_low hs g]
  exact fun e => partner_ne hs _ _ (low_and g q' r') (low_and g q r) e.symm

theorem src_low (hs : s < p) (g : Geo n (2 ^ s) (2 ^ p)) (c : IVec (sh3 n (2 ^ s)) 1) (l : Fin 128) (q : Fin n) (r : Fin (2 ^ s)) :
    src g c l (lowRow g q r) = if c (ix3 q r l) = 1#1 then lowRow g q r else highRow g q r := by
  unfold src
  rw [partner_low hs g]
  by_cases h : c (ix3 q r l) = 1#1
  · rw [if_pos h, if_neg]
    rintro ⟨q', r', e | e, hn⟩
    · obtain ⟨rfl, rfl⟩ := row_inj hs g e; exact hn h
    · exact row_ne hs g _ _ _ _ e
  · rw [if_neg h, if_pos ⟨q, r, Or.inl rfl, h⟩]

theorem src_high (hs : s < p) (g : Geo n (2 ^ s) (2 ^ p)) (c : IVec (sh3 n (2 ^ s)) 1) (l : Fin 128) (q : Fin n) (r : Fin (2 ^ s)) :
    src g c l (highRow g q r) = if c (ix3 q r l) = 1#1 then highRow g q r else lowRow g q r := by
  unfold src
  have hp : partner p s (highRow g q r) = lowRow g q r := by rw [← partner_low hs g, partner_partner hs]
  rw [hp]
  by_cases h : c (ix3 q r l) = 1#1
  · rw [if_pos h, if_neg]
    rintro ⟨q', r', e | e, hn⟩
    · exact row_ne hs g _ _ _ _ e.symm
    · rw [← partner_low hs g, ← partner_low hs g] at e
      obtain ⟨rfl, rfl⟩ := row_inj hs g (partner_injective hs e); exact hn h
  · rw [if_neg h, if_pos ⟨q, r, Or.inr rfl, h⟩]

theorem src_src (hs : s < p) (g : Geo n (2 ^ s) (2 ^ p)) (c : IVec (sh3 n (2 ^ s)) 1) (l : Fin 128) : Function.Involutive (src g c l) := by
  intro i
  rcases row_cases g i with ⟨q, r, rfl⟩ | ⟨q, r, rfl⟩
  · rw [src_low hs g]
    split
    · next h => rw [src_low hs g, if_pos h]
    · next h => rw [src_high hs g, if_neg h]
  · rw [src_high hs g]
    split
    · next h => rw [src_high hs g, if_pos h]
    · next h => rw [src_low hs g, if_neg h]

theorem join_src (hs : s < p) (g : Geo n (2 ^ s) (2 ^ p)) (c : IVec (sh3 n (2 ^ s)) 1) (v : (sh2 (2 ^ p)).Idx → α) (l : Fin 128) (i : Fin (2 ^ p)) :
    join g c (lows g v) (highs g v) (ix2 i l) = v (ix2 (src g c l i) l) := by
  rcases row_cases g i with ⟨q, r, rfl⟩ | ⟨q, r, rfl⟩
  · rw [join_low, src_low hs g, lows_apply, highs_apply]; split <;> rfl
  · rw [join_high, src_high hs g, lows_apply, highs_apply]; split <;> rfl

/-- A stage rearranges the rows of every column, companions with keys. -/
theorem moved_step (hs : s < p) (g : Geo n (2 ^ s) (2 ^ p))
    (cond : FVec Ideal (sh3 n (2 ^ s)) .f32 → FVec Ideal (sh3 n (2 ^ s)) .f32 → IVec (sh3 n (2 ^ s)) 1)
    (P : Pairs (2 ^ p)) (l : Fin 128) : Moved l P (step g cond P) :=
  ⟨(src_src hs g (cond (lows g P.1) (highs g P.1)) l).toPerm, fun i => ⟨join_src hs g _ _ l i, join_src hs g _ _ l i⟩⟩

end Network

end Cert.StageOps
-- ==== Proof.KnnTrip.lean ====
/- The neighbour kernel's chunk step: fifteen stages sort the chunk downwards, six merge it into the running nearest. -/
module

public import proofs.«01_k».proof.Proof.Gen.KernelIdeal.Frame
public import proofs.«01_k».proof.Proof.StageOps

@[expose] public section

set_option maxRecDepth 65536

noncomputable section

namespace Cert.KnnTrip

open Cert.KernelIdeal Cert.KernelIdeal.Gen Cert.StageOps
open Idealize.ShloMosaic
open Idealize.ShloMosaic.ValueIdx

/-- The bit of the block number that turns a block of a stage around. -/
def flag (n : ℕ) (h : (sh3 n 1).Iotas .tc 32 [0]) (w k : BitVec 32) : IVec (sh3 n 1) 1 :=
  cmpi .ne (andi (muli (iota .tc (sh3 n 1) 32 [0] h) (broadcast (sh3 n 1) w)) (broadcast (sh3 n 1) k)) (broadcast (sh3 n 1) 0#32)

/-- Compare, turned by a flag. -/
def turned {n j : ℕ} (f : IVec (sh3 n j) 1) (a b : FVec Ideal (sh3 n j) .f32) : IVec (sh3 n j) 1 :=
  xori (xori (cmpf .ole a b) f) (constantI (sh3 n j) 1 1#1)

/-- The greater first. -/
def down {n j : ℕ} (a b : FVec Ideal (sh3 n j) .f32) : IVec (sh3 n j) 1 := cmpf .ole b a
/-- The smaller first. -/
def up {n j : ℕ} (a b : FVec Ideal (sh3 n j) .f32) : IVec (sh3 n j) 1 := cmpf .ole a b

theorem geo16_1 : Geo 16 1 32 :=
  ⟨shapeCasts_S32x128_S16x2x1x128, slices_S16x2x1x128_o0_0_0_0_S16x1x1x128, slices_S16x2x1x128_o0_1_0_0_S16x1x1x128, shapeCasts_S16x1x1x128_S16x1x128,
    shapeCasts_S16x1x128_S16x1x1x128, concatenates_S16x1x1x128_S16x1x1x128_S16x2x1x128_d1, shapeCasts_S16x2x1x128_S32x128, rfl⟩
theorem geo8_2 : Geo 8 2 32 :=
  ⟨shapeCasts_S32x128_S8x2x2x128, slices_S8x2x2x128_o0_0_0_0_S8x1x2x128, slices_S8x2x2x128_o0_1_0_0_S8x1x2x128, shapeCasts_S8x1x2x128_S8x2x128,
    shapeCasts_S8x2x128_S8x1x2x128, concatenates_S8x1x2x128_S8x1x2x128_S8x2x2x128_d1, shapeCasts_S8x2x2x128_S32x128, rfl⟩
theorem geo4_4 : Geo 4 4 32 :=
  ⟨shapeCasts_S32x128_S4x2x4x128, slices_S4x2x4x128_o0_0_0_0_S4x1x4x128, slices_S4x2x4x128_o0_1_0_0_S4x1x4x128, shapeCasts_S4x1x4x128_S4x4x128,
    shapeCasts_S4x4x128_S4x1x4x128, concatenates_S4x1x4x128_S4x1x4x128_S4x2x4x128_d1, shapeCasts_S4x2x4x128_S32x128, rfl⟩
theorem geo2_8 : Geo 2 8 32 :=
  ⟨shapeCasts_S32x128_S2x2x8x128, slices_S2x2x8x128_o0_0_0_0_S2x1x8x128, slices_S2x2x8x128_o0_1_0_0_S2x1x8x128, shapeCasts_S2x1x8x128_S2x8x128,
    shapeCasts_S2x8x128_S2x1x8x128, concatenates_S2x1x8x128_S2x1x8x128_S2x2x8x128_d1, shapeCasts_S2x2x8x128_S32x128, rfl⟩
theorem geo1_16 : Geo 1 16 32 :=
  ⟨shapeCasts_S32x128_S1x2x16x128, slices_S1x2x16x128_o0_0_0_0_S1x1x16x128, slices_S1x2x16x128_o0_1_0_0_S1x1x16x128, shapeCasts_S1x1x16x128_S1x16x128,
    shapeCasts_S1x16x128_S1x1x16x128, concatenates_S1x1x16x128_S1x1x16x128_S1x2x16x128_d1, shapeCasts_S1x2x16x128_S32x128, rfl⟩
theorem geo1_32 : Geo 1 32 64 :=
  ⟨shapeCasts_S64x128_S1x2x32x128, slices_S1x2x32x128_o0_0_0_0_S1x1x32x128, slices_S1x2x32x128_o0_1_0_0_S1x1x32x128, shapeCasts_S1x1x32x128_S1x32x128,
    shapeCasts_S1x32x128_S1x1x32x128, concatenates_S1x1x32x128_S1x1x32x128_S1x2x32x128_d1, shapeCasts_S1x2x32x128_S64x128, rfl⟩
theorem geo2_16 : Geo 2 16 64 :=
  ⟨shapeCasts_S64x128_S2x2x16x128, slices_S2x2x16x128_o0_0_0_0_S2x1x16x128, slices_S2x2x16x128_o0_1_0_0_S2x1x16x128, shapeCasts_S2x1x16x128_S2x16x128,
    shapeCasts_S2x16x128_S2x1x16x128, concatenates_S2x1x16x128_S2x1x16x128_S2x2x16x128_d1, shapeCasts_S2x2x16x128_S64x128, rfl⟩
theorem geo4_8 : Geo 4 8 64 :=
  ⟨shapeCasts_S64x128_S4x2x8x128, slices_S4x2x8x128_o0_0_0_0_S4x1x8x128, slices_S4x2x8x128_o0_1_0_0_S4x1x8x128, shapeCasts_S4x1x8x128_S4x8x128,
    shapeCasts_S4x8x128_S4x1x8x128, concatenates_S4x1x8x128_S4x1x8x128_S4x2x8x128_d1, shapeCasts_S4x2x8x128_S64x128, rfl⟩
theorem geo8_4 : Geo 8 4 64 :=
  ⟨shapeCasts_S64x128_S8x2x4x128, slices_S8x2x4x128_o0_0_0_0_S8x1x4x128, slices_S8x2x4x128_o0_1_0_0_S8x1x4x128, shapeCasts_S8x1x4x128_S8x4x128,
    shapeCasts_S8x4x128_S8x1x4x128, concatenates_S8x1x4x128_S8x1x4x128_S8x2x4x128_d1, shapeCasts_S8x2x4x128_S64x128, rfl⟩
theorem geo16_2 : Geo 16 2 64 :=
  ⟨shapeCasts_S64x128_S16x2x2x128, slices_S16x2x2x128_o0_0_0_0_S16x1x2x128, slices_S16x2x2x128_o0_1_0_0_S16x1x2x128, shapeCasts_S16x1x2x128_S16x2x128,
    shapeCasts_S16x2x128_S16x1x2x128, concatenates_S16x1x2x128_S16x1x2x128_S16x2x2x128_d1, shapeCasts_S16x2x2x128_S64x128, rfl⟩
theorem geo32_1 : Geo 32 1 64 :=
  ⟨shapeCasts_S64x128_S32x2x1x128, slices_S32x2x1x128_o0_0_0_0_S32x1x1x128, slices_S32x2x1x128_o0_1_0_0_S32x1x1x128, shapeCasts_S32x1x1x128_S32x1x128,
    shapeCasts_S32x1x128_S32x1x1x128, concatenates_S32x1x1x128_S32x1x1x128_S32x2x1x128_d1, shapeCasts_S32x2x1x128_S64x128, rfl⟩

/-- Stage 1 of the sort: runs of 2, rows 1 apart. -/
def s1 (p : Pairs 32) : Pairs 32 := step geo16_1 (turned (flag 16 iota_S16x1x128_d0_w32 2#32 2#32)) p
/-- Stage 2 of the sort: runs of 4, rows 2 apart. -/
def s2 (p : Pairs 32) : Pairs 32 := step geo8_2 (turned (broadcastTo S8x2x128 (broadcastTo S8x2x128 (flag 8 iota_S8x1x128_d0_w32 4#32 4#32) broadcasts_S8x1x128_S8x2x128) broadcasts_S8x2x128_S8x2x128)) p
/-- Stage 3 of the sort: runs of 4, rows 1 apart. -/
def s3 (p : Pairs 32) : Pairs 32 := step geo16_1 (turned (flag 16 iota_S16x1x128_d0_w32 2#32 4#32)) p
/-- Stage 4 of the sort: runs of 8, rows 4 apart. -/
def s4 (p : Pairs 32) : Pairs 32 := step geo4_4 (turned (broadcastTo S4x4x128 (broadcastTo S4x4x128 (flag 4 iota_S4x1x128_d0_w32 8#32 8#32) broadcasts_S4x1x128_S4x4x128) broadcasts_S4x4x128_S4x4x128)) p
/-- Stage 5 of the sort: runs of 8, rows 2 apart. -/
def s5 (p : Pairs 32) : Pairs 32 := step geo8_2 (turned (broadcastTo S8x2x128 (broadcastTo S8x2x128 (flag 8 iota_S8x1x128_d0_w32 4#32 8#32) broadcasts_S8x1x128_S8x2x128) broadcasts_S8x2x128_S8x2x128)) p
/-- Stage 6 of the sort: runs of 8, rows 1 apart. -/
def s6 (p : Pairs 32) : Pairs 32 := step geo16_1 (turned (flag 16 iota_S16x1x128_d0_w32 2#32 8#32)) p
/-- Stage 7 of the sort: runs of 16, rows 8 apart. -/
def s7 (p : Pairs 32) : Pairs 32 := step geo2_8 (turned (broadcastTo S2x8x128 (broadcastTo S2x8x128 (flag 2 iota_S2x1x128_d0_w32 16#32 16#32) broadcasts_S2x1x128_S2x8x128) broadcasts_S2x8x128_S2x8x128)) p
/-- Stage 8 of the sort: runs of 16, rows 4 apart. -/
def s8 (p : Pairs 32) : Pairs 32 := step geo4_4 (turned (broadcastTo S4x4x128 (broadcastTo S4x4x128 (flag 4 iota_S4x1x128_d0_w32 8#32 16#32) broadcasts_S4x1x128_S4x4x128) broadcasts_S4x4x128_S4x4x128)) p
/-- Stage 9 of the sort: runs of 16, rows 2 apart. -/
def s9 (p : Pairs 32) : Pairs 32 := step geo8_2 (turned (broadcastTo S8x2x128 (broadcastTo S8x2x128 (flag 8 iota_S8x1x128_d0_w32 4#32 16#32) broadcasts_S8x1x128_S8x2x128) broadcasts_S8x2x128_S8x2x128)) p
/-- Stage 10 of the sort: runs of 16, rows 1 apart. -/
def s10 (p : Pairs 32) : Pairs 32 := step geo16_1 (turned (flag 16 iota_S16x1x128_d0_w32 2#32 16#32)) p
/-- Stage 11 of the sort: the whole chunk, rows 16 apart. -/
def s11 (p : Pairs 32) : Pairs 32 := step geo1_16 down p
/-- Stage 12 of the sort: the whole chunk, rows 8 apart. -/
def s12 (p : Pairs 32) : Pairs 32 := step geo2_8 down p
/-- Stage 13 of the sort: the whole chunk, rows 4 apart. -/
def s13 (p : Pairs 32) : Pairs 32 := step geo4_4 down p
/-- Stage 14 of the sort: the whole chunk, rows 2 apart. -/
def s14 (p : Pairs 32) : Pairs 32 := step geo8_2 down p
/-- Stage 15 of the sort: the whole chunk, rows 1 apart. -/
def s15 (p : Pairs 32) : Pairs 32 := step geo16_1 down p
/-- Stage 1 of the merge: rows 32 apart. -/
def m1 (p : Pairs 64) : Pairs 64 := step geo1_32 up p
/-- Stage 2 of the merge: rows 16 apart. -/
def m2 (p : Pairs 64) : Pairs 64 := step geo2_16 up p
/-- Stage 3 of the merge: rows 8 apart. -/
def m3 (p : Pairs 64) : Pairs 64 := step geo4_8 up p
/-- Stage 4 of the merge: rows 4 apart. -/
def m4 (p : Pairs 64) : Pairs 64 := step geo8_4 up p
/-- Stage 5 of the merge: rows 2 apart. -/
def m5 (p : Pairs 64) : Pairs 64 := step geo16_2 up p
/-- Stage 6 of the merge: rows 1 apart. -/
def m6 (p : Pairs 64) : Pairs 64 := step geo32_1 up p

/-- Chunk `k`'s point numbers. -/
def numbers (k : Fin k1_t1_loop.trips) : IVec S32x128 32 :=
  addi (iota .tc S32x128 32 [0] iota_S32x128_d0_w32) (broadcast S32x128 (Scalar.muli (Scf.iv 0#32 1#32 k) 32#32))

/-- The running nearest above a sorted chunk. -/
def stacked (A B : Pairs 32) : Pairs 64 :=
  (concatenate S64x128 0 [⟨S32x128, A.1⟩, ⟨S32x128, B.1⟩] concatenates_S32x128_S32x128_S64x128_d0,
    concatenate S64x128 0 [⟨S32x128, A.2⟩, ⟨S32x128, B.2⟩] concatenates_S32x128_S32x128_S64x128_d0)

/-- The first 32 rows. -/
def upper {α : Type} (w : (sh2 64).Idx → α) : (sh2 32).Idx → α := extractStridedSlice S32x128 ![0, 0] w slices_S64x128_o0_0_S32x128

/-- The chunk sorted. -/
def sorted (P : Pairs 32) : Pairs 32 := s15 (s14 (s13 (s12 (s11 (s10 (s9 (s8 (s7 (s6 (s5 (s4 (s3 (s2 (s1 P))))))))))))))
/-- The merged rows. -/
def merged (Q : Pairs 64) : Pairs 64 := m6 (m5 (m4 (m3 (m2 (m1 Q)))))

attribute [local irreducible] select shapeCast concatenate extractStridedSlice cmpf cmpi xori andi muli addi broadcast broadcastTo iota constantI

section Trip

variable (c : Dev nD) (i : grid1.Coords) (arg2 : Memref sig .tc .vmem S1x16384x3 .f32) (harg2 : arg2.IsWhole) (arg3 : Memref sig .tc .vmem S1x1x3x128 .f32)
  (harg3 : arg3.IsWhole) (arg4 : Memref sig .tc .vmem S1x1x1x128 .f32) (harg4 : arg4.IsWhole) (arg5 : Memref sig .tc .vmem S1x1x32x128 .i32) (harg5 : arg5.IsWhole)
  (arg6 : Memref sig .tc .vmem S16384x128 .f32) (harg6 : arg6.IsWhole) (X : BufTy.Contents (Elt Ideal) arg6.view.ty)

/-- Chunk `k` of the stored distances. -/
abbrev chunk (arg6 : Memref sig .tc .vmem S16384x128 .f32) (X : BufTy.Contents (Elt Ideal) arg6.view.ty) (k : Fin k1_t1_loop.trips) : Vec Ideal S32x128 .f32 :=
  View.readAt (Elt Ideal) arg6.view (Rect.unit (s := S16384x128) (k1_off1 k) S32x128.size (k1_off1_inb k)).toLoadRect X

/-- One chunk: sorted and merged into the running nearest. -/
theorem trip_eq (k : Fin k1_t1_loop.trips) (A : Pairs 32) :
    tripR_k1_t1 (F := Ideal) Variants.none c none i arg2 harg2 arg3 harg3 arg4 harg4 arg5 harg5 arg6 harg6 X k A =
    (upper (merged (stacked A (sorted (chunk arg6 X k, numbers k)))).1, upper (merged (stacked A (sorted (chunk arg6 X k, numbers k)))).2) := by
  unfold tripR_k1_t1 trip_k1_t1
  dsimp only
  rfl

end Trip

end Cert.KnnTrip
-- ==== Proof.KnnSort.lean ====
/- What the chunk step does to one column: the chunk comes out descending, the merge ascending, and only the rows' order changes. -/
module

public import proofs.«01_k».proof.Proof.KnnTrip

@[expose] public section

set_option maxRecDepth 65536

noncomputable section

namespace Cert.KnnSort

open Cert.KernelIdeal Cert.KernelIdeal.Gen Cert.StageOps Cert.KnnTrip
open Idealize.ShloMosaic Idealize.ShloMosaic.ValueIdx Idealize.ShloMosaic.SortNet

theorem le_iff (x y : EReal) : FloatOps.cmpf (F := Ideal) (φ := .f32) .ole x y = 1#1 ↔ x ≤ y := by
  rw [Ideal.cmpf_def]
  show (BitVec.ofBool (decide (x ≤ y))) = 1#1 ↔ _
  by_cases h : x ≤ y <;> simp [h]

theorem puts_down {n j M : ℕ} (g : Geo n j M) : Puts g (fun _ => true) down := by
  intro a b q r l
  rw [if_pos rfl]
  exact ⟨fun h => (le_iff _ _).1 h, fun h => le_of_lt (not_le.1 fun h' => h ((le_iff _ _).2 h'))⟩

theorem puts_up {n j M : ℕ} (g : Geo n j M) : Puts g (fun _ => false) up := by
  intro a b q r l
  rw [if_neg Bool.false_ne_true]
  exact ⟨fun h => (le_iff _ _).1 h, fun h => le_of_lt (not_le.1 fun h' => h ((le_iff _ _).2 h'))⟩

theorem puts_turned {n j M : ℕ} (g : Geo n j M) (w : Fin M → Bool) (f : IVec (sh3 n j) 1)
    (hf : ∀ q r l, f (ix3 q r l) = if w (lowRow g q r) then 0#1 else 1#1) : Puts g w (turned f) := by
  intro a b q r l
  have e : turned f a b (ix3 q r l) = FloatOps.cmpf (F := Ideal) (φ := .f32) .ole (a (ix3 q r l)) (b (ix3 q r l)) ^^^ f (ix3 q r l) ^^^ 1#1 := rfl
  have hb (x : BitVec 1) : x = 0#1 ∨ x = 1#1 := by revert x; decide
  rw [e, hf q r l]
  have hle := le_iff (a (ix3 q r l)) (b (ix3 q r l))
  rcases hb (FloatOps.cmpf (F := Ideal) (φ := .f32) .ole (a (ix3 q r l)) (b (ix3 q r l))) with h | h
  · rw [h] at hle ⊢
    have hlt : (b (ix3 q r l) : EReal) ≤ a (ix3 q r l) := le_of_lt (not_le.1 fun h' => absurd (hle.2 h') (by decide))
    cases w (lowRow g q r)
    · exact ⟨fun h' => absurd h' (by decide), fun _ => hlt⟩
    · exact ⟨fun _ => hlt, fun h' => absurd (by decide) h'⟩
  · rw [h] at hle ⊢
    have hl : (a (ix3 q r l) : EReal) ≤ b (ix3 q r l) := hle.1 rfl
    cases w (lowRow g q r)
    · exact ⟨fun _ => hl, fun h' => absurd (by decide) h'⟩
    · exact ⟨fun h' => absurd h' (by decide), fun _ => hl⟩

/-- The flag of block `q`. -/
theorem flag_apply {n : ℕ} (h : (sh3 n 1).Iotas .tc 32 [0]) (w k : BitVec 32) (q : Fin n) (l : Fin 128) :
    flag n h w k (ix3 q (0 : Fin 1) l) = BitVec.ofBool (BitVec.ofNat 32 q.val * w &&& k ≠ 0#32) := by
  show Scalar.cmpi .ne (BitVec.ofNat 32 (0 * n + q.val) * w &&& k) 0#32 = _
  rw [Nat.zero_mul, Nat.zero_add]
  show BitVec.ofBool (_ != _) = _
  refine congrArg BitVec.ofBool (Bool.eq_iff_iff.2 ?_)
  rw [bne_iff_ne, decide_eq_true_eq]

theorem spread_apply {n j : ℕ} (f : IVec (sh3 n 1) 1) (h : (sh3 n 1).Broadcasts (sh3 n j)) (h' : (sh3 n j).Broadcasts (sh3 n j))
    (q : Fin n) (r : Fin j) (l : Fin 128) : broadcastTo (sh3 n j) (broadcastTo (sh3 n j) f h) h' (ix3 q r l) = f (ix3 q (0 : Fin 1) l) := by
  refine (broadcastTo_apply _ _ _ (ix3 q r l) fun a => ?_).trans (broadcastTo_apply _ _ _ (ix3 q (0 : Fin 1) l) fun a => ?_)
  · fin_cases a
    · show q.val = if n = 1 then 0 else q.val
      split
      · next h => have := q.isLt; omega
      · rfl
    · show r.val = if j = 1 then 0 else r.val
      split
      · next h => have := r.isLt; omega
      · rfl
    · rfl
  · fin_cases a
    · show q.val = if n = 1 then 0 else q.val
      split
      · next h => have := q.isLt; omega
      · rfl
    · rfl
    · rfl

/-- Which rows of the sort's level `t` put the greater key first. -/
def wins (t : ℕ) (i : Fin (2 ^ 5)) : Bool := (decide (i.val &&& 2 ^ (t + 1) = 0)) == true

theorem wins_top : wins 4 = fun _ => true := by funext i; revert i; decide

theorem network : sortNet 5 true = stage 5 0 (wins 0) ++ (stage 5 1 (wins 1) ++ (stage 5 0 (wins 1) ++ (stage 5 2 (wins 2) ++ (stage 5 1 (wins 2) ++
    (stage 5 0 (wins 2) ++ (stage 5 3 (wins 3) ++ (stage 5 2 (wins 3) ++ (stage 5 1 (wins 3) ++ (stage 5 0 (wins 3) ++ (stage 5 4 (wins 4) ++
    (stage 5 3 (wins 4) ++ (stage 5 2 (wins 4) ++ (stage 5 1 (wins 4) ++ stage 5 0 (wins 4)))))))))))))) := by
  show (([0, 1, 2, 3, 4] : List ℕ).flatMap fun l => (List.range (l + 1)).reverse.flatMap fun s => stage 5 s (wins l)) = _
  simp only [List.flatMap_cons, List.flatMap_nil, List.append_nil, List.range_succ, List.range_zero, List.nil_append, List.reverse_append, List.reverse_cons,
    List.reverse_nil, List.append_assoc, List.cons_append]

theorem network' : mergeAscNet 6 = stage 6 5 (fun _ => false) ++ (stage 6 4 (fun _ => false) ++ (stage 6 3 (fun _ => false) ++ (stage 6 2 (fun _ => false) ++
    (stage 6 1 (fun _ => false) ++ stage 6 0 (fun _ => false))))) := by
  show (([5, 4, 3, 2, 1, 0] : List ℕ).flatMap fun s => stage 6 s fun _ => false) = _
  simp only [List.flatMap_cons, List.flatMap_nil, List.append_nil]

theorem flag_wins {n j M : ℕ} (g : Geo n j M) (w : Fin M → Bool) (f : IVec (sh3 n 1) 1) (h : (sh3 n 1).Broadcasts (sh3 n j)) (h' : (sh3 n j).Broadcasts (sh3 n j))
    (e : ∀ q r, (∀ l, f (ix3 q (0 : Fin 1) l) = if w (lowRow g q r) then 0#1 else 1#1)) :
    Puts g w (turned (broadcastTo (sh3 n j) (broadcastTo (sh3 n j) f h) h')) :=
  puts_turned g w _ fun q r l => (spread_apply f h h' q r l).trans (e q r l)

theorem puts1 : Puts geo16_1 (wins 0) (turned (flag 16 iota_S16x1x128_d0_w32 2#32 2#32)) :=
  puts_turned _ _ _ fun q r l => by
    obtain rfl : r = 0 := Subsingleton.elim _ _
    rw [flag_apply]; revert q; decide
theorem puts2 : Puts geo8_2 (wins 1) (turned (broadcastTo S8x2x128 (broadcastTo S8x2x128 (flag 8 iota_S8x1x128_d0_w32 4#32 4#32)
    broadcasts_S8x1x128_S8x2x128) broadcasts_S8x2x128_S8x2x128)) :=
  flag_wins _ _ _ _ _ fun q r l => by rw [flag_apply]; revert q r; decide
theorem puts3 : Puts geo16_1 (wins 1) (turned (flag 16 iota_S16x1x128_d0_w32 2#32 4#32)) :=
  puts_turned _ _ _ fun q r l => by
    obtain rfl : r = 0 := Subsingleton.elim _ _
    rw [flag_apply]; revert q; decide
theorem puts4 : Puts geo4_4 (wins 2) (turned (broadcastTo S4x4x128 (broadcastTo S4x4x128 (flag 4 iota_S4x1x128_d0_w32 8#32 8#32)
    broadcasts_S4x1x128_S4x4x128) broadcasts_S4x4x128_S4x4x128)) :=
  flag_wins _ _ _ _ _ fun q r l => by rw [flag_apply]; revert q r; decide
theorem puts5 : Puts geo8_2 (wins 2) (turned (broadcastTo S8x2x128 (broadcastTo S8x2x128 (flag 8 iota_S8x1x128_d0_w32 4#32 8#32)
    broadcasts_S8x1x128_S8x2x128) broadcasts_S8x2x128_S8x2x128)) :=
  flag_wins _ _ _ _ _ fun q r l => by rw [flag_apply]; revert q r; decide
theorem puts6 : Puts geo16_1 (wins 2) (turned (flag 16 iota_S16x1x128_d0_w32 2#32 8#32)) :=
  puts_turned _ _ _ fun q r l => by
    obtain rfl : r = 0 := Subsingleton.elim _ _
    rw [flag_apply]; revert q; decide
theorem puts7 : Puts geo2_8 (wins 3) (turned (broadcastTo S2x8x128 (broadcastTo S2x8x128 (flag 2 iota_S2x1x128_d0_w32 16#32 16#32)
    broadcasts_S2x1x128_S2x8x128) broadcasts_S2x8x128_S2x8x128)) :=
  flag_wins _ _ _ _ _ fun q r l => by rw [flag_apply]; revert q r; decide
theorem puts8 : Puts geo4_4 (wins 3) (turned (broadcastTo S4x4x128 (broadcastTo S4x4x128 (flag 4 iota_S4x1x128_d0_w32 8#32 16#32)
    broadcasts_S4x1x128_S4x4x128) broadcasts_S4x4x128_S4x4x128)) :=
  flag_wins _ _ _ _ _ fun q r l => by rw [flag_apply]; revert q r; decide
theorem puts9 : Puts geo8_2 (wins 3) (turned (broadcastTo S8x2x128 (broadcastTo S8x2x128 (flag 8 iota_S8x1x128_d0_w32 4#32 16#32)
    broadcasts_S8x1x128_S8x2x128) broadcasts_S8x2x128_S8x2x128)) :=
  flag_wins _ _ _ _ _ fun q r l => by rw [flag_apply]; revert q r; decide
theorem puts10 : Puts geo16_1 (wins 3) (turned (flag 16 iota_S16x1x128_d0_w32 2#32 16#32)) :=
  puts_turned _ _ _ fun q r l => by
    obtain rfl : r = 0 := Subsingleton.elim _ _
    rw [flag_apply]; revert q; decide
theorem puts_top {n j : ℕ} (g : Geo n j (2 ^ 5)) : Puts g (wins 4) down := wins_top ▸ puts_down g

variable (P : Pairs 32) (l : Fin 128)

/-- The fifteen stages are the sorting network. -/
theorem keys_sorted : keys (sorted P) l = Network.apply (sortNet 5 true) (keys P l) := by
  rw [network]
  simp only [Network.apply_append]
  unfold sorted s1 s2 s3 s4 s5 s6 s7 s8 s9 s10 s11 s12 s13 s14 s15
  refine (keys_step (p := 5) (s := 0) (by decide) geo16_1 _ _ (puts_top _) _ l).trans (congrArg _ ?_)
  refine (keys_step (p := 5) (s := 1) (by decide) geo8_2 _ _ (puts_top _) _ l).trans (congrArg _ ?_)
  refine (keys_step (p := 5) (s := 2) (by decide) geo4_4 _ _ (puts_top _) _ l).trans (congrArg _ ?_)
  refine (keys_step (p := 5) (s := 3) (by decide) geo2_8 _ _ (puts_top _) _ l).trans (congrArg _ ?_)
  refine (keys_step (p := 5) (s := 4) (by decide) geo1_16 _ _ (puts_top _) _ l).trans (congrArg _ ?_)
  refine (keys_step (p := 5) (s := 0) (by decide) geo16_1 _ _ puts10 _ l).trans (congrArg _ ?_)
  refine (keys_step (p := 5) (s := 1) (by decide) geo8_2 _ _ puts9 _ l).trans (congrArg _ ?_)
  refine (keys_step (p := 5) (s := 2) (by decide) geo4_4 _ _ puts8 _ l).trans (congrArg _ ?_)
  refine (keys_step (p := 5) (s := 3) (by decide) geo2_8 _ _ puts7 _ l).trans (congrArg _ ?_)
  refine (keys_step (p := 5) (s := 0) (by decide) geo16_1 _ _ puts6 _ l).trans (congrArg _ ?_)
  refine (keys_step (p := 5) (s := 1) (by decide) geo8_2 _ _ puts5 _ l).trans (congrArg _ ?_)
  refine (keys_step (p := 5) (s := 2) (by decide) geo4_4 _ _ puts4 _ l).trans (congrArg _ ?_)
  refine (keys_step (p := 5) (s := 0) (by decide) geo16_1 _ _ puts3 _ l).trans (congrArg _ ?_)
  refine (keys_step (p := 5) (s := 1) (by decide) geo8_2 _ _ puts2 _ l).trans (congrArg _ ?_)
  refine (keys_step (p := 5) (s := 0) (by decide) geo16_1 _ _ puts1 _ l).trans (congrArg _ ?_)
  rfl

/-- The chunk comes out descending. -/
theorem sorted_antitone : Antitone (keys (sorted P) l) := by
  rw [keys_sorted]; exact sortNet_apply_antitone 5 _

theorem moved_sorted : Moved l P (sorted P) := by
  unfold sorted s1 s2 s3 s4 s5 s6 s7 s8 s9 s10 s11 s12 s13 s14 s15
  refine Moved.trans ?_ (moved_step (p := 5) (s := 0) (by decide) geo16_1 _ _ l)
  refine Moved.trans ?_ (moved_step (p := 5) (s := 1) (by decide) geo8_2 _ _ l)
  refine Moved.trans ?_ (moved_step (p := 5) (s := 2) (by decide) geo4_4 _ _ l)
  refine Moved.trans ?_ (moved_step (p := 5) (s := 3) (by decide) geo2_8 _ _ l)
  refine Moved.trans ?_ (moved_step (p := 5) (s := 4) (by decide) geo1_16 _ _ l)
  refine Moved.trans ?_ (moved_step (p := 5) (s := 0) (by decide) geo16_1 _ _ l)
  refine Moved.trans ?_ (moved_step (p := 5) (s := 1) (by decide) geo8_2 _ _ l)
  refine Moved.trans ?_ (moved_step (p := 5) (s := 2) (by decide) geo4_4 _ _ l)
  refine Moved.trans ?_ (moved_step (p := 5) (s := 3) (by decide) geo2_8 _ _ l)
  refine Moved.trans ?_ (moved_step (p := 5) (s := 0) (by decide) geo16_1 _ _ l)
  refine Moved.trans ?_ (moved_step (p := 5) (s := 1) (by decide) geo8_2 _ _ l)
  refine Moved.trans ?_ (moved_step (p := 5) (s := 2) (by decide) geo4_4 _ _ l)
  refine Moved.trans ?_ (moved_step (p := 5) (s := 0) (by decide) geo16_1 _ _ l)
  refine Moved.trans ?_ (moved_step (p := 5) (s := 1) (by decide) geo8_2 _ _ l)
  exact moved_step (p := 5) (s := 0) (by decide) geo16_1 _ _ l

variable (Q : Pairs 64)

/-- The six stages are the merging network. -/
theorem keys_merged : keys (merged Q) l = Network.apply (mergeAscNet 6) (keys Q l) := by
  rw [network']
  simp only [Network.apply_append]
  unfold merged m1 m2 m3 m4 m5 m6
  refine (keys_step (p := 6) (s := 0) (by decide) geo32_1 _ _ (puts_up _) _ l).trans (congrArg _ ?_)
  refine (keys_step (p := 6) (s := 1) (by decide) geo16_2 _ _ (puts_up _) _ l).trans (congrArg _ ?_)
  refine (keys_step (p := 6) (s := 2) (by decide) geo8_4 _ _ (puts_up _) _ l).trans (congrArg _ ?_)
  refine (keys_step (p := 6) (s := 3) (by decide) geo4_8 _ _ (puts_up _) _ l).trans (congrArg _ ?_)
  refine (keys_step (p := 6) (s := 4) (by decide) geo2_16 _ _ (puts_up _) _ l).trans (congrArg _ ?_)
  refine (keys_step (p := 6) (s := 5) (by decide) geo1_32 _ _ (puts_up _) _ l).trans (congrArg _ ?_)
  rfl

theorem moved_merged : Moved l Q (merged Q) := by
  unfold merged m1 m2 m3 m4 m5 m6
  refine Moved.trans ?_ (moved_step (p := 6) (s := 0) (by decide) geo32_1 _ _ l)
  refine Moved.trans ?_ (moved_step (p := 6) (s := 1) (by decide) geo16_2 _ _ l)
  refine Moved.trans ?_ (moved_step (p := 6) (s := 2) (by decide) geo8_4 _ _ l)
  refine Moved.trans ?_ (moved_step (p := 6) (s := 3) (by decide) geo4_8 _ _ l)
  refine Moved.trans ?_ (moved_step (p := 6) (s := 4) (by decide) geo2_16 _ _ l)
  exact moved_step (p := 6) (s := 5) (by decide) geo1_32 _ _ l

end Cert.KnnSort
-- ==== Proof.KnnPick.lean ====
/- The running nearest of one column, chunk after chunk: it never loses a point of the set of nearest points. -/
module

public import proofs.«01_k».proof.Proof.KnnSort

@[expose] public section

set_option maxRecDepth 65536

noncomputable section

namespace Cert.KnnPick

open Cert.KernelIdeal Cert.KernelIdeal.Gen Cert.StageOps Cert.KnnTrip Cert.KnnSort
open Idealize.ShloMosaic Idealize.ShloMosaic.ValueIdx Idealize.ShloMosaic.SortNet

/-- A column's pairs of key and companion, without their order. -/
def bag {M : ℕ} (p : Pairs M) (l : Fin 128) : Multiset (EReal × BitVec 32) :=
  (Finset.univ : Finset (Fin M)).val.map fun i => ((p.1 (ix2 i l) : EReal), p.2 (ix2 i l))

theorem mem_bag {M : ℕ} (p : Pairs M) (l : Fin 128) (x : EReal × BitVec 32) : x ∈ bag p l ↔ ∃ i, ((p.1 (ix2 i l) : EReal), p.2 (ix2 i l)) = x := by
  unfold bag; simp

theorem card_bag {M : ℕ} (p : Pairs M) (l : Fin 128) : (bag p l).card = M := by
  unfold bag; simp

/-- Rearranging the rows keeps the pairs. -/
theorem bag_moved {M : ℕ} {p p' : Pairs M} {l : Fin 128} (h : Moved l p p') : bag p' l = bag p l := by
  obtain ⟨σ, hσ⟩ := h
  unfold bag
  rw [Multiset.map_congr rfl (g := (fun i => ((p.1 (ix2 i l) : EReal), p.2 (ix2 i l))) ∘ σ) fun i _ => Prod.ext (hσ i).1 (hσ i).2,
    ← Multiset.map_map]
  congr 1
  exact congrArg Finset.val (Finset.map_univ_equiv σ)

/-- Row `i` of the first 32 of 64. -/
def lo (i : Fin 32) : Fin 64 := ⟨i.val, by omega⟩
/-- Row `i` of the last 32. -/
def hi (i : Fin 32) : Fin 64 := ⟨32 + i.val, by omega⟩

theorem upper_apply {α : Type} (w : (sh2 64).Idx → α) (i : Fin 32) (l : Fin 128) : upper w (ix2 i l) = w (ix2 (lo i) l) :=
  extractStridedSlice_apply _ _ _ _ (ix2 (lo i) l) fun a => by
    fin_cases a
    · exact (Nat.zero_add _).symm
    · exact (Nat.zero_add _).symm

theorem pile_lo {α : Type} (a b : (sh2 32).Idx → α) (h : Shape.Concatenates [sh2 32, sh2 32] (sh2 64) 0) (i : Fin 32) (l : Fin 128) :
    concatenate (sh2 64) 0 [⟨sh2 32, a⟩, ⟨sh2 32, b⟩] h (ix2 (lo i) l) = a (ix2 i l) :=
  concatenate_pair_apply_left (t := sh2 64) (s₁ := sh2 32) (s₂ := sh2 32) 0 _ _ _ _ rfl (ix2 i l) fun x => by fin_cases x <;> rfl

theorem pile_hi {α : Type} (a b : (sh2 32).Idx → α) (h : Shape.Concatenates [sh2 32, sh2 32] (sh2 64) 0) (i : Fin 32) (l : Fin 128) :
    concatenate (sh2 64) 0 [⟨sh2 32, a⟩, ⟨sh2 32, b⟩] h (ix2 (hi i) l) = b (ix2 i l) :=
  concatenate_pair_apply_right (t := sh2 64) (s₁ := sh2 32) (s₂ := sh2 32) 0 _ _ _ _ rfl rfl (ix2 i l)
    (fun x hx => by
      fin_cases x
      · exact absurd rfl hx
      · rfl) (Nat.add_comm _ _)

/-- 64 rows are the first 32 and the last 32. -/
theorem bag_halves (Q : Pairs 64) (A B : Pairs 32) (l : Fin 128) (hA : ∀ i, Q.1 (ix2 (lo i) l) = A.1 (ix2 i l) ∧ Q.2 (ix2 (lo i) l) = A.2 (ix2 i l))
    (hB : ∀ i, Q.1 (ix2 (hi i) l) = B.1 (ix2 i l) ∧ Q.2 (ix2 (hi i) l) = B.2 (ix2 i l)) : bag Q l = bag A l + bag B l := by
  have hs : (Finset.univ : Finset (Fin 64)).val = (Finset.univ : Finset (Fin 32)).val.map lo + (Finset.univ : Finset (Fin 32)).val.map hi := by decide +kernel
  unfold bag
  rw [hs, Multiset.map_add, Multiset.map_map, Multiset.map_map]
  congr 1
  · exact Multiset.map_congr rfl fun i _ => Prod.ext (hA i).1 (hA i).2
  · exact Multiset.map_congr rfl fun i _ => Prod.ext (hB i).1 (hB i).2

/-- The step's result from the running nearest and a chunk. -/
def next (A P : Pairs 32) : Pairs 32 := (upper (merged (stacked A (sorted P))).1, upper (merged (stacked A (sorted P))).2)

/-- A step keeps 32 of the pairs at hand, ascending, and none of those left is nearer. -/
theorem next_spec (A P : Pairs 32) (l : Fin 128) (hA : Monotone (keys A l)) :
    Monotone (keys (next A P) l) ∧ ∃ R, bag A l + bag P l = bag (next A P) l + R ∧ ∀ x ∈ bag (next A P) l, ∀ y ∈ R, x.1 ≤ y.1 := by
  set S := stacked A (sorted P) with hS
  have hlo (i : Fin 32) : S.1 (ix2 (lo i) l) = A.1 (ix2 i l) ∧ S.2 (ix2 (lo i) l) = A.2 (ix2 i l) := ⟨pile_lo _ _ concatenates_S32x128_S32x128_S64x128_d0 i l, pile_lo _ _ concatenates_S32x128_S32x128_S64x128_d0 i l⟩
  have hhi (i : Fin 32) : S.1 (ix2 (hi i) l) = (sorted P).1 (ix2 i l) ∧ S.2 (ix2 (hi i) l) = (sorted P).2 (ix2 i l) :=
    ⟨pile_hi _ _ concatenates_S32x128_S32x128_S64x128_d0 i l, pile_hi _ _ concatenates_S32x128_S32x128_S64x128_d0 i l⟩
  have hanti := sorted_antitone P l
  have hmono : Monotone (keys (merged S) l) := by
    rw [keys_merged]
    refine mergeAscNet_apply_monotone 6 _ ⟨32, Or.inr ⟨fun i j hij hj => ?_, fun i j hij hi' => ?_⟩⟩
    · show (S.1 (ix2 (lo ⟨i.val, lt_of_le_of_lt hij hj⟩) l) : EReal) ≤ S.1 (ix2 (lo ⟨j.val, hj⟩) l)
      rw [(hlo _).1, (hlo _).1]
      exact hA hij
    · have hi2 : i = hi ⟨i.val - 32, by have : i.val < 64 := i.isLt; omega⟩ := Fin.ext (by show i.val = 32 + (i.val - 32); omega)
      have hj0 : 32 ≤ j.val := le_trans hi' hij
      have hj2 : j = hi ⟨j.val - 32, by have : j.val < 64 := j.isLt; omega⟩ := Fin.ext (by show j.val = 32 + (j.val - 32); omega)
      have ei := (congrArg (fun x : Fin 64 => S.1 (ix2 x l)) hi2).trans (hhi _).1
      have ej := (congrArg (fun x : Fin 64 => S.1 (ix2 x l)) hj2).trans (hhi _).1
      refine le_of_eq_of_le (b := ((sorted P).1 (ix2 _ l) : EReal)) ej (le_of_le_of_eq ?_ ei.symm)
      exact hanti (by show i.val - 32 ≤ j.val - 32; exact Nat.sub_le_sub_right hij 32)
  have hup (i : Fin 32) : (merged S).1 (ix2 (lo i) l) = (next A P).1 (ix2 i l) ∧ (merged S).2 (ix2 (lo i) l) = (next A P).2 (ix2 i l) :=
    ⟨(upper_apply _ i l).symm, (upper_apply _ i l).symm⟩
  let B : Pairs 32 := (fun p => (merged S).1 (ix2 (hi (p 0)) (p 1)), fun p => (merged S).2 (ix2 (hi (p 0)) (p 1)))
  have hbag : bag A l + bag P l = bag (next A P) l + bag B l := by
    rw [← bag_halves (merged S) (next A P) B l hup fun i => ⟨rfl, rfl⟩, bag_moved (moved_merged l S), bag_halves S A (sorted P) l hlo hhi, bag_moved (moved_sorted P l)]
  refine ⟨fun i j hij => ?_, bag B l, hbag, fun x hx y hy => ?_⟩
  · show ((next A P).1 (ix2 i l) : EReal) ≤ (next A P).1 (ix2 j l)
    rw [← (hup i).1, ← (hup j).1]
    exact hmono (a := lo i) (b := lo j) hij
  · obtain ⟨i, rfl⟩ := (mem_bag _ _ _).1 hx
    obtain ⟨j, rfl⟩ := (mem_bag _ _ _).1 hy
    show ((next A P).1 (ix2 i l) : EReal) ≤ (merged S).1 (ix2 (hi j) l)
    rw [← (hup i).1]
    exact hmono (a := lo i) (b := hi j) (by show i.val ≤ 32 + j.val; omega)

/-- Points `0, …, k-1` with their distances. -/
def pool (d : Fin 16384 → EReal) (k : ℕ) : Multiset (EReal × BitVec 32) :=
  ((Finset.univ : Finset (Fin 16384)).filter fun n => n.val < k).val.map fun n => (d n, BitVec.ofNat 32 n.val)

theorem mem_pool (d : Fin 16384 → EReal) (k : ℕ) (x) : x ∈ pool d k ↔ ∃ n : Fin 16384, n.val < k ∧ (d n, BitVec.ofNat 32 n.val) = x := by
  unfold pool; simp [and_assoc]

/-- The chunk's pairs join the pool. -/
theorem pool_succ (d : Fin 16384 → EReal) (k : ℕ) (hk : k < 512) (P : Pairs 32) (l : Fin 128)
    (h : ∀ i : Fin 32, (P.1 (ix2 i l) : EReal) = d ⟨32 * k + i.val, by omega⟩ ∧ P.2 (ix2 i l) = BitVec.ofNat 32 (32 * k + i.val)) :
    pool d (32 * (k + 1)) = pool d (32 * k) + bag P l := by
  have hs : ((Finset.univ : Finset (Fin 16384)).filter fun n => n.val < 32 * (k + 1)) =
      ((Finset.univ : Finset (Fin 16384)).filter fun n => n.val < 32 * k).disjUnion
        ((Finset.univ : Finset (Fin 32)).map ⟨fun i => (⟨32 * k + i.val, by omega⟩ : Fin 16384), fun i j e => Fin.ext (by have := congrArg Fin.val e; simp at this; omega)⟩)
        (by
          rw [Finset.disjoint_left]
          intro n hn hm
          rw [Finset.mem_filter] at hn
          obtain ⟨i, _, rfl⟩ := Finset.mem_map.1 hm
          have : 32 * k + i.val < 32 * k := hn.2
          omega) := by
    ext n
    rw [Finset.mem_disjUnion, Finset.mem_filter, Finset.mem_filter, Finset.mem_map]
    constructor
    · rintro ⟨_, hn⟩
      by_cases hlt : n.val < 32 * k
      · exact Or.inl ⟨Finset.mem_univ _, hlt⟩
      · exact Or.inr ⟨⟨n.val - 32 * k, by omega⟩, Finset.mem_univ _, Fin.ext (by show 32 * k + (n.val - 32 * k) = n.val; omega)⟩
    · rintro (⟨_, hn⟩ | ⟨i, _, rfl⟩)
      · exact ⟨Finset.mem_univ _, by omega⟩
      · exact ⟨Finset.mem_univ _, by show 32 * k + i.val < _; omega⟩
  unfold pool bag
  rw [hs, Finset.disjUnion_val, Multiset.map_add, Finset.map_val, Multiset.map_map]
  congr 1
  exact Multiset.map_congr rfl fun i _ => (Prod.ext (h i).1 (h i).2).symm

/-- A set of 32 points strictly nearer than all others. -/
structure Nearest (d : Fin 16384 → EReal) (I : Finset (Fin 16384)) : Prop where
  card : I.card = 32
  lt : ∀ n ∈ I, ∀ m ∉ I, d n < d m

/-- The running nearest after `k` chunks. -/
structure Kept (d : Fin 16384 → EReal) (I : Finset (Fin 16384)) (k : ℕ) (A : Pairs 32) (l : Fin 128) : Prop where
  mono : Monotone (keys A l)
  sub : bag A l ≤ Multiset.replicate 32 ((⊤ : EReal), 0#32) + pool d (32 * k)
  mem : ∀ n ∈ I, n.val < 32 * k → (d n, BitVec.ofNat 32 n.val) ∈ bag A l

theorem lt_top {d : Fin 16384 → EReal} {I : Finset (Fin 16384)} (hI : Nearest d I) {n : Fin 16384} (hn : n ∈ I) : d n < ⊤ := by
  have : ∃ m, m ∉ I := by
    by_contra h
    push Not at h
    have e : I = Finset.univ := Finset.eq_univ_iff_forall.2 h
    have := hI.card
    rw [e, Finset.card_univ, Fintype.card_fin] at this
    omega
  obtain ⟨m, hm⟩ := this
  exact lt_of_lt_of_le (hI.lt n hn m hm) le_top

theorem kept_succ {d : Fin 16384 → EReal} {I : Finset (Fin 16384)} (hI : Nearest d I) {k : ℕ} (hk : k < 512) {A P : Pairs 32} {l : Fin 128} (hA : Kept d I k A l)
    (h : ∀ i : Fin 32, (P.1 (ix2 i l) : EReal) = d ⟨32 * k + i.val, by omega⟩ ∧ P.2 (ix2 i l) = BitVec.ofNat 32 (32 * k + i.val)) :
    Kept d I (k + 1) (next A P) l := by
  obtain ⟨hm, R, hR, hle⟩ := next_spec A P l hA.mono
  have hpool := pool_succ d k hk P l h
  have hall : bag A l + bag P l ≤ Multiset.replicate 32 ((⊤ : EReal), 0#32) + pool d (32 * (k + 1)) := by
    rw [hpool, ← add_assoc]; exact add_le_add_left hA.sub _
  refine ⟨hm, le_trans (hR ▸ Multiset.le_add_right _ _) hall, fun n hn hk' => ?_⟩
  have hin : (d n, BitVec.ofNat 32 n.val) ∈ bag A l + bag P l := by
    rw [Multiset.mem_add]
    by_cases hlt : n.val < 32 * k
    · exact Or.inl (hA.mem n hn hlt)
    · refine Or.inr ((mem_bag _ _ _).2 ⟨⟨n.val - 32 * k, by omega⟩, ?_⟩)
      have e := h ⟨n.val - 32 * k, by omega⟩
      have e' : 32 * k + (n.val - 32 * k) = n.val := by omega
      refine Prod.ext (e.1.trans (congrArg d (Fin.ext e'))) (e.2.trans ?_)
      show BitVec.ofNat 32 (32 * k + (n.val - 32 * k)) = _
      rw [e']
  rw [hR, Multiset.mem_add] at hin
  refine hin.resolve_right fun hnR => ?_
  -- 33 pairs no farther than point `n`
  have hsub : (bag (next A P) l + {(d n, BitVec.ofNat 32 n.val)}).filter (fun x => x.1 ≤ d n) ≤
      (Multiset.replicate 32 ((⊤ : EReal), 0#32) + pool d (32 * (k + 1))).filter (fun x => x.1 ≤ d n) :=
    Multiset.filter_le_filter _ (le_trans (add_le_add_right (Multiset.singleton_le.2 hnR) _) (hR ▸ hall))
  have hfull : (bag (next A P) l + {(d n, BitVec.ofNat 32 n.val)}).filter (fun x => x.1 ≤ d n) = bag (next A P) l + {(d n, BitVec.ofNat 32 n.val)} := by
    refine Multiset.filter_eq_self.2 fun x hx => ?_
    rcases Multiset.mem_add.1 hx with hx | hx
    · exact hle x hx _ hnR
    · rw [Multiset.mem_singleton.1 hx]
  have hnone : (Multiset.replicate 32 ((⊤ : EReal), 0#32)).filter (fun x => x.1 ≤ d n) = 0 := by
    refine Multiset.filter_eq_nil.2 fun x hx => ?_
    rw [Multiset.eq_of_mem_replicate hx]
    exact not_le.2 (lt_top hI hn)
  have hcard := Multiset.card_le_card hsub
  rw [hfull, Multiset.filter_add, hnone, zero_add, Multiset.card_add, card_bag, Multiset.card_singleton] at hcard
  have : ((pool d (32 * (k + 1))).filter (fun x => x.1 ≤ d n)).card ≤ 32 := by
    unfold pool
    rw [Multiset.filter_map, Multiset.card_map, ← hI.card]
    refine Multiset.card_le_card (t := I.val) ?_
    refine (Multiset.le_iff_subset (Multiset.Nodup.filter _ (Finset.nodup _))).2 fun m hm' => ?_
    by_contra hmI
    exact absurd (hI.lt n hn m hmI) (not_lt.2 (Multiset.mem_filter.1 hm').2)
  omega

/-- Before the first chunk: 32 times infinity and point 0. -/
theorem kept_zero {d : Fin 16384 → EReal} {I : Finset (Fin 16384)} {A : Pairs 32} {l : Fin 128} (h : ∀ i : Fin 32, (A.1 (ix2 i l) : EReal) = ⊤ ∧ A.2 (ix2 i l) = 0#32) :
    Kept d I 0 A l := by
  refine ⟨fun i j _ => ?_, ?_, fun n _ hn => absurd hn (by omega)⟩
  · show (A.1 (ix2 i l) : EReal) ≤ A.1 (ix2 j l)
    rw [(h i).1, (h j).1]
  · refine le_trans (le_of_eq ?_) (Multiset.le_add_right _ _)
    refine Multiset.eq_replicate.2 ⟨card_bag A l, fun x hx => ?_⟩
    obtain ⟨i, rfl⟩ := (mem_bag _ _ _).1 hx
    exact Prod.ext (h i).1 (h i).2

/-- After all chunks the companions are exactly the nearest points' numbers. -/
theorem kept_end {d : Fin 16384 → EReal} {I : Finset (Fin 16384)} (hI : Nearest d I) {A : Pairs 32} {l : Fin 128} (hA : Kept d I 512 A l) :
    (Finset.univ : Finset (Fin 32)).image (fun i => A.2 (ix2 i l)) = I.image fun n => BitVec.ofNat 32 n.val := by
  refine (Finset.eq_of_subset_of_card_le (fun x hx => ?_) ?_).symm
  · obtain ⟨n, hn, rfl⟩ := Finset.mem_image.1 hx
    obtain ⟨i, hi⟩ := (mem_bag _ _ _).1 (hA.mem n hn (by have := n.isLt; omega))
    exact Finset.mem_image.2 ⟨i, Finset.mem_univ _, congrArg Prod.snd hi⟩
  · rw [Finset.card_image_of_injOn (s := I), hI.card]
    · exact le_trans Finset.card_image_le (by simp)
    · intro n _ m _ e
      have e' := congrArg BitVec.toNat e
      simp only [BitVec.toNat_ofNat] at e'
      have := n.isLt
      have := m.isLt
      exact Fin.ext (by omega)

end Cert.KnnPick
-- ==== Proof.Spec.lean ====
/- The mathematics both programs compute, over the extended reals: the farthest-point sequence, the squared distances of
   the grouping and the point-wise layers. -/
module

public import Mathlib.Data.EReal.Operations
public import Mathlib.Data.Prod.Lex
public import Mathlib.Order.OrderDual
public import Mathlib.Data.Finset.Max
public import Mathlib.Data.Fin.Basic
public import Mathlib.Order.Fin.Basic
public import Mathlib.Data.Fintype.Basic
public import Mathlib.Algebra.BigOperators.Fin
public import Idealize.ShloMosaic.PureOps.Ideal

@[expose] public section

noncomputable section

namespace Cert.Spec

/-! ## The position of the greatest value -/

/-- `i` holds the greatest value of `f`, and no earlier position does. -/
def IsTop {n : ℕ} (f : Fin n → EReal) (i : Fin n) : Prop := (∀ j, f j ≤ f i) ∧ ∀ j, f j = f i → i ≤ j

theorem IsTop.unique {n : ℕ} {f : Fin n → EReal} {i k : Fin n} (hi : IsTop f i) (hk : IsTop f k) : i = k := by
  have e : f i = f k := le_antisymm (hk.1 i) (hi.1 k)
  exact le_antisymm (hi.2 k e.symm) (hk.2 i e)

theorem exists_isTop {n : ℕ} (f : Fin (n + 1) → EReal) : ∃ i, IsTop f i := by
  obtain ⟨i, -, hi⟩ := Finset.exists_max_image Finset.univ (fun i => toLex (f i, OrderDual.toDual i)) ⟨0, Finset.mem_univ _⟩
  have h (j : Fin (n + 1)) : f j < f i ∨ f j = f i ∧ i ≤ j := by
    simpa [Prod.Lex.toLex_le_toLex] using hi j (Finset.mem_univ _)
  exact ⟨i, fun j => (h j).elim le_of_lt fun e => e.1.le, fun j e => (h j).elim (fun l => absurd e l.ne) And.right⟩

/-- The first position of the greatest value. -/
def top {n : ℕ} (f : Fin (n + 1) → EReal) : Fin (n + 1) := Classical.choose (exists_isTop f)

theorem top_isTop {n : ℕ} (f : Fin (n + 1) → EReal) : IsTop f (top f) := Classical.choose_spec (exists_isTop f)

theorem top_eq {n : ℕ} {f : Fin (n + 1) → EReal} {i : Fin (n + 1)} (h : IsTop f i) : top f = i := (top_isTop f).unique h

/-! ## The farthest-point sequence -/

/-- A cloud: 16384 points of three coordinates. -/
abbrev Cloud := Fin (16383 + 1) → Fin 3 → EReal

/-- The squared distance from point `n` to point `f`. -/
def sqd (P : Cloud) (f n : Fin (16383 + 1)) : EReal :=
  (P n 0 - P f 0) * (P n 0 - P f 0) + (P n 1 - P f 1) * (P n 1 - P f 1) + (P n 2 - P f 2) * (P n 2 - P f 2)

/-- The distances to the nearest centre so far, and the centre to record next. -/
abbrev State := (Fin (16383 + 1) → EReal) × Fin (16383 + 1)

/-- The distances once the state's centre counts too. -/
def nearer (P : Cloud) (s : State) : Fin (16383 + 1) → EReal := fun n => min (s.1 n) (sqd P s.2 n)

/-- One trip: the recorded centre shortens the distances, the next centre is the first farthest point. -/
def trip (P : Cloud) (s : State) : State := (nearer P s, top (nearer P s))

/-- The state before trip `k`, every distance being `big` at first and point 0 the first centre. -/
def state (big : EReal) (P : Cloud) : ℕ → State
  | 0 => (fun _ => big, 0)
  | k + 1 => trip P (state big P k)

theorem state_zero (big : EReal) (P : Cloud) : state big P 0 = (fun _ => big, 0) := rfl
theorem state_succ (big : EReal) (P : Cloud) (k : ℕ) : state big P (k + 1) = trip P (state big P k) := rfl

/-- The `k`-th centre. -/
def centre (big : EReal) (P : Cloud) (k : ℕ) : Fin (16383 + 1) := (state big P k).2

/-! ## The distances of the grouping -/

/-- A point's squared length. -/
def sqlen (p : Fin 3 → EReal) : EReal := p 0 * p 0 + p 1 * p 1 + p 2 * p 2

/-- The inner product. -/
def inner (p q : Fin 3 → EReal) : EReal := p 0 * q 0 + p 1 * q 1 + p 2 * q 2

/-- The squared distance of the grouping: |q|² − 2 q·x + |x|². -/
def gdist (two : EReal) (q x : Fin 3 → EReal) : EReal := sqlen q - two * inner q x + sqlen x

/-! ## The layers -/

/-- A dense layer of `n` inputs and its positive part. -/
def layer {n k : ℕ} (W : Fin k → Fin n → EReal) (b : Fin k → EReal) (x : Fin n → EReal) (o : Fin k) : EReal :=
  max ((∑ i, x i * W o i) + b o) 0

/-- The three layers. -/
def mlp (W1 : Fin 32 → Fin 19 → EReal) (b1 : Fin 32 → EReal) (W2 : Fin 32 → Fin 32 → EReal) (b2 : Fin 32 → EReal)
    (W3 : Fin 64 → Fin 32 → EReal) (b3 : Fin 64 → EReal) (x : Fin 19 → EReal) : Fin 64 → EReal :=
  layer W3 b3 (layer W2 b2 (layer W1 b1 x))

end Cert.Spec
-- ==== Proof.Dot.lean ====
/- A contraction over one axis as a sum over that axis. -/
module

public import Idealize.ShloMosaic.PureOps.Ideal.Laws
public import Idealize.ShloMosaic.Lib.ValueIdx

@[expose] public section

noncomputable section

namespace Cert.Dot

open Idealize.ShloMosaic Idealize.ShloMosaic.ValueIdx

/-- The contraction's terms, one for each place of the contracted axis. -/
theorem sum_contr {sl sr so : Shape} (d : DotDims sl sr so) (K : ℕ) (hr : d.contr.rank = 1) (hs : d.contr.size ⟨0, by omega⟩ = K)
    (x : sl.Idx → EReal) (y : sr.Idx → EReal) (j : so.Idx) (p : Fin K → sl.Idx) (q : Fin K → sr.Idx)
    (hp : ∀ k, d.lhsIdx j ((contrEquiv1 d K hr hs).symm k) = p k) (hq : ∀ k, d.rhsIdx j ((contrEquiv1 d K hr hs).symm k) = q k) :
    ∑ k : d.contr.Idx, x (d.lhsIdx j k) * y (d.rhsIdx j k) = ∑ k : Fin K, x (p k) * y (q k) := by
  refine (Fintype.sum_equiv (contrEquiv1 d K hr hs) _ (fun k => x (p k) * y (q k)) fun k => ?_)
  rw [← hp, ← hq, Equiv.symm_apply_apply]

end Cert.Dot
-- ==== Proof.KnnKernel.lean ====
/- The neighbour kernel's result: the 32 numbers of a column are the numbers of the query's nearest points. -/
module

public import proofs.«01_k».proof.Proof.KnnPick
public import proofs.«01_k».proof.Proof.Spec
public import proofs.«01_k».proof.Proof.Dot
public import Idealize.ShloMosaic.Lib.WritesUnit
public import Idealize.ShloMosaic.Lib.WholeRead
public import Idealize.ShloMosaic.Lib.Pipeline.ValueKit

@[expose] public section

set_option maxRecDepth 16384

noncomputable section

namespace Cert.KnnKernel

open Cert.KernelIdeal Cert.KernelIdeal.Gen Cert.Spec Cert.StageOps Cert.KnnTrip Cert.KnnPick
open Idealize.ShloMosaic hiding ix1 ix2 ix3 ix4 addf_apply subf_apply mulf_apply
open Idealize.ShloMosaic.TcCoe Idealize.ShloMosaic.ValueIdx Idealize.ShloMosaic.Tactic
open Idealize.ShloMosaic.Pipeline (Dat Cfg Window BodyObligation cellOf)

/-- The factor two. -/
abbrev two : EReal := Ideal.ofBits .f32 0x40000000#32

/-- The distance matrix: query `l`'s distance from point `n`. -/
theorem dist_apply (v0 : Vec Ideal S1x16384x3 .f32) (v6 : Vec Ideal S1x1x3x128 .f32) (v10 : Vec Ideal S1x1x1x128 .f32) (n : Fin 16384) (l : Fin 128)
    (hl : v10 (ix4 0 0 0 l) = sqlen fun e => v6 (ix4 0 0 e l)) :
    (k1_pay1 v0 v6 v10 (ix2 n l) : EReal) = gdist two (fun e => v6 (ix4 0 0 e l)) (fun e => v0 (ix3 0 n e)) := by
  have p (e : Fin 3) : shapeCast S16384x3 v0 shapeCasts_S1x16384x3_S16384x3 (ix2 n e) = v0 (ix3 0 n e) := by
    refine shapeCast_apply _ _ _ _ ?_
    refine (Shape.rowMajor_val_three _).trans ((?_ : _ = _).trans (Shape.rowMajor_val_two _).symm)
    show (0 * 16384 + n.val) * 3 + e.val = n.val * 3 + e.val
    omega
  have q (e : Fin 3) : shapeCast S3x128 v6 shapeCasts_S1x1x3x128_S3x128 (ix2 e l) = v6 (ix4 0 0 e l) := by
    refine shapeCast_apply _ _ _ _ ?_
    refine (Shape.rowMajor_val_four _).trans ((?_ : _ = _).trans (Shape.rowMajor_val_two _).symm)
    show ((0 * 1 + 0) * 3 + e.val) * 128 + l.val = e.val * 128 + l.val
    omega
  unfold k1_pay1
  refine (shapeCast_apply _ _ _ (ix2 n l) rfl).trans ?_
  rw [addf_apply, subf_apply, mulf_apply]
  have hq : broadcastTo S16384x128 (shapeCast S1x128 v10 shapeCasts_S1x1x1x128_S1x128) broadcasts_S1x128_S16384x128 (ix2 n l) = v10 (ix4 0 0 0 l) := by
    refine (broadcastTo_apply _ _ _ (ix2 0 l) fun a => by fin_cases a <;> rfl).trans (shapeCast_apply _ _ _ _ ?_)
    refine (Shape.rowMajor_val_four _).trans ((?_ : _ = _).trans (Shape.rowMajor_val_two _).symm)
    show ((0 * 1 + 0) * 1 + 0) * 128 + l.val = 0 * 128 + l.val
    omega
  have hm := Ideal.matmul_constant_zero_apply dot_S16384x3_S3x128_S16384x128_1_0_0_1_n_n none
    (truncf .bf16 (shapeCast S16384x3 v0 shapeCasts_S1x16384x3_S16384x3) bitsLt_bf16_f32) (truncf .bf16 (shapeCast S3x128 v6 shapeCasts_S1x1x3x128_S3x128) bitsLt_bf16_f32) (ix2 n l)
  have hx : (broadcastTo S16384x128 (shapeCast S16384x1 (multiReduction (F := Ideal) (φ := .f32) .add [1] S16384 (mulf (shapeCast S16384x3 v0 shapeCasts_S1x16384x3_S16384x3)
      (shapeCast S16384x3 v0 shapeCasts_S1x16384x3_S16384x3)) 0x00000000#32 reduces_S16384x3_S16384 (.inl rfl) rfl) shapeCasts_S16384_S16384x1)
      broadcasts_S16384x1_S16384x128 (ix2 n l) : EReal) = sqlen fun e => v0 (ix3 0 n e) := by
    refine (broadcastTo_apply _ _ _ (ix2 n 0) fun a => by fin_cases a <;> rfl).trans ((shapeCast_apply _ _ _ (ix1 n) ?_).trans ?_)
    · refine (Shape.rowMajor_val_one _).trans ((?_ : _ = _).trans (Shape.rowMajor_val_two _).symm)
      show n.val = n.val * 1 + 0
      omega
    · refine (Ideal.multiReduction_add_single _ _ _ _ _ _).trans ?_
      refine (Fin.sum_univ_three _).trans ?_
      have el (e : Fin 3) : reduces_S16384x3_S16384.lift (ix1 n) e = ix2 n e := by
        funext a; fin_cases a <;> rfl
      have et (e : Fin 3) : (mulf (F := Ideal) (φ := .f32) (shapeCast S16384x3 v0 shapeCasts_S1x16384x3_S16384x3) (shapeCast S16384x3 v0 shapeCasts_S1x16384x3_S16384x3))
          (reduces_S16384x3_S16384.lift (ix1 n) e) = (v0 (ix3 0 n e) * v0 (ix3 0 n e) : EReal) := by
        rw [el e, mulf_apply, p e]
      exact congrArg₂ (fun x y : EReal => x + y) (congrArg₂ (fun x y : EReal => x + y) (et 0) (et 1)) (et 2)
  have hs := Dot.sum_contr dot_S16384x3_S3x128_S16384x128_1_0_0_1_n_n 3 rfl rfl (shapeCast S16384x3 v0 shapeCasts_S1x16384x3_S16384x3)
    (shapeCast S3x128 v6 shapeCasts_S1x1x3x128_S3x128) (ix2 n l) (fun k => ix2 n k) (fun k => ix2 k l) (fun k => by funext a; fin_cases a <;> rfl)
    (fun k => by funext a; fin_cases a <;> rfl)
  have hi : (∑ k : Fin 3, (shapeCast S16384x3 v0 shapeCasts_S1x16384x3_S16384x3 (ix2 n k) * shapeCast S3x128 v6 shapeCasts_S1x1x3x128_S3x128 (ix2 k l) : EReal)) =
      inner (fun e => v6 (ix4 0 0 e l)) fun e => v0 (ix3 0 n e) := by
    rw [Fin.sum_univ_three, p, p, p, q, q, q, mul_comm (a := (v0 _ : EReal)), mul_comm (a := (v0 (ix3 0 n 1) : EReal)), mul_comm (a := (v0 (ix3 0 n 2) : EReal))]
    rfl
  refine (congrArg₂ (fun x y : EReal => x + y) (congrArg₂ (fun x y : EReal => x - y) (hq.trans hl) (congrArg (fun x : EReal => two * x) (hm.trans (hs.trans hi)))) hx).trans ?_
  rfl

/-! ## The loop -/

theorem trips_eq : k1_t1_loop.trips = 512 := by decide +kernel
theorem lt_trips (k : Fin k1_t1_loop.trips) : k.val < 512 := Nat.lt_of_lt_of_eq k.isLt trips_eq
theorem off_eq : ∀ k : Fin k1_t1_loop.trips, k1_off1 k = ![32 * k.val, 0] := by decide +kernel
theorem start_eq : ∀ k : Fin k1_t1_loop.trips, Scalar.muli (Scf.iv 0#32 1#32 k) 32#32 = BitVec.ofNat 32 (32 * k.val) := by decide +kernel

theorem numbers_apply (k : Fin k1_t1_loop.trips) (i : Fin 32) (l : Fin 128) : numbers k (ix2 i l) = BitVec.ofNat 32 (32 * k.val + i.val) := by
  show BitVec.ofNat 32 (0 * 32 + i.val) + Scalar.muli (Scf.iv 0#32 1#32 k) 32#32 = _
  rw [start_eq, Nat.zero_mul, Nat.zero_add, ← BitVec.ofNat_add, Nat.add_comm]

/-- Rows `32 k, …` of a matrix. -/
def rowsAt (D : FVec Ideal S16384x128 .f32) (k : Fin k1_t1_loop.trips) : FVec Ideal S32x128 .f32 :=
  fun j => D (ix2 ⟨32 * k.val + (j 0).val, by have := lt_trips k; have h : (j 0).val < 32 := (j 0).isLt; omega⟩ (j 1))

/-- The running nearest of a distance matrix before chunk `k`. -/
def run (D : FVec Ideal S16384x128 .f32) : ℕ → Pairs 32
  | 0 => (k1_pay2, k1_pay3)
  | k + 1 => if h : k < k1_t1_loop.trips then next (run D k) (rowsAt D ⟨k, h⟩, numbers ⟨k, h⟩) else run D k

/-- Which points the running nearest of query `l` keeps. -/
theorem kept_run (D : FVec Ideal S16384x128 .f32) (l : Fin 128) (d : Fin 16384 → EReal) (hd : ∀ n, (D (ix2 n l) : EReal) = d n) (I : Finset (Fin 16384)) (hI : Nearest d I) :
    ∀ k, k ≤ 512 → Kept d I k (run D k) l
  | 0, _ => kept_zero fun i => ⟨by
      show Ideal.ofBits .f32 0x7F800000#32 = ⊤
      simp [Ideal.ofBits, Ideal.ieee], rfl⟩
  | k + 1, hk => by
    have hk' : k < k1_t1_loop.trips := by rw [trips_eq]; omega
    show Kept d I (k + 1) (if h : k < k1_t1_loop.trips then _ else _) l
    rw [dif_pos hk']
    exact kept_succ hI (by omega) (kept_run D l d hd I hI k (by omega)) fun i => ⟨hd _, numbers_apply ⟨k, hk'⟩ i l⟩

/-- The numbers the loop ends with, for a query with a set of nearest points. -/
theorem run_end (D : FVec Ideal S16384x128 .f32) (l : Fin 128) (d : Fin 16384 → EReal) (hd : ∀ n, (D (ix2 n l) : EReal) = d n) (I : Finset (Fin 16384)) (hI : Nearest d I) :
    (Finset.univ : Finset (Fin 32)).image (fun i => (run D 512).2 (ix2 i l)) = I.image fun n => BitVec.ofNat 32 n.val :=
  kept_end hI (kept_run D l d hd I hI 512 le_rfl)

/-- A whole block loaded is the block. -/
theorem load_whole {s : Shape} (m : Memref sig .tc .vmem s .f32) (h : m.IsWhole) (x : Vec Ideal s .f32) {off : Fin s.rank → ℕ}
    (hb : ∀ a, off a + s.size a ≤ s.size a) : m.view.readAt (Elt Ideal) (Rect.unit (s := s) off s.size hb).toLoadRect (h.unread x) = x :=
  funext fun i => (h.readAt_unread x _ i).trans (congrArg x (funext fun a => Fin.ext (by
    show off a + 1 * (i a).val = (i a).val
    have := hb a; omega)))

section Loop

variable (c : Dev nD) (t : Fin cfg1.N) (x0 : Vec Ideal S1x16384x3 .f32) (x1 : Vec Ideal S1x1x3x128 .f32) (x2 : Vec Ideal S1x1x1x128 .f32)

/-- The generated loop state is the running nearest of the stored matrix. -/
theorem st_eq (D : FVec Ideal S16384x128 .f32) (X : BufTy.Contents (Elt Ideal) scM1_0.view.ty)
    (hX : ∀ k, chunk scM1_0 X k = rowsAt D k) : ∀ k, k ≤ 512 →
    st_k1_t1 (F := Ideal) Variants.none c none (grid1.coords t) (ms1_0 t) (hs1_0 t) (ms1_1 t) (hs1_1 t) (ms1_2 t) (hs1_2 t) (ms1_3 t) (hs1_3 t) scM1_0 (Memref.isWhole_whole _) X
      (k1_pay2, k1_pay3) k = run D k
  | 0, _ => rfl
  | k + 1, hk => by
    have hk' : k < k1_t1_loop.trips := by rw [trips_eq]; omega
    rw [show k + 1 = (⟨k, hk'⟩ : Fin k1_t1_loop.trips).val + 1 from rfl, st_k1_t1_succ, trip_eq, st_eq D X hX k (by omega), hX]
    show _ = (if h : k < k1_t1_loop.trips then _ else _)
    rw [dif_pos hk']
    rfl

/-- A point's block: the numbers the loop ends with. -/
theorem out_eq (i : Fin 32) (l : Fin 128) : out1_A_3 c (grid1.coords t) (ms1_0 t) (hs1_0 t) (ms1_1 t) (hs1_1 t) (ms1_2 t) (hs1_2 t) (ms1_3 t) (hs1_3 t) scM1_0 (Memref.isWhole_whole _) x0 x1 x2
    (ix4 0 0 i l) = (run (k1_pay1 x0 x1 x2) 512).2 (ix2 i l) := by
  unfold out1_A_3 kernelRun1_A
  dsimp only
  refine (View.read_writes_cons_unit_of_mem _ _ _ _ _ (ix4 0 0 i l) (ix4 0 0 i l) rfl fun a => by fin_cases a <;> exact (Nat.zero_add _).symm).trans ?_
  unfold k1_pay11
  refine (shapeCast_apply _ _ _ (ix2 i l) ?_).trans ?_
  · refine (Shape.rowMajor_val_two _).trans ((?_ : _ = _).trans (Shape.rowMajor_val_four _).symm)
    show i.val * 128 + l.val = ((0 * 1 + 0) * 32 + i.val) * 128 + l.val
    omega
  refine congrArg (fun p : Pairs 32 => p.2 (ix2 i l)) ?_
  refine st_eq c t (k1_pay1 x0 x1 x2) _ (fun k => ?_) 512 le_rfl
  funext j
  unfold chunk
  rw [View.readAt_apply]
  refine (View.read_writes_cons_unit_of_mem (View.whole cc1_scratch0) _ _ _ _ _ (ix2 ⟨32 * k.val + (j 0).val, by have := lt_trips k; have h : (j 0).val < 32 := (j 0).isLt; omega⟩ (j 1)) rfl
    fun a => ?_).trans ?_
  · fin_cases a
    · show k1_off1 k 0 + 1 * (j 0).val = 0 + (32 * k.val + (j 0).val)
      rw [off_eq]
      show 32 * k.val + 1 * (j 0).val = _
      omega
    · show k1_off1 k 1 + 1 * (j 1).val = 0 + (j 1).val
      rw [off_eq]
      show 0 + 1 * (j 1).val = _
      omega
  · rw [load_whole (ms1_0 t) (hs1_0 t) x0 inb_S1x16384x3_S1x16384x3_0_0_0,
      load_whole (ms1_1 t) (hs1_1 t) x1 inb_S1x1x3x128_S1x1x3x128_0_0_0_0,
      load_whole (ms1_2 t) (hs1_2 t) x2 inb_S1x1x1x128_S1x1x1x128_0_0_0_0]
    rfl

end Loop

end Cert.KnnKernel
-- ==== Proof.FpsStep.lean ====
/- One trip of the farthest-point kernel, batch row by batch row: the masked sums are the recorded point's coordinates,
   the distances shorten by that point, and the least position holding the greatest distance is the next point. -/
module

public import proofs.«01_k».proof.Proof.Gen.KernelIdeal.Skeleton
public import proofs.«01_k».proof.Proof.Spec
public import Idealize.ShloMosaic.PureOps.Ideal.Laws
public import Idealize.ShloMosaic.PureOps.Reduce
public import Idealize.ShloMosaic.Lib.ValueIdx
public import Idealize.ShloMosaic.Lib.ValueLayout
public import Idealize.ShloMosaic.Lib.Pipeline.Value

@[expose] public section

noncomputable section

namespace Cert.FpsStep

open Cert.KernelIdeal Cert.KernelIdeal.Gen Cert.Spec
open Idealize.ShloMosaic Idealize.ShloMosaic.Ideal Idealize.ShloMosaic.ValueIdx

/-! ## Folds over a set of positions -/

/-- A fold of an operation that returns one of its two arguments returns the start value or a value it met. -/
theorem fold_mem {α β : Type} (op : β → β → β) [Std.Commutative op] [Std.Associative op] (hop : ∀ a b, op a b = a ∨ op a b = b)
    (b : β) (f : α → β) (s : Finset α) : s.fold op b f = b ∨ ∃ i ∈ s, s.fold op b f = f i := by
  classical
  induction s using Finset.induction_on with
  | empty => exact .inl (Finset.fold_empty ..)
  | insert a s ha ih =>
    rw [Finset.fold_insert ha]
    rcases hop (f a) (s.fold op b f) with e | e
    · exact .inr ⟨a, Finset.mem_insert_self _ _, e⟩
    · rw [e]
      rcases ih with e | ⟨i, hi, e⟩
      · exact .inl e
      · exact .inr ⟨i, Finset.mem_insert_of_mem hi, e⟩

/-- A fold of an operation that goes below both its arguments goes below every value it met. -/
theorem fold_below {α β : Type} (op : β → β → β) [Std.Commutative op] [Std.Associative op] (le : β → β → Prop)
    (htr : ∀ {a b c}, le a b → le b c → le a c) (hl : ∀ a b, le (op a b) a) (hr : ∀ a b, le (op a b) b)
    (b : β) (f : α → β) (s : Finset α) {i : α} (hi : i ∈ s) : le (s.fold op b f) (f i) := by
  classical
  induction s using Finset.induction_on with
  | empty => exact absurd hi (Finset.notMem_empty i)
  | insert a s ha ih =>
    rw [Finset.fold_insert ha]
    rcases Finset.mem_insert.mp hi with rfl | hi
    · exact hl _ _
    · exact htr (hr _ _) (ih hi)

theorem minsi_cases (a b : BitVec 32) : IntOp.minsi a b = a ∨ IntOp.minsi a b = b := by
  unfold IntOp.minsi; split <;> simp

theorem minsi_left (a b : BitVec 32) : (IntOp.minsi a b).toInt ≤ a.toInt := by
  unfold IntOp.minsi
  split
  · exact le_rfl
  · next h => simp only [BitVec.slt, decide_eq_true_eq] at h; omega

theorem minsi_right (a b : BitVec 32) : (IntOp.minsi a b).toInt ≤ b.toInt := by
  unfold IntOp.minsi
  split
  · next h => simp only [BitVec.slt, decide_eq_true_eq] at h; omega
  · exact le_rfl

/-! ## Positions in a plane -/

/-- The point at row `r`, lane `l` of a plane. -/
def pos (r l : Fin 128) : Fin (16383 + 1) := ⟨128 * r.val + l.val, by omega⟩

/-- The row of point `n`. -/
def row (n : Fin (16383 + 1)) : Fin 128 := ⟨n.val / 128, by omega⟩
/-- The lane of point `n`. -/
def lane (n : Fin (16383 + 1)) : Fin 128 := ⟨n.val % 128, by omega⟩

theorem pos_row_lane (n : Fin (16383 + 1)) : pos (row n) (lane n) = n := Fin.ext (Nat.div_add_mod n.val 128)

/-- The word of a position. -/
abbrev word (n : Fin (16383 + 1)) : BitVec 32 := BitVec.ofNat 32 n.val

theorem word_toNat (n : Fin (16383 + 1)) : (word n).toNat = n.val := by
  have := n.isLt
  rw [BitVec.toNat_ofNat]; omega

theorem word_toInt (n : Fin (16383 + 1)) : (word n).toInt = n.val := by
  have := n.isLt
  rw [BitVec.toInt_eq_toNat_of_lt (by rw [word_toNat]; omega), word_toNat]

theorem word_inj {n k : Fin (16383 + 1)} (h : word n = word k) : n = k :=
  Fin.ext (by rw [← word_toNat n, h, word_toNat])

/-- Batch row `b`'s elements of a stack of planes. -/
theorem drop_plane (b : Fin 4) (i : S4x128x128.Idx) :
    reduces_S4x128x128_S4.drop i = ix1 b ↔ ∃ r l : Fin 128, i = (ix3 b r l : S4x128x128.Idx) := by
  constructor
  · intro h
    have h0 : i 0 = b := congrFun h 0
    exact ⟨i 1, i 2, by rw [← h0]; exact eq_ix3 i⟩
  · rintro ⟨r, l, rfl⟩
    funext a; fin_cases a; rfl

theorem mem_plane (b : Fin 4) (r l : Fin 128) :
    (ix3 b r l : S4x128x128.Idx) ∈ Finset.univ.filter fun i : S4x128x128.Idx => reduces_S4x128x128_S4.drop i = ix1 b :=
  Finset.mem_filter.mpr ⟨Finset.mem_univ _, (drop_plane b _).mpr ⟨r, l, rfl⟩⟩

/-! ## The payloads -/

/-- A plane cast to its own shape. -/
theorem pay1_eq (x : Vec Ideal S4x128x128 .f32) : k0_pay1 x = x := funext fun i => shapeCast_apply _ _ _ _ rfl
theorem pay2_eq (x : Vec Ideal S4x128x128 .f32) : k0_pay2 x = x := funext fun i => shapeCast_apply _ _ _ _ rfl
theorem pay3_eq (x : Vec Ideal S4x128x128 .f32) : k0_pay3 x = x := funext fun i => shapeCast_apply _ _ _ _ rfl

/-- The position plane. -/
theorem pay4_apply (r l : Fin 128) : k0_pay4 (ix3 (0 : Fin 1) r l) = word (pos r l) := by
  have e : k0_pay4 (ix3 (0 : Fin 1) r l) = BitVec.ofNat 32 r.val * 128#32 + BitVec.ofNat 32 l.val := by
    unfold k0_pay4
    show IntOp.addi (IntOp.muli (iota _ _ _ _ _ _) _) (iota _ _ _ _ _ _) = _
    rw [iota_single_apply, iota_single_apply]
    rfl
  rw [e]
  apply BitVec.eq_of_toNat_eq
  simp only [BitVec.toNat_add, BitVec.toNat_mul, BitVec.toNat_ofNat, pos]
  omega

theorem bcast_plane (x : IVec S1x128x128 32) (b : Fin 4) (r l : Fin 128) :
    broadcastTo S4x128x128 x broadcasts_S1x128x128_S4x128x128 (ix3 b r l) = x (ix3 0 r l) :=
  broadcastTo_apply x _ _ _ fun a => by fin_cases a <;> rfl

theorem bcast_one {α : Type} (x : S4x1x1.Idx → α) (b : Fin 4) (r l : Fin 128) :
    broadcastTo S4x128x128 x broadcasts_S4x1x1_S4x128x128 (ix3 b r l) = x (ix3 b 0 0) :=
  broadcastTo_apply x _ _ _ fun a => by fin_cases a <;> rfl

theorem cast_one {α : Type} (x : S4.Idx → α) (b : Fin 4) : shapeCast S4x1x1 x shapeCasts_S4_S4x1x1 (ix3 b 0 0) = x (ix1 b) :=
  shapeCast_apply x _ _ _ (by rw [Shape.rowMajor_val_three, Shape.rowMajor_val_one]; show b.val = (b.val * 1 + 0) * 1 + 0; omega)

theorem cast_row {α : Type} (x : S4x1x1.Idx → α) (b : Fin 4) : shapeCast S1x4 x shapeCasts_S4x1x1_S1x4 (ix2 0 b) = x (ix3 b 0 0) :=
  shapeCast_apply x _ _ _ (by rw [Shape.rowMajor_val_three, Shape.rowMajor_val_two]; show (b.val * 1 + 0) * 1 + 0 = 0 * 4 + b.val; omega)

/-- The mask: one at the recorded point, zero elsewhere. -/
theorem pay9_apply (far : IVec S4x1x1 32) (b : Fin 4) (r l : Fin 128) (f : Fin (16383 + 1)) (hf : far (ix3 b 0 0) = word f) :
    k0_pay9 (F := Ideal) k0_pay4 far (ix3 b r l) = if pos r l = f then 1 else 0 := by
  have e : k0_pay9 (F := Ideal) k0_pay4 far (ix3 b r l)
      = ((((IntOp.cmpi .eq (word (pos r l)) (word f)).setWidth 32).toInt : ℝ) : EReal) := by
    unfold k0_pay9
    show ((((IntOp.cmpi .eq (broadcastTo _ _ _ _) (broadcastTo _ _ _ _)).setWidth 32).toInt : ℝ) : EReal) = _
    rw [bcast_plane, bcast_one, hf, pay4_apply]
  rw [e]
  by_cases h : pos r l = f
  · rw [if_pos h, h]
    simp [IntOp.cmpi]
  · rw [if_neg h]
    have hw : ¬ word (pos r l) = word f := fun h' => h (word_inj h')
    have e0 : IntOp.cmpi .eq (word (pos r l)) (word f) = 0#1 := by
      show BitVec.ofBool (word (pos r l) == word f) = 0#1
      rw [beq_eq_false_iff_ne.mpr hw]; rfl
    rw [e0]
    simp

/-- A plane summed under the mask is the recorded point's element. -/
theorem masked_sum (x : FVec Ideal S4x128x128 .f32) (far : IVec S4x1x1 32) (b : Fin 4) (f : Fin (16383 + 1))
    (hf : far (ix3 b 0 0) = word f) :
    multiReduction .add [1, 2] S4 (mulf x (k0_pay9 (F := Ideal) k0_pay4 far)) 0x00000000#32 reduces_S4x128x128_S4 (.inl rfl) rfl (ix1 b)
      = x (ix3 b (row f) (lane f)) := by
  show ∑ i ∈ Finset.univ.filter (fun i => reduces_S4x128x128_S4.drop i = ix1 b), x i * k0_pay9 (F := Ideal) k0_pay4 far i = _
  rw [Finset.sum_eq_single (ix3 b (row f) (lane f) : S4x128x128.Idx)]
  · rw [pay9_apply far b _ _ f hf, if_pos (pos_row_lane f), mul_one]
  · intro i hi hne
    obtain ⟨r, l, rfl⟩ := (drop_plane b i).mp (Finset.mem_filter.mp hi).2
    rw [pay9_apply far b _ _ f hf, if_neg, mul_zero]
    rintro rfl
    apply hne
    have h1 : row (pos r l) = r := by ext; simp [row, pos]; omega
    have h2 : lane (pos r l) = l := by ext; simp [lane, pos]
    rw [h1, h2]
  · intro h
    exact absurd (mem_plane b _ _) h

theorem pay10_apply (x : FVec Ideal S4x128x128 .f32) (far : IVec S4x1x1 32) (b : Fin 4) (f : Fin (16383 + 1))
    (hf : far (ix3 b 0 0) = word f) : k0_pay10 x k0_pay4 far (ix3 b 0 0) = x (ix3 b (row f) (lane f)) :=
  (cast_one _ b).trans (masked_sum x far b f hf)
theorem pay11_apply (x : FVec Ideal S4x128x128 .f32) (far : IVec S4x1x1 32) (b : Fin 4) (f : Fin (16383 + 1))
    (hf : far (ix3 b 0 0) = word f) : k0_pay11 x k0_pay4 far (ix3 b 0 0) = x (ix3 b (row f) (lane f)) :=
  (cast_one _ b).trans (masked_sum x far b f hf)
theorem pay12_apply (x : FVec Ideal S4x128x128 .f32) (far : IVec S4x1x1 32) (b : Fin 4) (f : Fin (16383 + 1))
    (hf : far (ix3 b 0 0) = word f) : k0_pay12 x k0_pay4 far (ix3 b 0 0) = x (ix3 b (row f) (lane f)) :=
  (cast_one _ b).trans (masked_sum x far b f hf)

/-- The distances after a trip. -/
theorem pay16_apply (X Y Z D : FVec Ideal S4x128x128 .f32) (far : IVec S4x1x1 32) (b : Fin 4) (r l : Fin 128) (f : Fin (16383 + 1))
    (hf : far (ix3 b 0 0) = word f) :
    k0_pay16 X Y Z k0_pay4 D far (ix3 b r l) = min (D (ix3 b r l))
      ((X (ix3 b r l) - X (ix3 b (row f) (lane f))) * (X (ix3 b r l) - X (ix3 b (row f) (lane f)))
        + (Y (ix3 b r l) - Y (ix3 b (row f) (lane f))) * (Y (ix3 b r l) - Y (ix3 b (row f) (lane f)))
        + (Z (ix3 b r l) - Z (ix3 b (row f) (lane f))) * (Z (ix3 b r l) - Z (ix3 b (row f) (lane f)))) := by
  rw [← pay10_apply X far b f hf, ← pay11_apply Y far b f hf, ← pay12_apply Z far b f hf]
  unfold k0_pay16
  show min _ ((_ - broadcastTo _ _ _ _) * (_ - broadcastTo _ _ _ _) + (_ - broadcastTo _ _ _ _) * (_ - broadcastTo _ _ _ _)
    + (_ - broadcastTo _ _ _ _) * (_ - broadcastTo _ _ _ _)) = _
  rw [bcast_one, bcast_one, bcast_one]

/-- The greatest of a batch row's elements. -/
theorem max_plane (D : FVec Ideal S4x128x128 .f32) (b : Fin 4) (f : Fin (16383 + 1) → EReal) (hD : ∀ r l, D (ix3 b r l) = f (pos r l)) :
    multiReduction .maximumf [1, 2] S4 D 0xFF800000#32 reduces_S4x128x128_S4 (.inl rfl) rfl (ix1 b) = f (top f) := by
  have hbot : (FloatOps.ofBits .f32 0xFF800000#32 : Ideal .f32) = (⊥ : EReal) := by
    show Ideal.ofBits .f32 0xFF800000#32 = ⊥
    simp [Ideal.ofBits, Ideal.ieee]
  refine (multiReduction_maximumf_eq_fold (F := Ideal) D 0xFF800000#32 reduces_S4x128x128_S4 (.inl rfl) rfl (ix1 b)).trans ?_
  rw [hbot]
  set S := Finset.univ.filter fun i : S4x128x128.Idx => reduces_S4x128x128_S4.drop i = ix1 b with hS
  have hin (n : Fin (16383 + 1)) : (ix3 b (row n) (lane n) : S4x128x128.Idx) ∈ S := mem_plane b _ _
  have hval (n : Fin (16383 + 1)) : D (ix3 b (row n) (lane n)) = f n := by rw [hD, pos_row_lane]
  apply le_antisymm
  · rcases fold_mem (FloatOps.maximumf (F := Ideal) (φ := .f32)) (fun a b => max_choice a b) (⊥ : EReal) D S with e | ⟨i, hi, e⟩
    · rw [e]; exact bot_le
    · obtain ⟨r, l, rfl⟩ := (drop_plane b i).mp (Finset.mem_filter.mp hi).2
      rw [e, hD]
      exact (top_isTop f).1 _
  · rw [← hval (top f)]
    exact fold_below (FloatOps.maximumf (F := Ideal) (φ := .f32)) (fun a b : EReal => b ≤ a) (fun h h' => h'.trans h)
      (fun a b => le_max_left a b) (fun a b => le_max_right a b) (⊥ : EReal) D S (hin _)

/-- The candidates for the next point: a position holding the greatest distance, or a number no position reaches. -/
theorem pay17_apply (X Y Z D : FVec Ideal S4x128x128 .f32) (far : IVec S4x1x1 32) (b : Fin 4) (r l : Fin 128) (f : Fin (16383 + 1) → EReal)
    (hD : ∀ r l, k0_pay16 X Y Z k0_pay4 D far (ix3 b r l) = f (pos r l)) :
    k0_pay17 X Y Z k0_pay4 D far (ix3 b r l) = if f (pos r l) = f (top f) then word (pos r l) else 1073741824#32 := by
  have e : k0_pay17 X Y Z k0_pay4 D far (ix3 b r l)
      = Scalar.select (Ideal.cmp .oeq (f (pos r l)) (f (top f))) (word (pos r l)) 1073741824#32 := by
    unfold k0_pay17
    show Scalar.select (Ideal.cmp .oeq _ (broadcastTo _ _ _ _)) (broadcastTo _ _ _ _) _ = _
    rw [bcast_one, cast_one, max_plane _ b f hD, hD, bcast_plane, shapeCast_apply _ _ _ (ix3 0 r l) rfl, pay4_apply]
    rfl
  rw [e]
  by_cases h : f (pos r l) = f (top f)
  · rw [if_pos h]; simp [Ideal.cmp, h, Scalar.select]
  · rw [if_neg h]; simp [Ideal.cmp, h, Scalar.select]

/-- The least candidate is the first position of the greatest distance. -/
theorem pay7_apply (v : IVec S4x128x128 32) (b : Fin 4) (f : Fin (16383 + 1) → EReal)
    (hv : ∀ r l, v (ix3 b r l) = if f (pos r l) = f (top f) then word (pos r l) else 1073741824#32) :
    k0_pay7 v (ix3 b 0 0) = word (top f) := by
  unfold k0_pay7
  refine (cast_one _ b).trans ?_
  refine (multiReductionI_eq_fold .minsi v _ reduces_S4x128x128_S4 rfl (ix1 b)).trans ?_
  set S := Finset.univ.filter fun i : S4x128x128.Idx => reduces_S4x128x128_S4.drop i = ix1 b with hS
  show S.fold IntOp.minsi 2147483647#32 v = _
  have hin : (ix3 b (row (top f)) (lane (top f)) : S4x128x128.Idx) ∈ S := mem_plane b _ _
  have hle : (S.fold IntOp.minsi 2147483647#32 v).toInt ≤ (word (top f)).toInt := by
    have := fold_below IntOp.minsi (fun a b : BitVec 32 => a.toInt ≤ b.toInt) (fun h h' => h.trans h') minsi_left minsi_right
      2147483647#32 v S hin
    rwa [hv, pos_row_lane, if_pos rfl] at this
  have hlt := (top f).isLt
  rw [word_toInt] at hle
  rcases fold_mem IntOp.minsi minsi_cases 2147483647#32 v S with e | ⟨i, hi, e⟩
  · rw [e] at hle
    have : (2147483647#32 : BitVec 32).toInt = 2147483647 := by decide
    omega
  · obtain ⟨r, l, rfl⟩ := (drop_plane b i).mp (Finset.mem_filter.mp hi).2
    rw [hv] at e
    split at e
    · next h =>
      rw [e, word_toInt] at hle
      rw [e]
      have h1 : top f ≤ pos r l := (top_isTop f).2 _ h
      have h2 : pos r l ≤ top f := by rw [Fin.le_def]; omega
      rw [le_antisymm h2 h1]
    · rw [e] at hle
      have : (1073741824#32 : BitVec 32).toInt = 1073741824 := by decide
      omega

/-! ## One trip -/

/-- The loop's carried value stands for the state of every batch row. -/
def Stands (acc : FVec Ideal S4x128x128 .f32 × IVec S4x1x1 32) (s : Fin 4 → State) : Prop :=
  ∀ b, (∀ r l, acc.1 (ix3 b r l) = (s b).1 (pos r l)) ∧ acc.2 (ix3 b 0 0) = word (s b).2

/-- The three planes hold the clouds. -/
def Planes (X Y Z : FVec Ideal S4x128x128 .f32) (P : Fin 4 → Cloud) : Prop :=
  ∀ b r l, X (ix3 b r l) = P b (pos r l) 0 ∧ Y (ix3 b r l) = P b (pos r l) 1 ∧ Z (ix3 b r l) = P b (pos r l) 2

/-- A trip takes the state of every batch row one step on. -/
theorem stands_trip {X Y Z : FVec Ideal S4x128x128 .f32} {P : Fin 4 → Cloud} (hP : Planes X Y Z P)
    {acc : FVec Ideal S4x128x128 .f32 × IVec S4x1x1 32} {s : Fin 4 → State} (h : Stands acc s) :
    Stands (k0_pay16 X Y Z k0_pay4 acc.1 acc.2, k0_pay7 (k0_pay17 X Y Z k0_pay4 acc.1 acc.2)) (fun b => trip (P b) (s b)) := by
  intro b
  have hd (r l : Fin 128) : k0_pay16 X Y Z k0_pay4 acc.1 acc.2 (ix3 b r l) = nearer (P b) (s b) (pos r l) := by
    rw [pay16_apply X Y Z acc.1 acc.2 b r l (s b).2 (h b).2, (h b).1]
    simp only [(hP b _ _).1, (hP b _ _).2.1, (hP b _ _).2.2, pos_row_lane]
    rfl
  refine ⟨hd, ?_⟩
  have := pay7_apply (k0_pay17 X Y Z k0_pay4 acc.1 acc.2) b (nearer (P b) (s b)) fun r l => pay17_apply X Y Z acc.1 acc.2 b r l _ hd
  simp only [trip]
  exact this

theorem pay5_apply (i : S4x128x128.Idx) : (k0_pay5 (F := Ideal)) i = Ideal.ofBits .f32 0x501502F9#32 := by
  unfold k0_pay5; rfl

theorem pay6_apply (i : S4x1x1.Idx) : k0_pay6 i = word 0 := by
  unfold k0_pay6 word
  rw [Fin.val_zero]
  rfl

/-- Before the first trip. -/
theorem stands_start (P : Fin 4 → Cloud) :
    Stands (k0_pay5 (F := Ideal), k0_pay6) fun b => state (Ideal.ofBits .f32 0x501502F9#32) (P b) 0 := by
  intro b
  simp only [state_zero]
  exact ⟨fun r l => pay5_apply _, pay6_apply _⟩

end Cert.FpsStep
-- ==== Proof.FpsKernel.lean ====
/- The farthest-point kernel's four result arrays: row `k` holds the `k`-th centre of every batch row and its coordinates. -/
module

public import proofs.«01_k».proof.Proof.Gen.KernelIdeal.Frame
public import proofs.«01_k».proof.Proof.FpsStep
public import Idealize.ShloMosaic.Lib.WritesUnit
public import Idealize.ShloMosaic.Lib.WholeRead
public import Idealize.ShloMosaic.Lib.Pipeline.ValueKit

@[expose] public section

set_option maxRecDepth 16384

noncomputable section

namespace Cert.FpsKernel

open Cert.KernelIdeal Cert.KernelIdeal.Gen Cert.Spec Cert.FpsStep
open Idealize.ShloMosaic hiding ix1 ix2 ix3 ix4
open Idealize.ShloMosaic.TcCoe Idealize.ShloMosaic.ValueIdx Idealize.ShloMosaic.Tactic
open Idealize.ShloMosaic.Pipeline (Dat Cfg Window BodyObligation cellOf)

section Trips

variable {F : FTy → Type} [FloatOps F]
variable (c : Dev nD) (t : Fin cfg0.N) (x0 x1 x2 : Vec F S4x128x128 .f32)

/-- The loop's state before trip `k`: the carried value and what each result's stores left, over the three planes. -/
abbrev st (k : ℕ) := st_k0_t1 (F := F) Variants.none c none (ms0_0 t) (hs0_0 t) (ms0_1 t) (hs0_1 t) (ms0_2 t) (hs0_2 t) (ms0_3 t) (hs0_3 t)
  (ms0_4 t) (hs0_4 t) (ms0_5 t) (hs0_5 t) (ms0_6 t) (hs0_6 t) x0 x1 x2 (k0_pay5, k0_pay6) k

/-- One trip: the new carried value, and one row stored into every result. -/
theorem st_succ (k : Fin k0_t1_loop.trips) : st c t x0 x1 x2 (k.val + 1) =
    ((k0_pay16 (k0_pay1 x0) (k0_pay2 x1) (k0_pay3 x2) k0_pay4 (st c t x0 x1 x2 k).1.1 (st c t x0 x1 x2 k).1.2,
      k0_pay7 (k0_pay17 (k0_pay1 x0) (k0_pay2 x1) (k0_pay3 x2) k0_pay4 (st c t x0 x1 x2 k).1.1 (st c t x0 x1 x2 k).1.2)),
      ⟨Rect.unit (s := S1024x4) (k0_off1 k) S1x4.size (k0_off1_inb k), k0_pay8 (st c t x0 x1 x2 k).1.2⟩ :: (st c t x0 x1 x2 k).2.1,
      ⟨Rect.unit (s := S1024x4) (k0_off1 k) S1x4.size (k0_off1_inb k), k0_pay13 (k0_pay1 x0) k0_pay4 (st c t x0 x1 x2 k).1.2⟩ :: (st c t x0 x1 x2 k).2.2.1,
      ⟨Rect.unit (s := S1024x4) (k0_off1 k) S1x4.size (k0_off1_inb k), k0_pay14 (k0_pay2 x1) k0_pay4 (st c t x0 x1 x2 k).1.2⟩ :: (st c t x0 x1 x2 k).2.2.2.1,
      ⟨Rect.unit (s := S1024x4) (k0_off1 k) S1x4.size (k0_off1_inb k), k0_pay15 (k0_pay3 x2) k0_pay4 (st c t x0 x1 x2 k).1.2⟩ :: (st c t x0 x1 x2 k).2.2.2.2) := by
  rw [st, st_k0_t1_succ]
  unfold tripR_k0_t1 tripL_k0_t1 trip_k0_t1
  rfl

theorem trips_eq : k0_t1_loop.trips = 1024 := by decide +kernel

end Trips

variable (c : Dev nD) (t : Fin cfg0.N) (X Y Z : Vec Ideal S4x128x128 .f32) (P : Fin 4 → Cloud)

/-- The start distance. -/
abbrev big : EReal := Ideal.ofBits .f32 0x501502F9#32

/-- The carried value before trip `k` stands for the state before trip `k`. -/
theorem stands (hP : Planes X Y Z P) : ∀ k, k ≤ 1024 → Stands (st c t X Y Z k).1 fun b => state big (P b) k
  | 0, _ => stands_start P
  | k + 1, hk => by
    have ih := stands hP k (by omega)
    have hk' : k < k0_t1_loop.trips := by rw [trips_eq]; omega
    rw [st_succ c t X Y Z ⟨k, hk'⟩]
    simp only [pay1_eq, pay2_eq, pay3_eq]
    exact stands_trip hP ih

/-- Rows stored one by one: row `j` reads what trip `j` stored. -/
theorem read_rows {e : EltTy} (v : View sig .tc .vmem S1024x4 e) (f : v.ty.Contents (Elt Ideal))
    (L : ℕ → List (View.Piece (Elt Ideal) S1024x4 e)) (w : ℕ → S1x4.Idx → Elt Ideal e)
    (hL : ∀ k (hk : k < k0_t1_loop.trips), L (k + 1)
      = ⟨Rect.unit (s := S1024x4) (k0_off1 ⟨k, hk⟩) S1x4.size (k0_off1_inb ⟨k, hk⟩), w k⟩ :: L k) (j : Fin 1024) (b : Fin 4) :
    ∀ k, k ≤ 1024 → j.val < k → v.read (Elt Ideal) (v.writes (Elt Ideal) f (L k)) (ix2 j b) = w j.val (ix2 0 b)
  | 0, _, h => absurd h (Nat.not_lt_zero _)
  | k + 1, hk, h => by
    have hk' : k < k0_t1_loop.trips := by rw [trips_eq]; omega
    rw [hL k hk']
    by_cases hj : j.val = k
    · subst hj
      exact View.read_writes_cons_rows_of_mem v f _ _ _ (ix2 j b) (ix2 0 b) (k0_off1_eq ⟨j.val, hk'⟩) rfl rfl
    · rw [View.read_writes_cons_rows_of_not_mem (W := 1) v f _ _ _ (ix2 j b) (k0_off1_eq ⟨k, hk'⟩) rfl (.inl (by show j.val < k; omega))]
      exact read_rows v f L w hL j b k (by omega) (by omega)

/-- A whole plane stack loaded is the stack. -/
theorem load_plane (m : Memref sig .tc .vmem S4x128x128 .f32) (h : m.IsWhole) (x : Vec Ideal S4x128x128 .f32) :
    m.view.readAt (Elt Ideal) (Rect.unit (s := S4x128x128) ![0, 0, 0] S4x128x128.size inb_S4x128x128_S4x128x128_0_0_0).toLoadRect
      (h.unread x) = x :=
  funext fun i => (h.readAt_unread x _ i).trans (congrArg x (funext fun a => Fin.ext (by
    fin_cases a <;> (show 0 + 1 * _ = _; omega))))

/-- What the body leaves in the four results' buffers is what the trips stored. -/
theorem pieces : (kernelRun0_A c (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) X Y Z).1 = (st c t X Y Z 1024).2.1
    ∧ (kernelRun0_A c (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) X Y Z).2.1 = (st c t X Y Z 1024).2.2.1
    ∧ (kernelRun0_A c (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) X Y Z).2.2.1 = (st c t X Y Z 1024).2.2.2.1
    ∧ (kernelRun0_A c (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) X Y Z).2.2.2.1 = (st c t X Y Z 1024).2.2.2.2 := by
  unfold kernelRun0_A
  dsimp only
  rw [← trips_eq]
  refine ⟨?_, ?_, ?_, ?_⟩ <;> (congr 5 <;> exact load_plane _ _ _)

/-- Row `j` of the first result is the `j`-th centre. -/
theorem out3_eq (hP : Planes X Y Z P) (j : Fin 1024) (b : Fin 4) :
    out0_A_3 c (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) X Y Z (ix2 j b) = word (centre big (P b) j) := by
  unfold out0_A_3
  rw [(pieces c t X Y Z).1, read_rows VO0_3 _ (fun k => (st c t X Y Z k).2.1) (fun k => k0_pay8 (st c t X Y Z k).1.2)
    (fun k hk => by rw [st_succ c t X Y Z ⟨k, hk⟩]) j b 1024 le_rfl j.isLt]
  exact (cast_row _ b).trans ((stands c t X Y Z P hP j (by omega)) b).2

/-- Row `j` of the second result is the `j`-th centre's first coordinate, -/
theorem out4_eq (hP : Planes X Y Z P) (j : Fin 1024) (b : Fin 4) :
    out0_A_4 c (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) X Y Z (ix2 j b) = P b (centre big (P b) j) 0 := by
  unfold out0_A_4
  rw [(pieces c t X Y Z).2.1, read_rows VO0_4 _ (fun k => (st c t X Y Z k).2.2.1)
    (fun k => k0_pay13 (k0_pay1 X) k0_pay4 (st c t X Y Z k).1.2) (fun k hk => by rw [st_succ c t X Y Z ⟨k, hk⟩]) j b 1024 le_rfl j.isLt]
  refine (cast_row _ b).trans ((pay10_apply _ _ b _ ((stands c t X Y Z P hP j (by omega)) b).2).trans ?_)
  rw [pay1_eq, (hP b _ _).1, pos_row_lane]
  rfl

/-- of the third its second, -/
theorem out5_eq (hP : Planes X Y Z P) (j : Fin 1024) (b : Fin 4) :
    out0_A_5 c (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) X Y Z (ix2 j b) = P b (centre big (P b) j) 1 := by
  unfold out0_A_5
  rw [(pieces c t X Y Z).2.2.1, read_rows VO0_5 _ (fun k => (st c t X Y Z k).2.2.2.1)
    (fun k => k0_pay14 (k0_pay2 Y) k0_pay4 (st c t X Y Z k).1.2) (fun k hk => by rw [st_succ c t X Y Z ⟨k, hk⟩]) j b 1024 le_rfl j.isLt]
  refine (cast_row _ b).trans ((pay11_apply _ _ b _ ((stands c t X Y Z P hP j (by omega)) b).2).trans ?_)
  rw [pay2_eq, (hP b _ _).2.1, pos_row_lane]
  rfl

/-- of the fourth its third. -/
theorem out6_eq (hP : Planes X Y Z P) (j : Fin 1024) (b : Fin 4) :
    out0_A_6 c (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) X Y Z (ix2 j b) = P b (centre big (P b) j) 2 := by
  unfold out0_A_6
  rw [(pieces c t X Y Z).2.2.2, read_rows VO0_6 _ (fun k => (st c t X Y Z k).2.2.2.2)
    (fun k => k0_pay15 (k0_pay3 Z) k0_pay4 (st c t X Y Z k).1.2) (fun k hk => by rw [st_succ c t X Y Z ⟨k, hk⟩]) j b 1024 le_rfl j.isLt]
  refine (cast_row _ b).trans ((pay12_apply _ _ b _ ((stands c t X Y Z P hP j (by omega)) b).2).trans ?_)
  rw [pay3_eq, (hP b _ _).2.2, pos_row_lane]
  rfl

section Arrays

variable (V : (c : Dev nD) → (b : Ref sig .tc) → Buf (Elt Ideal) ((c.tc : Thread nD τ).loc b))

/-- The planes as the region finds them. -/
abbrev Found (V : (c : Dev nD) → (b : Ref sig .tc) → Buf (Elt Ideal) ((c.tc : Thread nD τ).loc b)) (c : Dev nD) (P : Fin 4 → Cloud) : Prop :=
  Planes (V c (Pipeline.arrRef spec0 0)) (V c (Pipeline.arrRef spec0 1)) (V c (Pipeline.arrRef spec0 2)) P

/-- The region reads each plane stack whole. -/
theorem blk0 (c : Dev nD) : iblk0 V c 0 t0_0 = V c (Pipeline.arrRef spec0 0) := by
  funext j; unfold iblk0; blk_simp
  exact congrArg (V c main_v2) (funext fun a => Fin.ext (by
    fin_cases a <;> blk_simp <;> (show 0 * _ + _ = _; rw [Nat.zero_mul, Nat.zero_add])))
theorem blk1 (c : Dev nD) : iblk0 V c 1 t0_0 = V c (Pipeline.arrRef spec0 1) := by
  funext j; unfold iblk0; blk_simp
  exact congrArg (V c main_v5) (funext fun a => Fin.ext (by
    fin_cases a <;> blk_simp <;> (show 0 * _ + _ = _; rw [Nat.zero_mul, Nat.zero_add])))
theorem blk2 (c : Dev nD) : iblk0 V c 2 t0_0 = V c (Pipeline.arrRef spec0 2) := by
  funext j; unfold iblk0; blk_simp
  exact congrArg (V c main_v8) (funext fun a => Fin.ext (by
    fin_cases a <;> blk_simp <;> (show 0 * _ + _ = _; rw [Nat.zero_mul, Nat.zero_add])))

theorem arr3 (c : Dev nD) (P : Fin 4 → Cloud) (hP : Found V c P) :
    (dat0 V c).arrAt 3 cfg0.N = fun i : S1024x4.Idx => word (centre big (P (i 1)) (i 0).val) := by
  refine (dat0 V c).arrAt_eq_of_after_last 3 t0_0 (by decide +kernel) _ fun j => ?_
  blk_simp
  rw [after0_3, outsAt0, blk0, blk1, blk2]
  exact (congrArg _ (ValueIdx.eq_ix2 (n0 := 1024) (n1 := 4) j)).trans (out3_eq c t0_0 _ _ _ P hP (j 0) (j 1))

theorem arr4 (c : Dev nD) (P : Fin 4 → Cloud) (hP : Found V c P) :
    (dat0 V c).arrAt 4 cfg0.N = fun i : S1024x4.Idx => P (i 1) (centre big (P (i 1)) (i 0).val) 0 := by
  refine (dat0 V c).arrAt_eq_of_after_last 4 t0_0 (by decide +kernel) _ fun j => ?_
  blk_simp
  rw [after0_4, outsAt0, blk0, blk1, blk2]
  exact (congrArg _ (ValueIdx.eq_ix2 (n0 := 1024) (n1 := 4) j)).trans (out4_eq c t0_0 _ _ _ P hP (j 0) (j 1))

theorem arr5 (c : Dev nD) (P : Fin 4 → Cloud) (hP : Found V c P) :
    (dat0 V c).arrAt 5 cfg0.N = fun i : S1024x4.Idx => P (i 1) (centre big (P (i 1)) (i 0).val) 1 := by
  refine (dat0 V c).arrAt_eq_of_after_last 5 t0_0 (by decide +kernel) _ fun j => ?_
  blk_simp
  rw [after0_5, outsAt0, blk0, blk1, blk2]
  exact (congrArg _ (ValueIdx.eq_ix2 (n0 := 1024) (n1 := 4) j)).trans (out5_eq c t0_0 _ _ _ P hP (j 0) (j 1))

theorem arr6 (c : Dev nD) (P : Fin 4 → Cloud) (hP : Found V c P) :
    (dat0 V c).arrAt 6 cfg0.N = fun i : S1024x4.Idx => P (i 1) (centre big (P (i 1)) (i 0).val) 2 := by
  refine (dat0 V c).arrAt_eq_of_after_last 6 t0_0 (by decide +kernel) _ fun j => ?_
  blk_simp
  rw [after0_6, outsAt0, blk0, blk1, blk2]
  exact (congrArg _ (ValueIdx.eq_ix2 (n0 := 1024) (n1 := 4) j)).trans (out6_eq c t0_0 _ _ _ P hP (j 0) (j 1))

end Arrays

end Cert.FpsKernel
-- ==== Proof.FpsHost.lean ====
/- The kernel's host code round the farthest-point kernel: the planes it is given, and the first result and the queries made of
   what it returns. -/
module

public import proofs.«01_k».proof.Proof.FpsKernel
public import Idealize.ShloMosaic.Lib.ValueLayout
public import Idealize.ShloMosaic.PureOps.Ideal.Laws

@[expose] public section

set_option maxRecDepth 16384

noncomputable section

namespace Cert.FpsHost

open Cert.KernelIdeal Cert.KernelIdeal.Gen Cert.Spec Cert.FpsStep Cert.FpsKernel
open Idealize.ShloMosaic hiding ix1 ix2 ix3 ix4
open Idealize.ShloMosaic.TcCoe Idealize.ShloMosaic.Tactic Idealize.ShloMosaic.ValueIdx
open Idealize.ShloMosaic.StableHlo hiding reshape

/-- Batch row `b` of the points as a cloud. -/
def cloud (x : FVec Ideal S4x16384x3 .f32) (b : Fin 4) : Cloud := fun n e => x (ix3 b n e)

/-! ## The planes -/

/-- One coordinate of every point, laid out in 128 rows of 128. -/
theorem plane_apply (x : FVec Ideal S4x16384x3 .f32) (e : Fin 3) (hs : S4x16384x3.Slices ![0, 0, e.val] S4x16384x1) (b : Fin 4) (r l : Fin 128) :
    shapeCast S4x128x128 (shapeCast S4x16384 (extractStridedSlice S4x16384x1 ![0, 0, e.val] x hs) shapeCasts_S4x16384x1_S4x16384)
      shapeCasts_S4x16384_S4x128x128 (ix3 b r l) = cloud x b (pos r l) e := by
  refine (shapeCast_apply _ _ _ (ix2 b (pos r l)) ?_).trans ?_
  · refine (Shape.rowMajor_val_two _).trans ((?_ : _ = _).trans (Shape.rowMajor_val_three _).symm)
    show b.val * 16384 + (128 * r.val + l.val) = (b.val * 128 + r.val) * 128 + l.val
    omega
  refine (shapeCast_apply _ _ _ (ix3 b (pos r l) (0 : Fin 1)) ?_).trans ?_
  · refine (Shape.rowMajor_val_three _).trans ((?_ : _ = _).trans (Shape.rowMajor_val_two _).symm)
    show (b.val * 16384 + (pos r l).val) * 1 + 0 = b.val * 16384 + (pos r l).val
    omega
  exact extractStridedSlice_apply _ _ _ _ (ix3 b (pos r l) e) fun a => by
    fin_cases a
    · show b.val = 0 + b.val; omega
    · show (pos r l).val = 0 + (pos r l).val; omega
    · show e.val = e.val + 0; omega

variable (m : (ℓ : Loc nD τ sig) → Buf (Elt Ideal) ℓ) (ρ : Dev nD → PrngReg)

/-- The points. -/
abbrev pts (c : Dev nD) : FVec Ideal S4x16384x3 .f32 := m (c.tc.loc main_arg0)

theorem pre_v2 (Y : Valuation τ sig (Elt Ideal)) : after hostOps0 Y (Proc.devRef .tc main_v2)
    = shapeCast S4x128x128 (shapeCast S4x16384 (extractStridedSlice S4x16384x1 ![0, 0, (0 : Fin 3).val]
        (Y (Proc.devRef .tc main_arg0) : FVec Ideal S4x16384x3 .f32) slices_S4x16384x3_S4x16384x1_0_0_0) shapeCasts_S4x16384x1_S4x16384)
      shapeCasts_S4x16384_S4x128x128 := by after_results; rfl
theorem pre_v5 (Y : Valuation τ sig (Elt Ideal)) : after hostOps0 Y (Proc.devRef .tc main_v5)
    = shapeCast S4x128x128 (shapeCast S4x16384 (extractStridedSlice S4x16384x1 ![0, 0, (1 : Fin 3).val]
        (Y (Proc.devRef .tc main_arg0) : FVec Ideal S4x16384x3 .f32) slices_S4x16384x3_S4x16384x1_0_0_1) shapeCasts_S4x16384x1_S4x16384)
      shapeCasts_S4x16384_S4x128x128 := by after_results; rfl
theorem pre_v8 (Y : Valuation τ sig (Elt Ideal)) : after hostOps0 Y (Proc.devRef .tc main_v8)
    = shapeCast S4x128x128 (shapeCast S4x16384 (extractStridedSlice S4x16384x1 ![0, 0, (2 : Fin 3).val]
        (Y (Proc.devRef .tc main_arg0) : FVec Ideal S4x16384x3 .f32) slices_S4x16384x3_S4x16384x1_0_0_2) shapeCasts_S4x16384x1_S4x16384)
      shapeCasts_S4x16384_S4x128x128 := by after_results; rfl

/-- The kernel finds the clouds in its planes. -/
theorem found (c : Dev nD) : Found (V1 m ρ) c (cloud (pts m c)) := fun b r l =>
  ⟨(congrFun (pre_v2 (W0 m ρ c)) _).trans (plane_apply (pts m c) 0 _ b r l),
    (congrFun (pre_v5 (W0 m ρ c)) _).trans (plane_apply (pts m c) 1 _ b r l),
    (congrFun (pre_v8 (W0 m ρ c)) _).trans (plane_apply (pts m c) 2 _ b r l)⟩

/-! ## What is made of the kernel's results -/

/-- The three coordinates side by side. -/
abbrev beside (p q r : FVec Ideal S1024x4 .f32) : FVec Ideal S4x1024x3 .f32 :=
  concatenate S4x1024x3 2 [⟨S4x1024x1, broadcastInDim S4x1024x1 ![0, 1] bcast_S4x1024_S4x1024x1_0_1 (transpose S4x1024 [1, 0] p transposes_S1024x4_S4x1024_1_0)⟩,
    ⟨S4x1024x1, broadcastInDim S4x1024x1 ![0, 1] bcast_S4x1024_S4x1024x1_0_1 (transpose S4x1024 [1, 0] q transposes_S1024x4_S4x1024_1_0)⟩,
    ⟨S4x1024x1, broadcastInDim S4x1024x1 ![0, 1] bcast_S4x1024_S4x1024x1_0_1 (transpose S4x1024 [1, 0] r transposes_S1024x4_S4x1024_1_0)⟩]
    concatenates_S4x1024x1_S4x1024x1_S4x1024x1_S4x1024x3_d2

theorem turned_apply (p : FVec Ideal S1024x4 .f32) (b : Fin 4) (n : Fin 1024) :
    broadcastInDim S4x1024x1 ![0, 1] bcast_S4x1024_S4x1024x1_0_1 (transpose S4x1024 [1, 0] p transposes_S1024x4_S4x1024_1_0)
      (ix3 b n (0 : Fin 1)) = p (ix2 n b) :=
  (broadcastInDim_apply _ _ _ _ (ix2 b n) fun a => by fin_cases a <;> rfl).trans (transpose_ix2_apply _ _ _ _)

theorem beside_apply (p q r : FVec Ideal S1024x4 .f32) (b : Fin 4) (n : Fin 1024) (e : Fin 3) :
    beside p q r (ix3 b n e) = ![p (ix2 n b), q (ix2 n b), r (ix2 n b)] e := by
  have side (a : Fin 3) (ha : a ≠ 2) (e : Fin 3) : ((ix3 b n (0 : Fin 1) : S4x1024x1.Idx) a).val = ((ix3 b n e : S4x1024x3.Idx) a).val := by
    fin_cases a
    · rfl
    · rfl
    · exact absurd rfl ha
  fin_cases e
  · exact (concatenate_apply_piece (t := S4x1024x3) 2 _ _ _ 0 (Nat.lt_of_lt_of_eq (show 0 < 3 by decide) rfl) S4x1024x1 _ rfl rfl 0 rfl (ix3 b n (0 : Fin 1)) (fun a ha => side a ha _) rfl).trans
      (turned_apply p b n)
  · exact (concatenate_apply_piece (t := S4x1024x3) 2 _ _ _ 1 (Nat.lt_of_lt_of_eq (show 1 < 3 by decide) rfl) S4x1024x1 _ rfl rfl 1 rfl (ix3 b n (0 : Fin 1)) (fun a ha => side a ha _) rfl).trans
      (turned_apply q b n)
  · exact (concatenate_apply_piece (t := S4x1024x3) 2 _ _ _ 2 (Nat.lt_of_lt_of_eq (show 2 < 3 by decide) rfl) S4x1024x1 _ rfl rfl 2 rfl (ix3 b n (0 : Fin 1)) (fun a ha => side a ha _) rfl).trans
      (turned_apply r b n)

theorem mid_v17 (Y : Valuation τ sig (Elt Ideal)) : after hostOps1 Y (Proc.devRef .tc main_v17)
    = beside (Y (Proc.devRef .tc main_v9_1)) (Y (Proc.devRef .tc main_v9_2)) (Y (Proc.devRef .tc main_v9_3)) := by
  after_results; rfl

/-- The queries: coordinate by coordinate, 8 blocks of 128. -/
abbrev queries (z : FVec Ideal S4x1024x3 .f32) : FVec Ideal S4x8x3x128 .f32 :=
  transpose S4x8x3x128 [0, 2, 1, 3] (shapeCast S4x3x8x128 (transpose S4x3x1024 [0, 2, 1] z transposes_S4x1024x3_S4x3x1024_0_2_1)
    shapeCasts_S4x3x1024_S4x3x8x128) transposes_S4x3x8x128_S4x8x3x128_0_2_1_3

/-- Their squared lengths. -/
abbrev lengths (z : FVec Ideal S4x1024x3 .f32) : FVec Ideal S4x8x1x128 .f32 :=
  shapeCast S4x8x1x128 (Host.reduceAdd (mulf z z) (constant S_ .f32 0x00000000#32) reducesTo_S4x1024x3_S4x1024_d2 h_S_)
    shapeCasts_S4x1024_S4x8x1x128

theorem mid_v22 (Y : Valuation τ sig (Elt Ideal)) : after hostOps1 Y (Proc.devRef .tc main_v22)
    = queries (after hostOps1 Y (Proc.devRef .tc main_v17)) := by
  after_results; rfl

theorem mid_v23 (Y : Valuation τ sig (Elt Ideal)) : after hostOps1 Y (Proc.devRef .tc main_v23)
    = lengths (after hostOps1 Y (Proc.devRef .tc main_v17)) := by
  after_results; rfl

/-- Query `128 g + l`. -/
def query (g : Fin 8) (l : Fin 128) : Fin 1024 := ⟨128 * g.val + l.val, by omega⟩

theorem queries_apply (z : FVec Ideal S4x1024x3 .f32) (b : Fin 4) (g : Fin 8) (e : Fin 3) (l : Fin 128) :
    queries z (ix4 b g e l) = z (ix3 b (query g l) e) := by
  refine (transpose_apply _ _ _ _ (ix4 b e g l) fun a => by fin_cases a <;> rfl).trans ?_
  refine (shapeCast_apply _ _ _ (ix3 b e (query g l)) ?_).trans (transpose_ix3_021_apply _ _ _ _ _)
  refine (Shape.rowMajor_val_three _).trans ((?_ : _ = _).trans (Shape.rowMajor_val_four _).symm)
  show (b.val * 3 + e.val) * 1024 + (128 * g.val + l.val) = ((b.val * 3 + e.val) * 8 + g.val) * 128 + l.val
  omega

theorem lengths_apply (z : FVec Ideal S4x1024x3 .f32) (b : Fin 4) (g : Fin 8) (l : Fin 128) :
    lengths z (ix4 b g (0 : Fin 1) l) = sqlen fun e => z (ix3 b (query g l) e) := by
  refine (shapeCast_apply _ _ _ (ix2 b (query g l)) ?_).trans ?_
  · refine (Shape.rowMajor_val_two _).trans ((?_ : _ = _).trans (Shape.rowMajor_val_four _).symm)
    show b.val * 1024 + (128 * g.val + l.val) = ((b.val * 8 + g.val) * 1 + 0) * 128 + l.val
    omega
  refine (Ideal.hostReduceAdd_single _ (by decide) _ _ _).trans ?_
  have h0 : (constant (F := Ideal) S_ .f32 0x00000000#32) (Shape.Idx.first h_S_) = (0 : EReal) := Ideal.ofBits_zero_f32
  rw [h0, zero_add]
  refine (Fin.sum_univ_three _).trans ?_
  have t (e : Fin 3) (i : S4x1024x3.Idx) (hi : i = ix3 b (query g l) e) : mulf z z i = z (ix3 b (query g l) e) * z (ix3 b (query g l) e) := by
    rw [hi]; rfl
  rw [t 0 _ (by funext a; fin_cases a <;> rfl), t 1 _ (by funext a; fin_cases a <;> rfl), t 2 _ (by funext a; fin_cases a <;> rfl)]
  rfl

/-- The centres' coordinates, as the host code puts them together. -/
theorem centres (c : Dev nD) (b : Fin 4) (n : Fin 1024) (e : Fin 3) :
    (W3 m ρ c (Proc.devRef .tc main_v17) : FVec Ideal S4x1024x3 .f32) (ix3 b n e)
      = cloud (pts m c) b (centre big (cloud (pts m c) b) n.val) e := by
  have h1 : W2 m ρ c (Proc.devRef .tc main_v9_1) = _ := (W2_arr m ρ c 4).trans (arr4 (V1 m ρ) c _ (found m ρ c))
  have h2 : W2 m ρ c (Proc.devRef .tc main_v9_2) = _ := (W2_arr m ρ c 5).trans (arr5 (V1 m ρ) c _ (found m ρ c))
  have h3 : W2 m ρ c (Proc.devRef .tc main_v9_3) = _ := (W2_arr m ρ c 6).trans (arr6 (V1 m ρ) c _ (found m ρ c))
  rw [W3, mid_v17, h1, h2, h3, beside_apply]
  fin_cases e <;> rfl

/-- The first result is not written again. -/
theorem result0 (c : Dev nD) : W7 m ρ c (Proc.devRef .tc main_v17) = W3 m ρ c (Proc.devRef .tc main_v17) := by
  rw [W7, after_of_writes_sub hostOps3 _ hostOps3_writes (by decide +kernel),
    W6_of_ne m ρ c main_v17 (by decide +kernel), W5, after_of_writes_sub hostOps2 _ hostOps2_writes (by decide +kernel),
    W4_of_ne m ρ c main_v17 (by decide +kernel)]

end Cert.FpsHost
-- ==== Proof.KnnHost.lean ====
/- The neighbour kernel's array, from its blocks: for every query the numbers the loop ends with, which are the numbers of the
   query's nearest points. -/
module

public import proofs.«01_k».proof.Proof.KnnKernel
public import proofs.«01_k».proof.Proof.FpsHost

@[expose] public section

set_option maxRecDepth 16384

noncomputable section

namespace Cert.KnnHost

open Cert.KernelIdeal Cert.KernelIdeal.Gen Cert.Spec Cert.KnnPick Cert.KnnKernel Cert.FpsHost
open Idealize.ShloMosaic hiding ix1 ix2 ix3 ix4 addf_apply subf_apply mulf_apply
open Idealize.ShloMosaic.TcCoe Idealize.ShloMosaic.ValueIdx Idealize.ShloMosaic.Tactic
open Idealize.ShloMosaic.Pipeline (Dat Cfg Window)

/-- A batch row of the points. -/
abbrev rowBlock (x : FVec Ideal S4x16384x3 .f32) (b : Fin 4) : Vec Ideal S1x16384x3 .f32 := fun y => x (ix3 b (y 1) (y 2))
/-- A block of queries. -/
abbrev queryBlock (x : FVec Ideal S4x8x3x128 .f32) (b : Fin 4) (g : Fin 8) : Vec Ideal S1x1x3x128 .f32 := fun y => x (ix4 b g (y 2) (y 3))
/-- Their squared lengths. -/
abbrev lengthBlock (x : FVec Ideal S4x8x1x128 .f32) (b : Fin 4) (g : Fin 8) : Vec Ideal S1x1x1x128 .f32 := fun y => x (ix4 b g (y 2) (y 3))

/-- The batch row and the block of queries of a grid point. -/
def row (t : Fin cfg1.N) : Fin 4 := (grid1.coords t) 0
def group (t : Fin cfg1.N) : Fin 8 := (grid1.coords t) 1

theorem at0 : ∀ t : Fin cfg1.N, win1_0.index t = ![(row t).val, 0, 0] := (by decide +kernel : ∀ t : Fin grid1.N, _)
theorem at1 : ∀ t : Fin cfg1.N, win1_1.index t = ![(row t).val, (group t).val, 0, 0] := (by decide +kernel : ∀ t : Fin grid1.N, _)
theorem at2 : ∀ t : Fin cfg1.N, win1_2.index t = ![(row t).val, (group t).val, 0, 0] := (by decide +kernel : ∀ t : Fin grid1.N, _)
theorem at3 : ∀ t : Fin cfg1.N, win1_3.index t = ![(row t).val, (group t).val, 0, 0] := (by decide +kernel : ∀ t : Fin grid1.N, _)

section Arrays

variable (V : (c : Dev nD) → (b : Ref sig .tc) → Buf (Elt Ideal) ((c.tc : Thread nD τ).loc b))

theorem blk0 (c : Dev nD) (t : Fin cfg1.N) : iblk1 V c 0 t = rowBlock (V c main_arg0) (row t) := by
  funext j; unfold iblk1; blk_ext [at0 t]
theorem blk1 (c : Dev nD) (t : Fin cfg1.N) : iblk1 V c 1 t = queryBlock (V c main_v22) (row t) (group t) := by
  funext j; unfold iblk1; blk_ext [at1 t]
theorem blk2 (c : Dev nD) (t : Fin cfg1.N) : iblk1 V c 2 t = lengthBlock (V c main_v23) (row t) (group t) := by
  funext j; unfold iblk1; blk_ext [at2 t]

/-- The array of numbers. -/
theorem arr (c : Dev nD) : (dat1 V c).arrAt 3 cfg1.N = fun i : S4x8x32x128.Idx =>
    (run (k1_pay1 (rowBlock (V c main_arg0) (i 0)) (queryBlock (V c main_v22) (i 0) (i 1)) (lengthBlock (V c main_v23) (i 0) (i 1))) 512).2 (ix2 (i 2) (i 3)) := by
  refine (dat1 V c).arrAt_eq_of_covers 3 _ (by decide +kernel) fun t hf y => ?_
  blk_simp
  rw [after1_3, outsAt1, blk0, blk1, blk2]
  have e : (win1_3.blk t).view.emb y = (ix4 (row t) (group t) (y 2) (y 3) : S4x8x32x128.Idx) := by
    have h0 : (y 0).val < 1 := (y 0).isLt
    have h1 : (y 1).val < 1 := (y 1).isLt
    blk_ext [at3 t]
  have ey : y = (ix4 0 0 (y 2) (y 3) : S1x1x32x128.Idx) := by
    have h0 : (y 0).val < 1 := (y 0).isLt
    have h1 : (y 1).val < 1 := (y 1).isLt
    funext a; refine Fin.ext ?_
    fin_cases a
    · show (y 0).val = 0; omega
    · show (y 1).val = 0; omega
    · rfl
    · rfl
  refine Eq.trans ?_ (congrArg (fun i : S4x8x32x128.Idx => (run (k1_pay1 (rowBlock (V c main_arg0) (i 0)) (queryBlock (V c main_v22) (i 0) (i 1)) (lengthBlock (V c main_v23) (i 0) (i 1))) 512).2 (ix2 (i 2) (i 3))) e.symm)
  exact (congrArg _ ey).trans (out_eq c t _ _ _ (y 2) (y 3))

/-- The numbers of a query with a set of nearest points are the numbers of that set. -/
theorem arr_set (c : Dev nD) (z : FVec Ideal S4x1024x3 .f32) (hq : V c main_v22 = queries z) (hl : V c main_v23 = lengths z)
    (b : Fin 4) (g : Fin 8) (l : Fin 128) (I : Finset (Fin 16384))
    (hI : Nearest (fun n => gdist two (fun e => z (ix3 b (query g l) e)) (cloud (V c main_arg0) b n)) I) :
    (Finset.univ : Finset (Fin 32)).image (fun i => ((dat1 V c).arrAt 3 cfg1.N : IVec S4x8x32x128 32) (ix4 b g i l)) = I.image fun n => BitVec.ofNat 32 n.val := by
  refine Eq.trans ?_ (run_end (k1_pay1 (rowBlock (V c main_arg0) b) (queryBlock (V c main_v22) b g) (lengthBlock (V c main_v23) b g)) l _ (fun n => ?_) I hI)
  · rw [arr]
  · refine (dist_apply _ _ _ n l ?_).trans ?_
    · show V c main_v23 (ix4 b g 0 l) = sqlen fun e => V c main_v22 (ix4 b g e l)
      rw [hq, hl]
      refine (lengths_apply z b g l).trans (congrArg sqlen (funext fun e => (queries_apply z b g e l).symm))
    · show gdist two (fun e => V c main_v22 (ix4 b g e l)) _ = _
      rw [hq]
      exact congrArg (fun q => gdist two q _) (funext fun e => queries_apply z b g e l)

end Arrays

variable (m : (ℓ : Loc nD τ sig) → Buf (Elt Ideal) ℓ) (ρ : Dev nD → PrngReg)

/-- The kernel's numbers, from its array as the run leaves it. -/
theorem numbers_set (c : Dev nD) (b : Fin 4) (g : Fin 8) (l : Fin 128) (I : Finset (Fin 16384))
    (hI : Nearest (fun n => gdist two (fun e => cloud (pts m c) b (centre FpsKernel.big (cloud (pts m c) b) (query g l).val) e) (cloud (pts m c) b n)) I) :
    (Finset.univ : Finset (Fin 32)).image (fun i => (W4 m ρ c (Proc.devRef .tc main_v24) : IVec S4x8x32x128 32) (ix4 b g i l))
      = I.image fun n => BitVec.ofNat 32 n.val := by
  have h := arr_set (V3 m ρ) c (W3 m ρ c (Proc.devRef .tc main_v17)) (mid_v22 _) (mid_v23 _) b g l I (by
    have e0 : V3 m ρ c main_arg0 = pts m c := (W3_of m ρ c main_arg0 (by decide +kernel)).trans ((W2_of_ne m ρ c main_arg0 (by decide +kernel)).trans
      (W1_of m ρ c main_arg0 (by decide +kernel)))
    rw [e0]
    refine (congrArg (fun q => Nearest (fun n => gdist two q (cloud (pts m c) b n)) I) (funext fun e => ?_)).mpr hI
    exact centres m ρ c b (query g l) e)
  refine Eq.trans ?_ h
  have hw : W4 m ρ c (Proc.devRef .tc main_v24) = _ := W4_arr m ρ c 3
  rw [hw]

end Cert.KnnHost
-- ==== Proof.Dense.lean ====
/- A dense layer with its positive part, as the programs spell it and as the specification does. -/
module

public import proofs.«01_k».proof.Proof.Dot
public import proofs.«01_k».proof.Proof.Spec
public import Idealize.ShloMosaic.Lib.ValueLayout

@[expose] public section

noncomputable section

namespace Cert.Dense

open Idealize.ShloMosaic Idealize.ShloMosaic.ValueIdx Cert.Spec

/-- A matrix's shape. -/
abbrev mat (n k : ℕ) : Shape := ⟨2, ![n, k]⟩

/-- Rows by a weight matrix, a bias for every row, and the positive part. -/
theorem layer_apply {M n k : ℕ} (d : DotDims (mat M n) (mat n k) (mat M k)) (hr : d.contr.rank = 1) (hs : d.contr.size ⟨0, by omega⟩ = n)
    (hp : ∀ r o i, d.lhsIdx (ix2 r o) ((contrEquiv1 d n hr hs).symm i) = ix2 r i)
    (hq : ∀ r o i, d.rhsIdx (ix2 r o) ((contrEquiv1 d n hr hs).symm i) = ix2 i o)
    (x : FVec Ideal (mat M n) .f32) (w : FVec Ideal (mat n k) .f32) (b : FVec Ideal (mat 1 k) .f32)
    (hw : (mat n k).ShapeCasts (mat n k)) (hb : (mat 1 k).ShapeCasts (mat 1 k)) (hB : (mat 1 k).Broadcasts (mat M k)) (r : Fin M) (o : Fin k) :
    maximumf (addf (matmul d none x (shapeCast (mat n k) w hw) (constant (mat M k) .f32 0x00000000#32)) (broadcastTo (mat M k) (shapeCast (mat 1 k) b hb) hB))
        (broadcast (mat M k) (Scalar.ofBits .f32 0x00000000#32)) (ix2 r o)
      = layer (fun o i => w (ix2 i o)) (fun o => b (ix2 0 o)) (fun i => x (ix2 r i)) o := by
  rw [shapeCast_self, shapeCast_self, maximumf_apply, addf_apply]
  have h0 : broadcast (mat M k) (Scalar.ofBits (F := Ideal) .f32 0x00000000#32) (ix2 r o) = (0 : EReal) := Ideal.ofBits_zero_f32
  have hb : broadcastTo (mat M k) b hB (ix2 r o) = b (ix2 0 o) := broadcastTo_apply _ _ _ _ fun a => by
    fin_cases a
    · rfl
    · show o.val = if k = 1 then 0 else o.val
      split
      · have := o.isLt; omega
      · rfl
  have hm : matmul d none x w (constant (mat M k) .f32 0x00000000#32) (ix2 r o) = (∑ i, x (ix2 r i) * w (ix2 i o) : EReal) :=
    (Ideal.matmul_constant_zero_apply d none x w (ix2 r o)).trans (Dot.sum_contr d n hr hs x w (ix2 r o) (fun i => ix2 r i) (fun i => ix2 i o) (hp r o) (hq r o))
  rw [h0, hb, hm]
  rfl

/-- The greatest over a family is the greatest over what the family takes. -/
theorem fold_image {ι κ : Type} [DecidableEq κ] (s : Finset ι) (N : ι → κ) (g : κ → EReal) :
    s.fold max ⊥ (fun i => g (N i)) = (s.image N).sup g := by
  rw [Finset.sup_image]
  rfl

end Cert.Dense
-- ==== Proof.MlpKernel.lean ====
/- The layers' kernel: for every point the greatest, over its 32 rows, of the three layers. -/
module

public import proofs.«01_k».proof.Proof.Gen.KernelIdeal.Frame
public import proofs.«01_k».proof.Proof.Dense
public import Idealize.ShloMosaic.Lib.Pipeline.ValueKit

@[expose] public section

set_option maxRecDepth 16384

noncomputable section

namespace Cert.MlpKernel

open Cert.KernelIdeal Cert.KernelIdeal.Gen Cert.Spec Cert.Dense
open Idealize.ShloMosaic hiding ix1 ix2 ix3 ix4 addf_apply subf_apply mulf_apply
open Idealize.ShloMosaic.TcCoe Idealize.ShloMosaic.ValueIdx Idealize.ShloMosaic.Tactic
open Idealize.ShloMosaic.Pipeline (Dat Cfg Window)

/-- Row `32 p + i` of a block. -/
def rowOf (p : Fin 64) (i : Fin 32) : Fin 2048 := ⟨32 * p.val + i.val, by omega⟩

/-- The three layers of the weights as the kernel has them. -/
abbrev layers (w1 : FVec Ideal S19x32 .f32) (b1 : FVec Ideal S1x32 .f32) (w2 : FVec Ideal S32x32 .f32) (b2 : FVec Ideal S1x32 .f32)
    (w3 : FVec Ideal S32x64 .f32) (b3 : FVec Ideal S1x64 .f32) : (Fin 19 → EReal) → Fin 64 → EReal :=
  mlp (fun o i => w1 (ix2 i o)) (fun o => b1 (ix2 0 o)) (fun o i => w2 (ix2 i o)) (fun o => b2 (ix2 0 o)) (fun o i => w3 (ix2 i o)) (fun o => b3 (ix2 0 o))

/-- A block's result. -/
theorem pay_apply (x : Vec Ideal S2048x19 .f32) (w1 : Vec Ideal S19x32 .f32) (b1 : Vec Ideal S1x32 .f32) (w2 : Vec Ideal S32x32 .f32) (b2 : Vec Ideal S1x32 .f32)
    (w3 : Vec Ideal S32x64 .f32) (b3 : Vec Ideal S1x64 .f32) (p o : Fin 64) :
    k2_pay1 x w1 b1 w2 b2 w3 b3 (ix2 p o)
      = (Finset.univ : Finset (Fin 32)).fold max ⊥ (fun i => layers w1 b1 w2 b2 w3 b3 (fun e => x (ix2 (rowOf p i) e)) o) := by
  unfold k2_pay1
  dsimp only
  refine (Ideal.multiReduction_maximumf_single _ _ _ _ _ _).trans ?_
  have hb : (FloatOps.ofBits .f32 0xFF800000#32 : Ideal .f32) = (⊥ : EReal) := by
    show Ideal.ofBits .f32 0xFF800000#32 = ⊥
    simp [Ideal.ofBits, Ideal.ieee]
  rw [hb]
  refine congrArg (fun f => (Finset.univ : Finset (Fin 32)).fold max ⊥ f) (funext fun i => ?_)
  have hl : reduces_S64x32x64_S64x64.lift (ix2 p o) i = ix3 p i o := by funext a; fin_cases a <;> rfl
  refine (congrArg _ hl).trans ?_
  refine (shapeCast_apply _ _ _ (ix2 (rowOf p i) o) ?_).trans ?_
  · refine (Shape.rowMajor_val_two _).trans ((?_ : _ = _).trans (Shape.rowMajor_val_three _).symm)
    show (32 * p.val + i.val) * 64 + o.val = (p.val * 32 + i.val) * 64 + o.val
    omega
  refine (layer_apply dot_S2048x32_S32x64_S2048x64_1_0_0_1_n_n rfl rfl (fun r o i => by funext a; fin_cases a <;> rfl) (fun r o i => by funext a; fin_cases a <;> rfl)
    _ w3 b3 _ _ _ _ _).trans ?_
  refine congrArg (fun y => layer _ _ y o) (funext fun i2 => ?_)
  refine (layer_apply dot_S2048x32_S32x32_S2048x32_1_0_0_1_n_n rfl rfl (fun r o i => by funext a; fin_cases a <;> rfl) (fun r o i => by funext a; fin_cases a <;> rfl)
    _ w2 b2 _ _ _ _ _).trans ?_
  refine congrArg (fun y => layer _ _ y i2) (funext fun i1 => ?_)
  refine (layer_apply dot_S2048x19_S19x32_S2048x32_1_0_0_1_n_n rfl rfl (fun r o i => by funext a; fin_cases a <;> rfl) (fun r o i => by funext a; fin_cases a <;> rfl)
    _ w1 b1 _ _ _ _ _).trans ?_
  rw [shapeCast_self]

/-- Row `2048 t + r` of all the rows, point `64 t + p` of all the points. -/
def rowAt (t : Fin cfg2.N) (r : Fin 2048) : Fin 131072 := ⟨2048 * t.val + r.val, by have : t.val < 64 := t.isLt; omega⟩
def pointRow (p : Fin 4096) (i : Fin 32) : Fin 131072 := ⟨32 * p.val + i.val, by omega⟩

theorem at0 : ∀ t : Fin cfg2.N, win2_0.index t = ![t.val, 0] := (by decide +kernel : ∀ t : Fin grid2.N, _)
theorem at1 : ∀ t : Fin cfg2.N, win2_1.index t = ![0, 0] := (by decide +kernel : ∀ t : Fin grid2.N, _)
theorem at2 : ∀ t : Fin cfg2.N, win2_2.index t = ![0, 0] := (by decide +kernel : ∀ t : Fin grid2.N, _)
theorem at3 : ∀ t : Fin cfg2.N, win2_3.index t = ![0, 0] := (by decide +kernel : ∀ t : Fin grid2.N, _)
theorem at4 : ∀ t : Fin cfg2.N, win2_4.index t = ![0, 0] := (by decide +kernel : ∀ t : Fin grid2.N, _)
theorem at5 : ∀ t : Fin cfg2.N, win2_5.index t = ![0, 0] := (by decide +kernel : ∀ t : Fin grid2.N, _)
theorem at6 : ∀ t : Fin cfg2.N, win2_6.index t = ![0, 0] := (by decide +kernel : ∀ t : Fin grid2.N, _)
theorem at7 : ∀ t : Fin cfg2.N, win2_7.index t = ![t.val, 0] := (by decide +kernel : ∀ t : Fin grid2.N, _)

section Arrays

variable (V : (c : Dev nD) → (b : Ref sig .tc) → Buf (Elt Ideal) ((c.tc : Thread nD τ).loc b))

theorem blk0 (c : Dev nD) (t : Fin cfg2.N) (r : Fin 2048) (e : Fin 19) :
    iblk2 V c 0 t (ix2 r e) = (V c main_v46 : FVec Ideal S131072x19 .f32) (ix2 (rowAt t r) e) := by
  unfold iblk2; blk_ext [at0 t, rowAt]
  show t.val * 2048 + r.val = 2048 * t.val + r.val
  omega
theorem blk1 (c : Dev nD) (t : Fin cfg2.N) : iblk2 V c 1 t = V c main_v47 := by funext j; unfold iblk2; blk_ext [at1 t]
theorem blk2 (c : Dev nD) (t : Fin cfg2.N) : iblk2 V c 2 t = V c main_v48 := by funext j; unfold iblk2; blk_ext [at2 t]
theorem blk3 (c : Dev nD) (t : Fin cfg2.N) : iblk2 V c 3 t = V c main_v49 := by funext j; unfold iblk2; blk_ext [at3 t]
theorem blk4 (c : Dev nD) (t : Fin cfg2.N) : iblk2 V c 4 t = V c main_v50 := by funext j; unfold iblk2; blk_ext [at4 t]
theorem blk5 (c : Dev nD) (t : Fin cfg2.N) : iblk2 V c 5 t = V c main_v51 := by funext j; unfold iblk2; blk_ext [at5 t]
theorem blk6 (c : Dev nD) (t : Fin cfg2.N) : iblk2 V c 6 t = V c main_v52 := by funext j; unfold iblk2; blk_ext [at6 t]

/-- One point's result: the greatest over its 32 rows. -/
abbrev pooled (x : FVec Ideal S131072x19 .f32) (L : (Fin 19 → EReal) → Fin 64 → EReal) (p : Fin 4096) (o : Fin 64) : EReal :=
  (Finset.univ : Finset (Fin 32)).fold max ⊥ (fun i => L (fun e => x (ix2 (pointRow p i) e)) o)

/-- The array of all points. -/
theorem arr (c : Dev nD) : (dat2 V c).arrAt 7 cfg2.N = fun i : S4096x64.Idx =>
    pooled (V c main_v46) (layers (V c main_v47) (V c main_v48) (V c main_v49) (V c main_v50) (V c main_v51) (V c main_v52)) (i 0) (i 1) := by
  refine (dat2 V c).arrAt_eq_of_covers 7 _ (by decide +kernel) fun t hf y => ?_
  blk_simp
  rw [after2_7]; frame_out
  have ht : t.val < 64 := t.isLt
  have hy : (y 0).val < 64 := (y 0).isLt
  have e : (win2_7.blk t).view.emb y = (ix2 ⟨64 * t.val + (y 0).val, by omega⟩ (y 1) : S4096x64.Idx) := by blk_ext [at7 t]
  refine Eq.trans ?_ (congrArg (fun i : S4096x64.Idx =>
    pooled (V c main_v46) (layers (V c main_v47) (V c main_v48) (V c main_v49) (V c main_v50) (V c main_v51) (V c main_v52)) (i 0) (i 1)) e.symm)
  have ey : y = (ix2 (y 0) (y 1) : S64x64.Idx) := ValueIdx.eq_ix2 (n0 := 64) (n1 := 64) y
  refine (congrArg _ ey).trans ((pay_apply _ _ _ _ _ _ _ (y 0) (y 1)).trans ?_)
  refine congrArg (fun f => (Finset.univ : Finset (Fin 32)).fold max ⊥ f) (funext fun i => ?_)
  rw [blk1, blk2, blk3, blk4, blk5, blk6]
  refine congrArg (fun x => layers _ _ _ _ _ _ x (y 1)) (funext fun e => ?_)
  refine (blk0 V c t _ e).trans (congrArg (fun r => (V c main_v46 : FVec Ideal S131072x19 .f32) (ix2 r e)) (Fin.ext ?_))
  show 2048 * t.val + (32 * (y 0).val + i.val) = 32 * (64 * t.val + (y 0).val) + i.val
  omega

end Arrays

end Cert.MlpKernel
-- ==== Proof.Gather.lean ====
/- The programs' gathers entry by entry: the entry of a row that an index word points at. -/
module

public import Idealize.ShloMosaic.PureOps.ShapeOps
public import Idealize.ShloMosaic.Lib.ValueIdxCore

@[expose] public section

namespace Cert.Gather

open Idealize.ShloMosaic
open Idealize.ShloMosaic.ValueIdx

/-- A shape of two axes. -/
abbrev s2 (a b : ℕ) : Shape := ⟨2, ![a, b]⟩
/-- A shape of three axes. -/
abbrev s3 (a b c : ℕ) : Shape := ⟨3, ![a, b, c]⟩
/-- A shape of four axes. -/
abbrev s4 (a b c e : ℕ) : Shape := ⟨4, ![a, b, c, e]⟩

/-- Pairs of words (batch row, point) pick rows of a table. -/
theorem pair {α : Type} {B N C : ℕ} (wf : GatherDims.WF (s3 B N C) (s2 B 2) (s2 B C) [1] [0, 1] [] [0, 1] [] 1 ![1, 1, C])
    (x : (s3 B N C).Idx → α) (idx : IVec (s2 B 2) 32) (j b : Fin B) (n : Fin N) (e : Fin C)
    (hb : (idx (ix2 j (0 : Fin 2))).toInt = b.val) (hn : (idx (ix2 j (1 : Fin 2))).toInt = n.val) :
    Host.gather (⟨[1], [0, 1], [], [], [0, 1], 1, ![1, 1, C], wf⟩ : GatherDims (s3 B N C) (s2 B 2) (s2 B C)) x idx (ix2 j e)
      = x (ix3 b n e) := by
  have i0 (h) : GatherDims.siIdx (⟨[1], [0, 1], [], [], [0, 1], 1, ![1, 1, C], wf⟩ : GatherDims (s3 B N C) (s2 B 2) (s2 B C)) (ix2 j e) ⟨0, h⟩
      = ix2 j (0 : Fin 2) := by funext a; fin_cases a <;> rfl
  have i1 (h) : GatherDims.siIdx (⟨[1], [0, 1], [], [], [0, 1], 1, ![1, 1, C], wf⟩ : GatherDims (s3 B N C) (s2 B 2) (s2 B C)) (ix2 j e) ⟨1, h⟩
      = ix2 j (1 : Fin 2) := by funext a; fin_cases a <;> rfl
  refine congrArg x (funext fun a => Fin.ext ?_)
  fin_cases a
  · refine (congrArg (fun i => min (idx i).toInt.toNat (B - 1) + 0 + 0) (i0 _)).trans ?_
    show min (idx _).toInt.toNat (B - 1) + 0 + 0 = b.val
    rw [hb, Int.toNat_natCast]; omega
  · refine (congrArg (fun i => min (idx i).toInt.toNat (N - 1) + 0 + 0) (i1 _)).trans ?_
    show min (idx _).toInt.toNat (N - 1) + 0 + 0 = n.val
    rw [hn, Int.toNat_natCast]; omega
  · show 0 + 0 + e.val = e.val
    omega

/-- In every batch row one word per place picks a row of the table. -/
theorem rows {α : Type} {B N M C : ℕ} (wf : GatherDims.WF (s3 B N C) (s3 B M 1) (s3 B M C) [2] [1] [0] [1] [0] 2 ![1, 1, C])
    (x : (s3 B N C).Idx → α) (idx : IVec (s3 B M 1) 32) (b : Fin B) (m : Fin M) (n : Fin N) (e : Fin C)
    (hn : (idx (ix3 b m (0 : Fin 1))).toInt = n.val) :
    Host.gather (⟨[2], [1], [0], [0], [1], 2, ![1, 1, C], wf⟩ : GatherDims (s3 B N C) (s3 B M 1) (s3 B M C)) x idx (ix3 b m e)
      = x (ix3 b n e) := by
  have i0 (h) : GatherDims.siIdx (⟨[2], [1], [0], [0], [1], 2, ![1, 1, C], wf⟩ : GatherDims (s3 B N C) (s3 B M 1) (s3 B M C)) (ix3 b m e) ⟨0, h⟩
      = ix3 b m (0 : Fin 1) := by funext a; fin_cases a <;> rfl
  refine congrArg x (funext fun a => Fin.ext ?_)
  fin_cases a
  · show 0 + b.val + 0 = b.val
    omega
  · refine (congrArg (fun i => min (idx i).toInt.toNat (N - 1) + 0 + 0) (i0 _)).trans ?_
    show min (idx _).toInt.toNat (N - 1) + 0 + 0 = n.val
    rw [hn, Int.toNat_natCast]; omega
  · show 0 + 0 + e.val = e.val
    omega

/-- The same with two axes of places. -/
theorem grid {α : Type} {B N M K C : ℕ}
    (wf : GatherDims.WF (s3 B N C) (s4 B M K 1) (s4 B M K C) [3] [1] [0] [1] [0] 3 ![1, 1, C])
    (x : (s3 B N C).Idx → α) (idx : IVec (s4 B M K 1) 32) (b : Fin B) (m : Fin M) (k : Fin K) (n : Fin N) (e : Fin C)
    (hn : (idx (ix4 b m k (0 : Fin 1))).toInt = n.val) :
    Host.gather (⟨[3], [1], [0], [0], [1], 3, ![1, 1, C], wf⟩ : GatherDims (s3 B N C) (s4 B M K 1) (s4 B M K C)) x idx (ix4 b m k e)
      = x (ix3 b n e) := by
  have i0 (h) : GatherDims.siIdx (⟨[3], [1], [0], [0], [1], 3, ![1, 1, C], wf⟩ : GatherDims (s3 B N C) (s4 B M K 1) (s4 B M K C)) (ix4 b m k e) ⟨0, h⟩
      = ix4 b m k (0 : Fin 1) := by funext a; fin_cases a <;> rfl
  refine congrArg x (funext fun a => Fin.ext ?_)
  fin_cases a
  · show 0 + b.val + 0 = b.val
    omega
  · refine (congrArg (fun i => min (idx i).toInt.toNat (N - 1) + 0 + 0) (i0 _)).trans ?_
    show min (idx _).toInt.toNat (N - 1) + 0 + 0 = n.val
    rw [hn, Int.toNat_natCast]; omega
  · show 0 + 0 + e.val = e.val
    omega

end Cert.Gather
-- ==== Proof.Words.lean ====
/- Index words: the wrap of negative indices that the host code prints leaves a word that is not negative as it is. -/
module

public import Idealize.ShloMosaic.Lib.Routing.OpsOne
public import Idealize.ShloMosaic.Lib.Routing.OpsPair
public import Idealize.ShloMosaic.Lib.ValueIdx
public import Idealize.ShloMosaic.Lib.Pipeline.Value

@[expose] public section

namespace Cert.Words

open Idealize.ShloMosaic Idealize.ShloMosaic.ValueIdx

/-- A word of a number below 2³¹ read signed. -/
theorem toInt_ofNat {n : ℕ} (h : n < 2 ^ 31) : (BitVec.ofNat 32 n).toInt = n := StableHlo.Predicate.toInt_ofNat_small _ h

/-- The wrapped word, where the word is the number's. -/
theorem wrap {s : Shape} (w z N : IVec s 32) (j : s.Idx) {n : ℕ} (hn : n < 2 ^ 31) (hz : z j = 0#32) (hw : w j = BitVec.ofNat 32 n) :
    select (cmpi .slt w z) (addi w N) w j = BitVec.ofNat 32 n := by
  show Scalar.select (IntOp.cmpi .slt (w j) (z j)) (w j + N j) (w j) = _
  rw [hz, hw]
  exact Routing.wrap_of_lt _ _ (by rw [BitVec.toNat_ofNat]; omega)

end Cert.Words
-- ==== Proof.Group.lean ====
/- The grouping that both programs write the same way: a neighbour's three coordinates from its centre's, and its 16 features. -/
module

public import proofs.«01_k».proof.Proof.Gen.KernelIdeal.Frame
public import proofs.«01_k».proof.Proof.Gather
public import proofs.«01_k».proof.Proof.Words
public import proofs.«01_k».proof.Proof.Spec
public import Idealize.ShloMosaic.Lib.ValueLayout
public import Idealize.ShloMosaic.PureOps.Ideal.Laws

@[expose] public section

set_option maxRecDepth 16384

noncomputable section

namespace Cert.Group

open Cert.KernelIdeal Cert.KernelIdeal.Gen
open Idealize.ShloMosaic Idealize.ShloMosaic.ValueIdx

/-- The neighbours' numbers, a negative one counted from the end. -/
abbrev words (w : IVec S4x1024x32 32) : IVec S4x1024x32x1 32 :=
  broadcastInDim S4x1024x32x1 ![0, 1, 2] bcast_S4x1024x32_S4x1024x32x1_0_1_2
    (select (cmpi .slt w (broadcastInDim S4x1024x32 ![] bcast_S_S4x1024x32 (constantI S_ 32 0#32)))
      (addi w (broadcastInDim S4x1024x32 ![] bcast_S_S4x1024x32 (constantI S_ 32 16384#32))) w)

/-- The rows the layers are given. -/
abbrev grouped (x : FVec Ideal S4x16384x3 .f32) (z : FVec Ideal S4x1024x3 .f32) (f : FVec Ideal S4x16x16384 .f32) (w : IVec S4x1024x32 32) :
    FVec Ideal S4x1024x32x19 .f32 :=
  concatenate S4x1024x32x19 3
    [⟨S4x1024x32x3, subf (Host.gather gather_S4x16384x3_S4x1024x32x1_S4x1024x32x3_3_1_0_0_1_3_113 x (words w))
        (broadcastInDim S4x1024x32x3 ![0, 1, 2, 3] bcast_S4x1024x1x3_S4x1024x32x3_0_1_2_3
          (broadcastInDim S4x1024x1x3 ![0, 1, 3] bcast_S4x1024x3_S4x1024x1x3_0_1_3 z))⟩,
      ⟨S4x1024x32x16, Host.gather gather_S4x16384x16_S4x1024x32x1_S4x1024x32x16_3_1_0_0_1_3_1116
        (transpose S4x16384x16 [0, 2, 1] f transposes_S4x16x16384_S4x16384x16_0_2_1) (words w)⟩]
    concatenates_S4x1024x32x3_S4x1024x32x16_S4x1024x32x19_d3

/-- What is known of neighbour `n` of query `q`: its coordinates from the centre's, then its features. -/
def about (x : FVec Ideal S4x16384x3 .f32) (z : FVec Ideal S4x1024x3 .f32) (f : FVec Ideal S4x16x16384 .f32) (b : Fin 4) (q : Fin 1024) (n : Fin 16384)
    (e : Fin 19) : EReal :=
  if h : e.val < 3 then (x (ix3 b n ⟨e.val, h⟩) - z (ix3 b q ⟨e.val, h⟩) : EReal) else f (ix3 b ⟨e.val - 3, by omega⟩ n)

theorem words_apply (w : IVec S4x1024x32 32) (b : Fin 4) (q : Fin 1024) (k : Fin 32) (n : Fin 16384) (h : w (ix3 b q k) = BitVec.ofNat 32 n.val) :
    (words w (ix4 b q k (0 : Fin 1))).toInt = n.val := by
  have e : words w (ix4 b q k (0 : Fin 1)) = BitVec.ofNat 32 n.val :=
    (broadcastInDim_apply _ _ _ _ (ix3 b q k) fun a => by fin_cases a <;> rfl).trans (Words.wrap _ _ _ _ (by omega) rfl h)
  rw [e, Words.toInt_ofNat (by omega)]

theorem grouped_apply (x : FVec Ideal S4x16384x3 .f32) (z : FVec Ideal S4x1024x3 .f32) (f : FVec Ideal S4x16x16384 .f32) (w : IVec S4x1024x32 32)
    (b : Fin 4) (q : Fin 1024) (k : Fin 32) (n : Fin 16384) (h : w (ix3 b q k) = BitVec.ofNat 32 n.val) (e : Fin 19) :
    grouped x z f w (ix4 b q k e) = about x z f b q n e := by
  unfold about
  by_cases he : e.val < 3
  · rw [dif_pos he]
    refine (concatenate_pair_apply_left (t := S4x1024x32x19) (s₁ := S4x1024x32x3) (s₂ := S4x1024x32x16) 3 _ _ _ _ rfl (ix4 b q k ⟨e.val, he⟩) fun a => by
      fin_cases a <;> rfl).trans ?_
    rw [subf_apply]
    refine congrArg₂ (fun u v : EReal => u - v) (Gather.grid _ x _ b q k n _ (words_apply w b q k n h)) ?_
    refine (broadcastInDim_apply _ _ _ _ (ix4 b q (0 : Fin 1) ⟨e.val, he⟩) fun a => by fin_cases a <;> rfl).trans ?_
    exact broadcastInDim_apply _ _ _ _ (ix3 b q ⟨e.val, he⟩) fun a => by fin_cases a <;> rfl
  · rw [dif_neg he]
    refine (concatenate_pair_apply_right (t := S4x1024x32x19) (s₁ := S4x1024x32x3) (s₂ := S4x1024x32x16) 3 _ _ _ _ rfl rfl (ix4 b q k ⟨e.val - 3, by omega⟩) (fun a ha => by
      fin_cases a
      · rfl
      · rfl
      · rfl
      · exact absurd rfl ha) (by show e.val - 3 + 3 = e.val; omega)).trans ?_
    exact (Gather.grid _ _ _ b q k n _ (words_apply w b q k n h)).trans (transpose_ix3_021_apply _ _ _ _ _)

/-- The three layers of the weights as they are given. -/
abbrev layered (W1 : FVec Ideal S32x19 .f32) (b1 : FVec Ideal S32 .f32) (W2 : FVec Ideal S32x32 .f32) (b2 : FVec Ideal S32 .f32)
    (W3 : FVec Ideal S64x32 .f32) (b3 : FVec Ideal S64 .f32) : (Fin 19 → EReal) → Fin 64 → EReal :=
  Spec.mlp (fun o i => W1 (ix2 o i)) (fun o => b1 (ix1 o)) (fun o i => W2 (ix2 o i)) (fun o => b2 (ix1 o)) (fun o i => W3 (ix2 o i)) (fun o => b3 (ix1 o))

/-- The centres of every cloud. -/
def centres (big : EReal) (x : FVec Ideal S4x16384x3 .f32) : FVec Ideal S4x1024x3 .f32 := fun i =>
  x (ix3 (i 0) (Spec.centre big (fun n e => x (ix3 (i 0) n e)) (i 1).val) (i 2))

end Cert.Group
-- ==== Proof.MlpHost.lean ====
/- The kernel's second result: for every query the greatest of the layers over its set of nearest points. -/
module

public import proofs.«01_k».proof.Proof.KnnHost
public import proofs.«01_k».proof.Proof.MlpKernel
public import proofs.«01_k».proof.Proof.Group

@[expose] public section

set_option maxRecDepth 16384

noncomputable section

namespace Cert.MlpHost

open Cert.KernelIdeal Cert.KernelIdeal.Gen Cert.Spec Cert.KnnPick Cert.FpsHost Cert.MlpKernel
open Cert.Group (words grouped about layered grouped_apply)
open Idealize.ShloMosaic hiding ix1 ix2 ix3 ix4 addf_apply subf_apply mulf_apply
open Idealize.ShloMosaic.TcCoe Idealize.ShloMosaic.ValueIdx Idealize.ShloMosaic.Tactic
open Idealize.ShloMosaic.StableHlo hiding reshape

/-- The numbers of the neighbours, query by query. -/
abbrev numbered (w : IVec S4x8x32x128 32) : IVec S4x1024x32 32 :=
  shapeCast S4x1024x32 (transpose S4x8x128x32 [0, 1, 3, 2] w transposes_S4x8x32x128_S4x8x128x32_0_1_3_2) shapeCasts_S4x8x128x32_S4x1024x32

theorem numbered_apply (w : IVec S4x8x32x128 32) (b : Fin 4) (g : Fin 8) (l : Fin 128) (k : Fin 32) :
    numbered w (ix3 b (query g l) k) = w (ix4 b g k l) := by
  refine (shapeCast_apply _ _ _ (ix4 b g l k) ?_).trans (transpose_apply _ _ _ _ (ix4 b g k l) fun a => by fin_cases a <;> rfl)
  refine (Shape.rowMajor_val_four _).trans ((?_ : _ = _).trans (Shape.rowMajor_val_three _).symm)
  show ((b.val * 8 + g.val) * 128 + l.val) * 32 + k.val = (b.val * 1024 + (128 * g.val + l.val)) * 32 + k.val
  omega

theorem post_v46 (Y : Valuation τ sig (Elt Ideal)) : after hostOps2 Y (Proc.devRef .tc main_v46)
    = shapeCast S131072x19 (grouped (Y (Proc.devRef .tc main_arg0)) (Y (Proc.devRef .tc main_v17)) (Y (Proc.devRef .tc main_arg1))
        (numbered (Y (Proc.devRef .tc main_v24)))) shapeCasts_S4x1024x32x19_S131072x19 := by
  after_results; rfl
theorem post_v47 (Y : Valuation τ sig (Elt Ideal)) : after hostOps2 Y (Proc.devRef .tc main_v47)
    = transpose S19x32 [1, 0] (Y (Proc.devRef .tc main_arg2) : FVec Ideal S32x19 .f32) transposes_S32x19_S19x32_1_0 := by after_results
theorem post_v48 (Y : Valuation τ sig (Elt Ideal)) : after hostOps2 Y (Proc.devRef .tc main_v48)
    = broadcastInDim S1x32 ![1] bcast_S32_S1x32_1 (Y (Proc.devRef .tc main_arg3) : FVec Ideal S32 .f32) := by after_results
theorem post_v49 (Y : Valuation τ sig (Elt Ideal)) : after hostOps2 Y (Proc.devRef .tc main_v49)
    = transpose S32x32 [1, 0] (Y (Proc.devRef .tc main_arg4) : FVec Ideal S32x32 .f32) transposes_S32x32_S32x32_1_0 := by after_results
theorem post_v50 (Y : Valuation τ sig (Elt Ideal)) : after hostOps2 Y (Proc.devRef .tc main_v50)
    = broadcastInDim S1x32 ![1] bcast_S32_S1x32_1 (Y (Proc.devRef .tc main_arg5) : FVec Ideal S32 .f32) := by after_results
theorem post_v51 (Y : Valuation τ sig (Elt Ideal)) : after hostOps2 Y (Proc.devRef .tc main_v51)
    = transpose S32x64 [1, 0] (Y (Proc.devRef .tc main_arg6) : FVec Ideal S64x32 .f32) transposes_S64x32_S32x64_1_0 := by after_results
theorem post_v52 (Y : Valuation τ sig (Elt Ideal)) : after hostOps2 Y (Proc.devRef .tc main_v52)
    = broadcastInDim S1x64 ![1] bcast_S64_S1x64_1 (Y (Proc.devRef .tc main_arg7) : FVec Ideal S64 .f32) := by after_results

theorem last_v55 (Y : Valuation τ sig (Elt Ideal)) : after hostOps3 Y (Proc.devRef .tc main_v55)
    = transpose S4x64x1024 [0, 2, 1] (shapeCast S4x1024x64 (Y (Proc.devRef .tc main_v53) : FVec Ideal S4096x64 .f32) shapeCasts_S4096x64_S4x1024x64)
        transposes_S4x1024x64_S4x64x1024_0_2_1 := by after_results; rfl

/-- Query `q` of batch row `b` among all 4096. -/
def point (b : Fin 4) (q : Fin 1024) : Fin 4096 := ⟨1024 * b.val + q.val, by omega⟩

variable (m : (ℓ : Loc nD τ sig) → Buf (Elt Ideal) ℓ) (ρ : Dev nD → PrngReg)

/-- An argument is as it was when the last kernel's host code reads it. -/
theorem arg_kept (c : Dev nD) (a : Ref sig .tc) (ha : a ∉ hostOps0_W ∧ a ∉ hostOps1_W ∧ (∀ w, Pipeline.arrRef spec0 w ≠ a)
    ∧ ∀ w : Fin cfg1.W, Pipeline.arrRef spec1 w = a → (cfg1.win w).isOut = false) :
    W4 m ρ c (Proc.devRef .tc a) = W0 m ρ c (Proc.devRef .tc a) :=
  (W4_of m ρ c a ha.2.2.2).trans ((W3_of m ρ c a ha.2.1).trans ((W2_of_ne m ρ c a ha.2.2.1).trans (W1_of m ρ c a ha.1)))

/-- The layers of the given weights. -/
abbrev given (c : Dev nD) : (Fin 19 → EReal) → Fin 64 → EReal :=
  layered (m (c.tc.loc main_arg2)) (m (c.tc.loc main_arg3)) (m (c.tc.loc main_arg4)) (m (c.tc.loc main_arg5)) (m (c.tc.loc main_arg6)) (m (c.tc.loc main_arg7))

theorem given_eq (c : Dev nD) : layers (V5 m ρ c main_v47) (V5 m ρ c main_v48) (V5 m ρ c main_v49) (V5 m ρ c main_v50) (V5 m ρ c main_v51) (V5 m ρ c main_v52)
    = given m c := by
  have h47 : V5 m ρ c main_v47 = _ := post_v47 (W4 m ρ c)
  have h48 : V5 m ρ c main_v48 = _ := post_v48 (W4 m ρ c)
  have h49 : V5 m ρ c main_v49 = _ := post_v49 (W4 m ρ c)
  have h50 : V5 m ρ c main_v50 = _ := post_v50 (W4 m ρ c)
  have h51 : V5 m ρ c main_v51 = _ := post_v51 (W4 m ρ c)
  have h52 : V5 m ρ c main_v52 = _ := post_v52 (W4 m ρ c)
  rw [h47, h48, h49, h50, h51, h52, arg_kept m ρ c main_arg2 (by decide +kernel), arg_kept m ρ c main_arg3 (by decide +kernel),
    arg_kept m ρ c main_arg4 (by decide +kernel), arg_kept m ρ c main_arg5 (by decide +kernel), arg_kept m ρ c main_arg6 (by decide +kernel),
    arg_kept m ρ c main_arg7 (by decide +kernel)]
  refine congr (congr (congr (congr (congr (congrArg mlp ?_) ?_) ?_) ?_) ?_) ?_
  · funext o i; exact transpose_ix2_apply _ _ _ _
  · funext o; exact broadcastInDim_apply _ _ _ _ (ix1 o) fun a => by fin_cases a; rfl
  · funext o i; exact transpose_ix2_apply _ _ _ _
  · funext o; exact broadcastInDim_apply _ _ _ _ (ix1 o) fun a => by fin_cases a; rfl
  · funext o i; exact transpose_ix2_apply _ _ _ _
  · funext o; exact broadcastInDim_apply _ _ _ _ (ix1 o) fun a => by fin_cases a; rfl

/-- A number below 16384 is its word's. -/
theorem word_injective : Function.Injective fun n : Fin 16384 => BitVec.ofNat 32 n.val := fun a b h => by
  have e := congrArg BitVec.toNat h
  simp only [BitVec.toNat_ofNat] at e
  exact Fin.ext (by omega)

/-- The centres, as the grouping finds them. -/
theorem centres_eq (c : Dev nD) : W4 m ρ c (Proc.devRef .tc main_v17) = Group.centres FpsKernel.big (pts m c) := by
  refine (W4_of_ne m ρ c main_v17 (by decide +kernel)).trans (funext fun i => ?_)
  refine (congrArg _ (ValueIdx.eq_ix3 (n0 := 4) (n1 := 1024) (n2 := 3) i)).trans (FpsHost.centres m ρ c (i 0) (i 1) (i 2))

/-- The greatest of the layers over the query's nearest points. -/
theorem result1 (c : Dev nD) (b : Fin 4) (g : Fin 8) (l : Fin 128) (o : Fin 64) (I : Finset (Fin 16384))
    (hI : Nearest (fun n => gdist KnnKernel.two (fun e => cloud (pts m c) b (centre FpsKernel.big (cloud (pts m c) b) (query g l).val) e) (cloud (pts m c) b n)) I) :
    (W7 m ρ c (Proc.devRef .tc main_v55) : FVec Ideal S4x64x1024 .f32) (ix3 b o (query g l))
      = I.sup fun n => given m c (about (pts m c) (Group.centres FpsKernel.big (pts m c)) (m (c.tc.loc main_arg1)) b (query g l) n) o := by
  have hset := KnnHost.numbers_set m ρ c b g l I hI
  have hex : ∀ k : Fin 32, ∃ n : Fin 16384, (W4 m ρ c (Proc.devRef .tc main_v24) : IVec S4x8x32x128 32) (ix4 b g k l) = BitVec.ofNat 32 n.val := fun k => by
    have hm := hset ▸ Finset.mem_image_of_mem (fun i => (W4 m ρ c (Proc.devRef .tc main_v24) : IVec S4x8x32x128 32) (ix4 b g i l)) (Finset.mem_univ k)
    obtain ⟨n, -, hn⟩ := Finset.mem_image.1 hm
    exact ⟨n, hn.symm⟩
  choose N hN using hex
  have hI' : Finset.univ.image N = I := Finset.image_injective word_injective (by
    rw [← hset, Finset.image_image]
    exact Finset.image_congr fun k _ => (hN k).symm)
  have h6 : W6 m ρ c (Proc.devRef .tc main_v53) = _ := (W6_arr m ρ c 7).trans (MlpKernel.arr (V5 m ρ) c)
  rw [W7, last_v55, transpose_ix3_021_apply]
  refine (shapeCast_apply _ _ _ (ix2 (point b (query g l)) o) ?_).trans ?_
  · refine (Shape.rowMajor_val_two _).trans ((?_ : _ = _).trans (Shape.rowMajor_val_three _).symm)
    show (1024 * b.val + (128 * g.val + l.val)) * 64 + o.val = (b.val * 1024 + (128 * g.val + l.val)) * 64 + o.val
    omega
  rw [h6, given_eq]
  show pooled (V5 m ρ c main_v46) (given m c) (point b (query g l)) o = _
  rw [← hI', ← Dense.fold_image]
  refine congrArg (fun f => (Finset.univ : Finset (Fin 32)).fold max ⊥ f) (funext fun k => ?_)
  refine congrArg (fun y => given m c y o) (funext fun e => ?_)
  have h46 : V5 m ρ c main_v46 = _ := post_v46 (W4 m ρ c)
  rw [h46, arg_kept m ρ c main_arg0 (by decide +kernel), arg_kept m ρ c main_arg1 (by decide +kernel), centres_eq]
  refine (shapeCast_apply _ _ _ (ix4 b (query g l) k e) ?_).trans ?_
  · refine (Shape.rowMajor_val_four _).trans ((?_ : _ = _).trans (Shape.rowMajor_val_two _).symm)
    show ((b.val * 1024 + (128 * g.val + l.val)) * 32 + k.val) * 19 + e.val = (32 * (1024 * b.val + (128 * g.val + l.val)) + k.val) * 19 + e.val
    omega
  exact grouped_apply _ _ _ _ b (query g l) k (N k) ((numbered_apply _ b g l k).trans (hN k)) e

end Cert.MlpHost
-- ==== Proof.RefRun.lean ====
/- The reference program's run: its operations as lists, the loop of 1024 trips, and every buffer at the end of the
    program as what these lists leave. -/
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

set_option maxRecDepth 8192

noncomputable section

namespace Cert.RefRun

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

/-- What runs before the loop: the loop's start values. -/
abbrev preOps : List (HloOp τ sig (Elt F)) :=
  [ StableHlo.nullary main_v0 (iotaInDim S4 32 0),
    StableHlo.nullary main_c (constantI S_ 32 0#32),
    StableHlo.unary main_c main_v1 (broadcastInDim S4x1024 ![] bcast_S_S4x1024 : (⟨S_, .i32⟩ : BufTy).Contents (Elt F) → (⟨S4x1024, .i32⟩ : BufTy).Contents (Elt F)),
    StableHlo.nullary main_cst (constant S_ .f32 0x501502F9#32),
    StableHlo.unary main_cst main_v2 (broadcastInDim S4x16384 ![] bcast_S_S4x16384 : (⟨S_, .f32⟩ : BufTy).Contents (Elt F) → (⟨S4x16384, .f32⟩ : BufTy).Contents (Elt F)),
    StableHlo.nullary main_c_0 (constantI S_ 32 0#32),
    StableHlo.unary main_c_0 main_v3 (broadcastInDim S4 ![] bcast_S_S4 : (⟨S_, .i32⟩ : BufTy).Contents (Elt F) → (⟨S4, .i32⟩ : BufTy).Contents (Elt F)),
    StableHlo.nullary main_c_1 (constantI S_ 32 0#32),
    StableHlo.nullary main_c_2 (constantI S_ 32 0#32),
    StableHlo.unary main_v0 main_v4_0 id,
    StableHlo.unary main_arg0 main_v4_1 id,
    StableHlo.unary main_c_2 main_v4_2 id,
    StableHlo.unary main_c_1 main_v4_3 id,
    StableHlo.unary main_v1 main_v4_4 id,
    StableHlo.unary main_v2 main_v4_5 id,
    StableHlo.unary main_v3 main_v4_6 id ]
theorem preOps_sub : (preOps : List (HloOp τ sig (Elt F))).Forall fun op => op.bufs ⊆ StableHlo.tcRefs τ sig :=
  ⟨StableHlo.nullary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
theorem preOps_fresh : (preOps : List (HloOp τ sig (Elt F))).Forall fun op => op.fresh = ∅ :=
  StableHlo.forall_fresh_of_map rfl
/-- The buffers `preOps` writes. -/
abbrev preOps_W : List (Ref sig .tc) := [main_v0, main_c, main_v1, main_cst, main_v2, main_c_0, main_v3, main_c_1, main_c_2, main_v4_0, main_v4_1, main_v4_2, main_v4_3, main_v4_4, main_v4_5, main_v4_6]
theorem preOps_writes : (preOps : List (HloOp τ sig (Elt F))).Forall fun op => op.writes ⊆ (preOps_W.map (Proc.devRef (τ := τ) .tc)).toFinset :=
  StableHlo.forall_writes_sub_of_map rfl

/-- A trip: the farthest point so far is recorded as the next centre. -/
abbrev tripIdx : List (HloOp τ sig (Elt F)) :=
  [ StableHlo.nullary main_while0b_c_19 (constantI S_ 32 1#32),
    StableHlo.binary main_v4_3 main_while0b_c_19 main_while0b_v65 (addi : (⟨S_, .i32⟩ : BufTy).Contents (Elt F) → (⟨S_, .i32⟩ : BufTy).Contents (Elt F) → (⟨S_, .i32⟩ : BufTy).Contents (Elt F)),
    StableHlo.nullary main_while0b_c_20 (constantI S_ 32 0#32),
    StableHlo.binary main_v4_3 main_while0b_c_20 main_while0b_v66 (cmpi .slt : (⟨S_, .i32⟩ : BufTy).Contents (Elt F) → (⟨S_, .i32⟩ : BufTy).Contents (Elt F) → (⟨S_, .i1⟩ : BufTy).Contents (Elt F)),
    StableHlo.nullary main_while0b_c_21 (constantI S_ 32 1024#32),
    StableHlo.binary main_v4_3 main_while0b_c_21 main_while0b_v67 (addi : (⟨S_, .i32⟩ : BufTy).Contents (Elt F) → (⟨S_, .i32⟩ : BufTy).Contents (Elt F) → (⟨S_, .i32⟩ : BufTy).Contents (Elt F)),
    StableHlo.ternary main_while0b_v66 main_while0b_v67 main_v4_3 main_while0b_v68 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unary main_while0b_v68 main_while0b_v69 (id : (⟨S_, .i32⟩ : BufTy).Contents (Elt F) → (⟨S_, .i32⟩ : BufTy).Contents (Elt F)),
    StableHlo.unary main_while0b_v69 main_while0b_v70 (broadcastInDim S1 ![] bcast_S_S1 : (⟨S_, .i32⟩ : BufTy).Contents (Elt F) → (⟨S1, .i32⟩ : BufTy).Contents (Elt F)),
    StableHlo.ternary main_v4_4 main_while0b_v70 main_v4_6 main_while0b_v71 ((fun x i u => Host.scatter scatter_S4x1024_S1_S4_0_1_1_0 (fun _ b => b) x i u) : (⟨S4x1024, .i32⟩ : BufTy).Contents (Elt F) → (⟨S1, .i32⟩ : BufTy).Contents (Elt F) → (⟨S4, .i32⟩ : BufTy).Contents (Elt F) → (⟨S4x1024, .i32⟩ : BufTy).Contents (Elt F)) ]
theorem tripIdx_sub : (tripIdx : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub .., StableHlo.nullary_bufs_sub .., StableHlo.binary_bufs_sub .., StableHlo.ternary_bufs_sub .., StableHlo.unary_bufs_sub .., StableHlo.unary_bufs_sub .., StableHlo.ternary_bufs_sub ..⟩
theorem tripIdx_fresh : (tripIdx : List (HloOp τ sig (Elt F))).Forall fun op => op.fresh = ∅ :=
  StableHlo.forall_fresh_of_map rfl
/-- The buffers `tripIdx` writes. -/
abbrev tripIdx_W : List (Ref sig .tc) := [main_while0b_c_19, main_while0b_v65, main_while0b_c_20, main_while0b_v66, main_while0b_c_21, main_while0b_v67, main_while0b_v68, main_while0b_v69, main_while0b_v70, main_while0b_v71]
theorem tripIdx_writes : (tripIdx : List (HloOp τ sig (Elt F))).Forall fun op => op.writes ⊆ (tripIdx_W.map (Proc.devRef (τ := τ) .tc)).toFinset :=
  StableHlo.forall_writes_sub_of_map rfl

/-- A trip: the squared distances to that centre, and the least of them and the distances so far. -/
abbrev tripDist : List (HloOp τ sig (Elt F)) :=
  [ StableHlo.nullary main_while0b_c_22 (constantI S_ 32 0#32),
    StableHlo.unary main_while0b_c_22 main_while0b_v72 (broadcastInDim S4 ![] bcast_S_S4 : (⟨S_, .i32⟩ : BufTy).Contents (Elt F) → (⟨S4, .i32⟩ : BufTy).Contents (Elt F)),
    StableHlo.binary main_v4_0 main_while0b_v72 main_while0b_v73 (cmpi .slt : (⟨S4, .i32⟩ : BufTy).Contents (Elt F) → (⟨S4, .i32⟩ : BufTy).Contents (Elt F) → (⟨S4, .i1⟩ : BufTy).Contents (Elt F)),
    StableHlo.nullary main_while0b_c_23 (constantI S_ 32 4#32),
    StableHlo.unary main_while0b_c_23 main_while0b_v74 (broadcastInDim S4 ![] bcast_S_S4 : (⟨S_, .i32⟩ : BufTy).Contents (Elt F) → (⟨S4, .i32⟩ : BufTy).Contents (Elt F)),
    StableHlo.binary main_v4_0 main_while0b_v74 main_while0b_v75 (addi : (⟨S4, .i32⟩ : BufTy).Contents (Elt F) → (⟨S4, .i32⟩ : BufTy).Contents (Elt F) → (⟨S4, .i32⟩ : BufTy).Contents (Elt F)),
    StableHlo.ternary main_while0b_v73 main_while0b_v75 main_v4_0 main_while0b_v76 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    StableHlo.nullary main_while0b_c_24 (constantI S_ 32 0#32),
    StableHlo.unary main_while0b_c_24 main_while0b_v77 (broadcastInDim S4 ![] bcast_S_S4 : (⟨S_, .i32⟩ : BufTy).Contents (Elt F) → (⟨S4, .i32⟩ : BufTy).Contents (Elt F)),
    StableHlo.binary main_v4_6 main_while0b_v77 main_while0b_v78 (cmpi .slt : (⟨S4, .i32⟩ : BufTy).Contents (Elt F) → (⟨S4, .i32⟩ : BufTy).Contents (Elt F) → (⟨S4, .i1⟩ : BufTy).Contents (Elt F)),
    StableHlo.nullary main_while0b_c_25 (constantI S_ 32 16384#32),
    StableHlo.unary main_while0b_c_25 main_while0b_v79 (broadcastInDim S4 ![] bcast_S_S4 : (⟨S_, .i32⟩ : BufTy).Contents (Elt F) → (⟨S4, .i32⟩ : BufTy).Contents (Elt F)),
    StableHlo.binary main_v4_6 main_while0b_v79 main_while0b_v80 (addi : (⟨S4, .i32⟩ : BufTy).Contents (Elt F) → (⟨S4, .i32⟩ : BufTy).Contents (Elt F) → (⟨S4, .i32⟩ : BufTy).Contents (Elt F)),
    StableHlo.ternary main_while0b_v78 main_while0b_v80 main_v4_6 main_while0b_v81 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    StableHlo.unary main_while0b_v76 main_while0b_v82 (broadcastInDim S4x1 ![0] bcast_S4_S4x1_0 : (⟨S4, .i32⟩ : BufTy).Contents (Elt F) → (⟨S4x1, .i32⟩ : BufTy).Contents (Elt F)),
    StableHlo.unary main_while0b_v81 main_while0b_v83 (broadcastInDim S4x1 ![0] bcast_S4_S4x1_0 : (⟨S4, .i32⟩ : BufTy).Contents (Elt F) → (⟨S4x1, .i32⟩ : BufTy).Contents (Elt F)),
    StableHlo.binary main_while0b_v82 main_while0b_v83 main_while0b_v84 ((fun a b => concatenate S4x2 1 [⟨S4x1, a⟩, ⟨S4x1, b⟩] concatenates_S4x1_S4x1_S4x2_d1) : (⟨S4x1, .i32⟩ : BufTy).Contents (Elt F) → (⟨S4x1, .i32⟩ : BufTy).Contents (Elt F) → (⟨S4x2, .i32⟩ : BufTy).Contents (Elt F)),
    StableHlo.binary main_v4_1 main_while0b_v84 main_while0b_v85 ((fun x i => Host.gather gather_S4x16384x3_S4x2_S4x3_1_01_n_n_01_1_113 x i) : (⟨S4x16384x3, .f32⟩ : BufTy).Contents (Elt F) → (⟨S4x2, .i32⟩ : BufTy).Contents (Elt F) → (⟨S4x3, .f32⟩ : BufTy).Contents (Elt F)),
    StableHlo.unary main_while0b_v85 main_while0b_v86 (broadcastInDim S4x1x3 ![0, 2] bcast_S4x3_S4x1x3_0_2 : (⟨S4x3, .f32⟩ : BufTy).Contents (Elt F) → (⟨S4x1x3, .f32⟩ : BufTy).Contents (Elt F)),
    StableHlo.unary main_while0b_v86 main_while0b_v87 (broadcastInDim S4x16384x3 ![0, 1, 2] bcast_S4x1x3_S4x16384x3_0_1_2 : (⟨S4x1x3, .f32⟩ : BufTy).Contents (Elt F) → (⟨S4x16384x3, .f32⟩ : BufTy).Contents (Elt F)),
    StableHlo.binary main_v4_1 main_while0b_v87 main_while0b_v88 (subf : (⟨S4x16384x3, .f32⟩ : BufTy).Contents (Elt F) → (⟨S4x16384x3, .f32⟩ : BufTy).Contents (Elt F) → (⟨S4x16384x3, .f32⟩ : BufTy).Contents (Elt F)),
    StableHlo.binary main_while0b_v88 main_while0b_v88 main_while0b_v89 (mulf : (⟨S4x16384x3, .f32⟩ : BufTy).Contents (Elt F) → (⟨S4x16384x3, .f32⟩ : BufTy).Contents (Elt F) → (⟨S4x16384x3, .f32⟩ : BufTy).Contents (Elt F)),
    StableHlo.nullary main_while0b_cst_26 (constant S_ .f32 0x00000000#32),
    StableHlo.binary main_while0b_v89 main_while0b_cst_26 main_while0b_v90 ((fun x v => Host.reduceAdd x v reducesTo_S4x16384x3_S4x16384_d2 h_S_) : (⟨S4x16384x3, .f32⟩ : BufTy).Contents (Elt F) → (⟨S_, .f32⟩ : BufTy).Contents (Elt F) → (⟨S4x16384, .f32⟩ : BufTy).Contents (Elt F)),
    StableHlo.binary main_v4_5 main_while0b_v90 main_while0b_v91 (minimumf : (⟨S4x16384, .f32⟩ : BufTy).Contents (Elt F) → (⟨S4x16384, .f32⟩ : BufTy).Contents (Elt F) → (⟨S4x16384, .f32⟩ : BufTy).Contents (Elt F)) ]
theorem tripDist_sub : (tripDist : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub ..⟩
theorem tripDist_fresh : (tripDist : List (HloOp τ sig (Elt F))).Forall fun op => op.fresh = ∅ :=
  StableHlo.forall_fresh_of_map rfl
/-- The buffers `tripDist` writes. -/
abbrev tripDist_W : List (Ref sig .tc) := [main_while0b_c_22, main_while0b_v72, main_while0b_v73, main_while0b_c_23, main_while0b_v74, main_while0b_v75, main_while0b_v76, main_while0b_c_24, main_while0b_v77, main_while0b_v78, main_while0b_c_25, main_while0b_v79, main_while0b_v80, main_while0b_v81, main_while0b_v82, main_while0b_v83, main_while0b_v84, main_while0b_v85, main_while0b_v86, main_while0b_v87, main_while0b_v88, main_while0b_v89, main_while0b_cst_26, main_while0b_v90, main_while0b_v91]
theorem tripDist_writes : (tripDist : List (HloOp τ sig (Elt F))).Forall fun op => op.writes ⊆ (tripDist_W.map (Proc.devRef (τ := τ) .tc)).toFinset :=
  StableHlo.forall_writes_sub_of_map rfl

/-- A trip: the position of the greatest of these. -/
abbrev tripArg : List (HloOp τ sig (Elt F)) :=
  [ StableHlo.TRef.nullary (.of main_while0b_call0_v0 : StableHlo.TRef sig ⟨S4x16384, .i32⟩) (iotaInDim S4x16384 32 1),
    StableHlo.TRef.nullary (.of main_while0b_call0_cst : StableHlo.TRef sig ⟨S_, .f32⟩) (constant S_ .f32 0xFF800000#32),
    StableHlo.TRef.nullary (.of main_while0b_call0_c : StableHlo.TRef sig ⟨S_, .i32⟩) (constantI S_ 32 0#32),
    StableHlo.TRef.quaternary (.of main_while0b_v91 : StableHlo.TRef sig ⟨S4x16384, .f32⟩) (.of main_while0b_call0_v0 : StableHlo.TRef sig ⟨S4x16384, .i32⟩) (.of main_while0b_call0_cst : StableHlo.TRef sig ⟨S_, .f32⟩) (.of main_while0b_call0_c : StableHlo.TRef sig ⟨S_, .i32⟩) (.of main_while0b_call0_v1_0 : StableHlo.TRef sig ⟨S4, .f32⟩) (fun x y u v j => (Host.argReduce reducer_argmax_f32_i32 x y u v reducesTo_S4x16384_S4_d1 h_S_ j).1),
    StableHlo.TRef.quaternary (.of main_while0b_v91 : StableHlo.TRef sig ⟨S4x16384, .f32⟩) (.of main_while0b_call0_v0 : StableHlo.TRef sig ⟨S4x16384, .i32⟩) (.of main_while0b_call0_cst : StableHlo.TRef sig ⟨S_, .f32⟩) (.of main_while0b_call0_c : StableHlo.TRef sig ⟨S_, .i32⟩) (.of main_while0b_v92 : StableHlo.TRef sig ⟨S4, .i32⟩) (fun x y u v j => (Host.argReduce reducer_argmax_f32_i32 x y u v reducesTo_S4x16384_S4_d1 h_S_ j).2) ]
theorem tripArg_sub : (tripArg : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
theorem tripArg_fresh : (tripArg : List (HloOp τ sig (Elt F))).Forall fun op => op.fresh = ∅ :=
  StableHlo.forall_fresh_of_map rfl
/-- The buffers `tripArg` writes. -/
abbrev tripArg_W : List (Ref sig .tc) := [main_while0b_call0_v0, main_while0b_call0_cst, main_while0b_call0_c, main_while0b_call0_v1_0, main_while0b_v92]
theorem tripArg_writes : (tripArg : List (HloOp τ sig (Elt F))).Forall fun op => op.writes ⊆ (tripArg_W.map (Proc.devRef (τ := τ) .tc)).toFinset :=
  StableHlo.forall_writes_sub_of_map rfl

/-- A trip: the counter moves on and the carried values are renewed. -/
abbrev tripStep : List (HloOp τ sig (Elt F)) :=
  [ StableHlo.nullary main_while0b_c_27 (constantI S_ 32 1#32),
    StableHlo.binary main_v4_2 main_while0b_c_27 main_while0b_v93 (addi : (⟨S_, .i32⟩ : BufTy).Contents (Elt F) → (⟨S_, .i32⟩ : BufTy).Contents (Elt F) → (⟨S_, .i32⟩ : BufTy).Contents (Elt F)),
    StableHlo.unary main_while0b_v93 main_v4_2 id,
    StableHlo.unary main_while0b_v65 main_v4_3 id,
    StableHlo.unary main_while0b_v71 main_v4_4 id,
    StableHlo.unary main_while0b_v91 main_v4_5 id,
    StableHlo.unary main_while0b_v92 main_v4_6 id ]
theorem tripStep_sub : (tripStep : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub .., StableHlo.unary_bufs_sub ..⟩
theorem tripStep_fresh : (tripStep : List (HloOp τ sig (Elt F))).Forall fun op => op.fresh = ∅ :=
  StableHlo.forall_fresh_of_map rfl
/-- The buffers `tripStep` writes. -/
abbrev tripStep_W : List (Ref sig .tc) := [main_while0b_c_27, main_while0b_v93, main_v4_2, main_v4_3, main_v4_4, main_v4_5, main_v4_6]
theorem tripStep_writes : (tripStep : List (HloOp τ sig (Elt F))).Forall fun op => op.writes ⊆ (tripStep_W.map (Proc.devRef (τ := τ) .tc)).toFinset :=
  StableHlo.forall_writes_sub_of_map rfl

/-- After the loop: the coordinates of the centres. -/
abbrev postCentres : List (HloOp τ sig (Elt F)) :=
  [ StableHlo.nullary main_c_3 (constantI S_ 32 0#32),
    StableHlo.unary main_c_3 main_v5 (broadcastInDim S4x1024 ![] bcast_S_S4x1024 : (⟨S_, .i32⟩ : BufTy).Contents (Elt F) → (⟨S4x1024, .i32⟩ : BufTy).Contents (Elt F)),
    StableHlo.binary main_v4_4 main_v5 main_v6 (cmpi .slt : (⟨S4x1024, .i32⟩ : BufTy).Contents (Elt F) → (⟨S4x1024, .i32⟩ : BufTy).Contents (Elt F) → (⟨S4x1024, .i1⟩ : BufTy).Contents (Elt F)),
    StableHlo.nullary main_c_4 (constantI S_ 32 16384#32),
    StableHlo.unary main_c_4 main_v7 (broadcastInDim S4x1024 ![] bcast_S_S4x1024 : (⟨S_, .i32⟩ : BufTy).Contents (Elt F) → (⟨S4x1024, .i32⟩ : BufTy).Contents (Elt F)),
    StableHlo.binary main_v4_4 main_v7 main_v8 (addi : (⟨S4x1024, .i32⟩ : BufTy).Contents (Elt F) → (⟨S4x1024, .i32⟩ : BufTy).Contents (Elt F) → (⟨S4x1024, .i32⟩ : BufTy).Contents (Elt F)),
    StableHlo.ternary main_v6 main_v8 main_v4_4 main_v9 (select : (⟨S4x1024, .i1⟩ : BufTy).Contents (Elt F) → (⟨S4x1024, .i32⟩ : BufTy).Contents (Elt F) → (⟨S4x1024, .i32⟩ : BufTy).Contents (Elt F) → (⟨S4x1024, .i32⟩ : BufTy).Contents (Elt F)),
    StableHlo.unary main_v9 main_v10 (broadcastInDim S4x1024x1 ![0, 1] bcast_S4x1024_S4x1024x1_0_1 : (⟨S4x1024, .i32⟩ : BufTy).Contents (Elt F) → (⟨S4x1024x1, .i32⟩ : BufTy).Contents (Elt F)),
    StableHlo.binary main_arg0 main_v10 main_v11 ((fun x i => Host.gather gather_S4x16384x3_S4x1024x1_S4x1024x3_2_1_0_0_1_2_113 x i) : (⟨S4x16384x3, .f32⟩ : BufTy).Contents (Elt F) → (⟨S4x1024x1, .i32⟩ : BufTy).Contents (Elt F) → (⟨S4x1024x3, .f32⟩ : BufTy).Contents (Elt F)) ]
theorem postCentres_sub : (postCentres : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub ..⟩
theorem postCentres_fresh : (postCentres : List (HloOp τ sig (Elt F))).Forall fun op => op.fresh = ∅ :=
  StableHlo.forall_fresh_of_map rfl
/-- The buffers `postCentres` writes. -/
abbrev postCentres_W : List (Ref sig .tc) := [main_c_3, main_v5, main_v6, main_c_4, main_v7, main_v8, main_v9, main_v10, main_v11]
theorem postCentres_writes : (postCentres : List (HloOp τ sig (Elt F))).Forall fun op => op.writes ⊆ (postCentres_W.map (Proc.devRef (τ := τ) .tc)).toFinset :=
  StableHlo.forall_writes_sub_of_map rfl

/-- The squared distances of every point to every centre. -/
abbrev postDist : List (HloOp τ sig (Elt F)) :=
  [ StableHlo.binary main_v11 main_v11 main_v12 (mulf : (⟨S4x1024x3, .f32⟩ : BufTy).Contents (Elt F) → (⟨S4x1024x3, .f32⟩ : BufTy).Contents (Elt F) → (⟨S4x1024x3, .f32⟩ : BufTy).Contents (Elt F)),
    StableHlo.nullary main_cst_5 (constant S_ .f32 0x00000000#32),
    StableHlo.binary main_v12 main_cst_5 main_v13 ((fun x v => Host.reduceAdd x v reducesTo_S4x1024x3_S4x1024_d2 h_S_) : (⟨S4x1024x3, .f32⟩ : BufTy).Contents (Elt F) → (⟨S_, .f32⟩ : BufTy).Contents (Elt F) → (⟨S4x1024, .f32⟩ : BufTy).Contents (Elt F)),
    StableHlo.unary main_v13 main_v14 (broadcastInDim S4x1024x1 ![0, 1] bcast_S4x1024_S4x1024x1_0_1 : (⟨S4x1024, .f32⟩ : BufTy).Contents (Elt F) → (⟨S4x1024x1, .f32⟩ : BufTy).Contents (Elt F)),
    StableHlo.binary main_v11 main_arg0 main_v15 ((fun l r => Host.dotGeneral dot_S4x1024x3_S4x16384x3_S4x1024x16384_2_2_1_1_0_0 none l r) : (⟨S4x1024x3, .f32⟩ : BufTy).Contents (Elt F) → (⟨S4x16384x3, .f32⟩ : BufTy).Contents (Elt F) → (⟨S4x1024x16384, .f32⟩ : BufTy).Contents (Elt F)),
    StableHlo.nullary main_cst_6 (constant S_ .f32 0x40000000#32),
    StableHlo.unary main_cst_6 main_v16 (broadcastInDim S4x1024x16384 ![] bcast_S_S4x1024x16384 : (⟨S_, .f32⟩ : BufTy).Contents (Elt F) → (⟨S4x1024x16384, .f32⟩ : BufTy).Contents (Elt F)),
    StableHlo.binary main_v16 main_v15 main_v17 (mulf : (⟨S4x1024x16384, .f32⟩ : BufTy).Contents (Elt F) → (⟨S4x1024x16384, .f32⟩ : BufTy).Contents (Elt F) → (⟨S4x1024x16384, .f32⟩ : BufTy).Contents (Elt F)),
    StableHlo.unary main_v14 main_v18 (broadcastInDim S4x1024x16384 ![0, 1, 2] bcast_S4x1024x1_S4x1024x16384_0_1_2 : (⟨S4x1024x1, .f32⟩ : BufTy).Contents (Elt F) → (⟨S4x1024x16384, .f32⟩ : BufTy).Contents (Elt F)),
    StableHlo.binary main_v18 main_v17 main_v19 (subf : (⟨S4x1024x16384, .f32⟩ : BufTy).Contents (Elt F) → (⟨S4x1024x16384, .f32⟩ : BufTy).Contents (Elt F) → (⟨S4x1024x16384, .f32⟩ : BufTy).Contents (Elt F)),
    StableHlo.binary main_arg0 main_arg0 main_v20 (mulf : (⟨S4x16384x3, .f32⟩ : BufTy).Contents (Elt F) → (⟨S4x16384x3, .f32⟩ : BufTy).Contents (Elt F) → (⟨S4x16384x3, .f32⟩ : BufTy).Contents (Elt F)),
    StableHlo.nullary main_cst_7 (constant S_ .f32 0x00000000#32),
    StableHlo.binary main_v20 main_cst_7 main_v21 ((fun x v => Host.reduceAdd x v reducesTo_S4x16384x3_S4x16384_d2 h_S_) : (⟨S4x16384x3, .f32⟩ : BufTy).Contents (Elt F) → (⟨S_, .f32⟩ : BufTy).Contents (Elt F) → (⟨S4x16384, .f32⟩ : BufTy).Contents (Elt F)),
    StableHlo.unary main_v21 main_v22 (broadcastInDim S4x1x16384 ![0, 2] bcast_S4x16384_S4x1x16384_0_2 : (⟨S4x16384, .f32⟩ : BufTy).Contents (Elt F) → (⟨S4x1x16384, .f32⟩ : BufTy).Contents (Elt F)),
    StableHlo.unary main_v22 main_v23 (broadcastInDim S4x1024x16384 ![0, 1, 2] bcast_S4x1x16384_S4x1024x16384_0_1_2 : (⟨S4x1x16384, .f32⟩ : BufTy).Contents (Elt F) → (⟨S4x1024x16384, .f32⟩ : BufTy).Contents (Elt F)),
    StableHlo.binary main_v19 main_v23 main_v24 (addf : (⟨S4x1024x16384, .f32⟩ : BufTy).Contents (Elt F) → (⟨S4x1024x16384, .f32⟩ : BufTy).Contents (Elt F) → (⟨S4x1024x16384, .f32⟩ : BufTy).Contents (Elt F)),
    StableHlo.unary main_v24 main_v25 (Host.negf : (⟨S4x1024x16384, .f32⟩ : BufTy).Contents (Elt F) → (⟨S4x1024x16384, .f32⟩ : BufTy).Contents (Elt F)) ]
theorem postDist_sub : (postDist : List (HloOp τ sig (Elt F))).Forall fun op => op.bufs ⊆ StableHlo.tcRefs τ sig :=
  ⟨StableHlo.binary_bufs_sub .., StableHlo.nullary_bufs_sub .., StableHlo.binary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.binary_bufs_sub .., StableHlo.nullary_bufs_sub .., StableHlo.binary_bufs_sub .., StableHlo.unary_bufs_sub .., StableHlo.unary_bufs_sub .., StableHlo.binary_bufs_sub .., StableHlo.unary_bufs_sub ..⟩
theorem postDist_fresh : (postDist : List (HloOp τ sig (Elt F))).Forall fun op => op.fresh = ∅ :=
  StableHlo.forall_fresh_of_map rfl
/-- The buffers `postDist` writes. -/
abbrev postDist_W : List (Ref sig .tc) := [main_v12, main_cst_5, main_v13, main_v14, main_v15, main_cst_6, main_v16, main_v17, main_v18, main_v19, main_v20, main_cst_7, main_v21, main_v22, main_v23, main_v24, main_v25]
theorem postDist_writes : (postDist : List (HloOp τ sig (Elt F))).Forall fun op => op.writes ⊆ (postDist_W.map (Proc.devRef (τ := τ) .tc)).toFinset :=
  StableHlo.forall_writes_sub_of_map rfl

/-- The 32 nearest, as the 32 greatest of the negated distances. -/
abbrev postNear : List (HloOp τ sig (Elt F)) :=
  [ StableHlo.unary main_v25 main_values ((fun x => (Host.topK S4x1024x32 2 (FloatOps.cmpfTotal .gt) x sliceFits_S4x1024x16384_S4x1024x32).1) : (⟨S4x1024x16384, .f32⟩ : BufTy).Contents (Elt F) → (⟨S4x1024x32, .f32⟩ : BufTy).Contents (Elt F)),
    StableHlo.unary main_v25 main_indices ((fun x => (Host.topK S4x1024x32 2 (FloatOps.cmpfTotal .gt) x sliceFits_S4x1024x16384_S4x1024x32).2) : (⟨S4x1024x16384, .f32⟩ : BufTy).Contents (Elt F) → (⟨S4x1024x32, .i32⟩ : BufTy).Contents (Elt F)) ]
theorem postNear_sub : (postNear : List (HloOp τ sig (Elt F))).Forall fun op => op.bufs ⊆ StableHlo.tcRefs τ sig :=
  ⟨StableHlo.unary_bufs_sub .., StableHlo.unary_bufs_sub ..⟩
theorem postNear_fresh : (postNear : List (HloOp τ sig (Elt F))).Forall fun op => op.fresh = ∅ :=
  StableHlo.forall_fresh_of_map rfl
/-- The buffers `postNear` writes. -/
abbrev postNear_W : List (Ref sig .tc) := [main_values, main_indices]
theorem postNear_writes : (postNear : List (HloOp τ sig (Elt F))).Forall fun op => op.writes ⊆ (postNear_W.map (Proc.devRef (τ := τ) .tc)).toFinset :=
  StableHlo.forall_writes_sub_of_map rfl

/-- The neighbours' coordinates relative to their centre. -/
abbrev postGrp : List (HloOp τ sig (Elt F)) :=
  [ StableHlo.nullary main_c_8 (constantI S_ 32 0#32),
    StableHlo.unary main_c_8 main_v26 (broadcastInDim S4x1024x32 ![] bcast_S_S4x1024x32 : (⟨S_, .i32⟩ : BufTy).Contents (Elt F) → (⟨S4x1024x32, .i32⟩ : BufTy).Contents (Elt F)),
    StableHlo.binary main_indices main_v26 main_v27 (cmpi .slt : (⟨S4x1024x32, .i32⟩ : BufTy).Contents (Elt F) → (⟨S4x1024x32, .i32⟩ : BufTy).Contents (Elt F) → (⟨S4x1024x32, .i1⟩ : BufTy).Contents (Elt F)),
    StableHlo.nullary main_c_9 (constantI S_ 32 16384#32),
    StableHlo.unary main_c_9 main_v28 (broadcastInDim S4x1024x32 ![] bcast_S_S4x1024x32 : (⟨S_, .i32⟩ : BufTy).Contents (Elt F) → (⟨S4x1024x32, .i32⟩ : BufTy).Contents (Elt F)),
    StableHlo.binary main_indices main_v28 main_v29 (addi : (⟨S4x1024x32, .i32⟩ : BufTy).Contents (Elt F) → (⟨S4x1024x32, .i32⟩ : BufTy).Contents (Elt F) → (⟨S4x1024x32, .i32⟩ : BufTy).Contents (Elt F)),
    StableHlo.ternary main_v27 main_v29 main_indices main_v30 (select : (⟨S4x1024x32, .i1⟩ : BufTy).Contents (Elt F) → (⟨S4x1024x32, .i32⟩ : BufTy).Contents (Elt F) → (⟨S4x1024x32, .i32⟩ : BufTy).Contents (Elt F) → (⟨S4x1024x32, .i32⟩ : BufTy).Contents (Elt F)),
    StableHlo.unary main_v30 main_v31 (broadcastInDim S4x1024x32x1 ![0, 1, 2] bcast_S4x1024x32_S4x1024x32x1_0_1_2 : (⟨S4x1024x32, .i32⟩ : BufTy).Contents (Elt F) → (⟨S4x1024x32x1, .i32⟩ : BufTy).Contents (Elt F)),
    StableHlo.binary main_arg0 main_v31 main_v32 ((fun x i => Host.gather gather_S4x16384x3_S4x1024x32x1_S4x1024x32x3_3_1_0_0_1_3_113 x i) : (⟨S4x16384x3, .f32⟩ : BufTy).Contents (Elt F) → (⟨S4x1024x32x1, .i32⟩ : BufTy).Contents (Elt F) → (⟨S4x1024x32x3, .f32⟩ : BufTy).Contents (Elt F)),
    StableHlo.unary main_v11 main_v33 (broadcastInDim S4x1024x1x3 ![0, 1, 3] bcast_S4x1024x3_S4x1024x1x3_0_1_3 : (⟨S4x1024x3, .f32⟩ : BufTy).Contents (Elt F) → (⟨S4x1024x1x3, .f32⟩ : BufTy).Contents (Elt F)),
    StableHlo.unary main_v33 main_v34 (broadcastInDim S4x1024x32x3 ![0, 1, 2, 3] bcast_S4x1024x1x3_S4x1024x32x3_0_1_2_3 : (⟨S4x1024x1x3, .f32⟩ : BufTy).Contents (Elt F) → (⟨S4x1024x32x3, .f32⟩ : BufTy).Contents (Elt F)),
    StableHlo.binary main_v32 main_v34 main_v35 (subf : (⟨S4x1024x32x3, .f32⟩ : BufTy).Contents (Elt F) → (⟨S4x1024x32x3, .f32⟩ : BufTy).Contents (Elt F) → (⟨S4x1024x32x3, .f32⟩ : BufTy).Contents (Elt F)),
    StableHlo.unary main_arg1 main_v36 ((transpose S4x16384x16 [0, 2, 1] · transposes_S4x16x16384_S4x16384x16_0_2_1) : (⟨S4x16x16384, .f32⟩ : BufTy).Contents (Elt F) → (⟨S4x16384x16, .f32⟩ : BufTy).Contents (Elt F)),
    StableHlo.nullary main_c_10 (constantI S_ 32 0#32),
    StableHlo.unary main_c_10 main_v37 (broadcastInDim S4x1024x32 ![] bcast_S_S4x1024x32 : (⟨S_, .i32⟩ : BufTy).Contents (Elt F) → (⟨S4x1024x32, .i32⟩ : BufTy).Contents (Elt F)) ]
theorem postGrp_sub : (postGrp : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.unary_bufs_sub ..⟩
theorem postGrp_fresh : (postGrp : List (HloOp τ sig (Elt F))).Forall fun op => op.fresh = ∅ :=
  StableHlo.forall_fresh_of_map rfl
/-- The buffers `postGrp` writes. -/
abbrev postGrp_W : List (Ref sig .tc) := [main_c_8, main_v26, main_v27, main_c_9, main_v28, main_v29, main_v30, main_v31, main_v32, main_v33, main_v34, main_v35, main_v36, main_c_10, main_v37]
theorem postGrp_writes : (postGrp : List (HloOp τ sig (Elt F))).Forall fun op => op.writes ⊆ (postGrp_W.map (Proc.devRef (τ := τ) .tc)).toFinset :=
  StableHlo.forall_writes_sub_of_map rfl

/-- The neighbours' features, and the joined rows. -/
abbrev postFeat : List (HloOp τ sig (Elt F)) :=
  [ StableHlo.binary main_indices main_v37 main_v38 (cmpi .slt : (⟨S4x1024x32, .i32⟩ : BufTy).Contents (Elt F) → (⟨S4x1024x32, .i32⟩ : BufTy).Contents (Elt F) → (⟨S4x1024x32, .i1⟩ : BufTy).Contents (Elt F)),
    StableHlo.nullary main_c_11 (constantI S_ 32 16384#32),
    StableHlo.unary main_c_11 main_v39 (broadcastInDim S4x1024x32 ![] bcast_S_S4x1024x32 : (⟨S_, .i32⟩ : BufTy).Contents (Elt F) → (⟨S4x1024x32, .i32⟩ : BufTy).Contents (Elt F)),
    StableHlo.binary main_indices main_v39 main_v40 (addi : (⟨S4x1024x32, .i32⟩ : BufTy).Contents (Elt F) → (⟨S4x1024x32, .i32⟩ : BufTy).Contents (Elt F) → (⟨S4x1024x32, .i32⟩ : BufTy).Contents (Elt F)),
    StableHlo.ternary main_v38 main_v40 main_indices main_v41 (select : (⟨S4x1024x32, .i1⟩ : BufTy).Contents (Elt F) → (⟨S4x1024x32, .i32⟩ : BufTy).Contents (Elt F) → (⟨S4x1024x32, .i32⟩ : BufTy).Contents (Elt F) → (⟨S4x1024x32, .i32⟩ : BufTy).Contents (Elt F)),
    StableHlo.unary main_v41 main_v42 (broadcastInDim S4x1024x32x1 ![0, 1, 2] bcast_S4x1024x32_S4x1024x32x1_0_1_2 : (⟨S4x1024x32, .i32⟩ : BufTy).Contents (Elt F) → (⟨S4x1024x32x1, .i32⟩ : BufTy).Contents (Elt F)),
    StableHlo.binary main_v36 main_v42 main_v43 ((fun x i => Host.gather gather_S4x16384x16_S4x1024x32x1_S4x1024x32x16_3_1_0_0_1_3_1116 x i) : (⟨S4x16384x16, .f32⟩ : BufTy).Contents (Elt F) → (⟨S4x1024x32x1, .i32⟩ : BufTy).Contents (Elt F) → (⟨S4x1024x32x16, .f32⟩ : BufTy).Contents (Elt F)),
    StableHlo.binary main_v35 main_v43 main_v44 ((fun a b => concatenate S4x1024x32x19 3 [⟨S4x1024x32x3, a⟩, ⟨S4x1024x32x16, b⟩] concatenates_S4x1024x32x3_S4x1024x32x16_S4x1024x32x19_d3) : (⟨S4x1024x32x3, .f32⟩ : BufTy).Contents (Elt F) → (⟨S4x1024x32x16, .f32⟩ : BufTy).Contents (Elt F) → (⟨S4x1024x32x19, .f32⟩ : BufTy).Contents (Elt F)) ]
theorem postFeat_sub : (postFeat : List (HloOp τ sig (Elt F))).Forall fun op => op.bufs ⊆ StableHlo.tcRefs τ sig :=
  ⟨StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub ..⟩
theorem postFeat_fresh : (postFeat : List (HloOp τ sig (Elt F))).Forall fun op => op.fresh = ∅ :=
  StableHlo.forall_fresh_of_map rfl
/-- The buffers `postFeat` writes. -/
abbrev postFeat_W : List (Ref sig .tc) := [main_v38, main_c_11, main_v39, main_v40, main_v41, main_v42, main_v43, main_v44]
theorem postFeat_writes : (postFeat : List (HloOp τ sig (Elt F))).Forall fun op => op.writes ⊆ (postFeat_W.map (Proc.devRef (τ := τ) .tc)).toFinset :=
  StableHlo.forall_writes_sub_of_map rfl

/-- The first layer. -/
abbrev postL1 : List (HloOp τ sig (Elt F)) :=
  [ StableHlo.unary main_arg2 main_v45 ((transpose S19x32 [1, 0] · transposes_S32x19_S19x32_1_0) : (⟨S32x19, .f32⟩ : BufTy).Contents (Elt F) → (⟨S19x32, .f32⟩ : BufTy).Contents (Elt F)),
    StableHlo.binary main_v44 main_v45 main_v46 ((fun l r => Host.dotGeneral dot_S4x1024x32x19_S19x32_S4x1024x32x32_3_0_012_1_n_n none l r) : (⟨S4x1024x32x19, .f32⟩ : BufTy).Contents (Elt F) → (⟨S19x32, .f32⟩ : BufTy).Contents (Elt F) → (⟨S4x1024x32x32, .f32⟩ : BufTy).Contents (Elt F)),
    StableHlo.unary main_arg3 main_v47 (broadcastInDim S1x1x1x32 ![3] bcast_S32_S1x1x1x32_3 : (⟨S32, .f32⟩ : BufTy).Contents (Elt F) → (⟨S1x1x1x32, .f32⟩ : BufTy).Contents (Elt F)),
    StableHlo.unary main_v47 main_v48 (broadcastInDim S4x1024x32x32 ![0, 1, 2, 3] bcast_S1x1x1x32_S4x1024x32x32_0_1_2_3 : (⟨S1x1x1x32, .f32⟩ : BufTy).Contents (Elt F) → (⟨S4x1024x32x32, .f32⟩ : BufTy).Contents (Elt F)),
    StableHlo.binary main_v46 main_v48 main_v49 (addf : (⟨S4x1024x32x32, .f32⟩ : BufTy).Contents (Elt F) → (⟨S4x1024x32x32, .f32⟩ : BufTy).Contents (Elt F) → (⟨S4x1024x32x32, .f32⟩ : BufTy).Contents (Elt F)) ]
theorem postL1_sub : (postL1 : List (HloOp τ sig (Elt F))).Forall fun op => op.bufs ⊆ StableHlo.tcRefs τ sig :=
  ⟨StableHlo.unary_bufs_sub .., StableHlo.binary_bufs_sub .., StableHlo.unary_bufs_sub .., StableHlo.unary_bufs_sub .., StableHlo.binary_bufs_sub ..⟩
theorem postL1_fresh : (postL1 : List (HloOp τ sig (Elt F))).Forall fun op => op.fresh = ∅ :=
  StableHlo.forall_fresh_of_map rfl
/-- The buffers `postL1` writes. -/
abbrev postL1_W : List (Ref sig .tc) := [main_v45, main_v46, main_v47, main_v48, main_v49]
theorem postL1_writes : (postL1 : List (HloOp τ sig (Elt F))).Forall fun op => op.writes ⊆ (postL1_W.map (Proc.devRef (τ := τ) .tc)).toFinset :=
  StableHlo.forall_writes_sub_of_map rfl

/-- Its positive part. -/
abbrev postR1 : List (HloOp τ sig (Elt F)) :=
  [ StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S4x1024x32x32, .f32⟩) (broadcastInDim S4x1024x32x32 ![] bcast_S_S4x1024x32x32),
    StableHlo.TRef.binary (.of main_v49 : StableHlo.TRef sig ⟨S4x1024x32x32, .f32⟩) (.of main_call1_v0 : StableHlo.TRef sig ⟨S4x1024x32x32, .f32⟩) (.of main_v50 : StableHlo.TRef sig ⟨S4x1024x32x32, .f32⟩) maximumf ]
theorem postR1_sub : (postR1 : List (HloOp τ sig (Elt F))).Forall fun op => op.bufs ⊆ StableHlo.tcRefs τ sig :=
  ⟨StableHlo.nullary_bufs_sub .., StableHlo.unary_bufs_sub .., StableHlo.binary_bufs_sub ..⟩
theorem postR1_fresh : (postR1 : List (HloOp τ sig (Elt F))).Forall fun op => op.fresh = ∅ :=
  StableHlo.forall_fresh_of_map rfl
/-- The buffers `postR1` writes. -/
abbrev postR1_W : List (Ref sig .tc) := [main_call1_cst, main_call1_v0, main_v50]
theorem postR1_writes : (postR1 : List (HloOp τ sig (Elt F))).Forall fun op => op.writes ⊆ (postR1_W.map (Proc.devRef (τ := τ) .tc)).toFinset :=
  StableHlo.forall_writes_sub_of_map rfl

/-- The second layer. -/
abbrev postL2 : List (HloOp τ sig (Elt F)) :=
  [ StableHlo.unary main_arg4 main_v51 ((transpose S32x32 [1, 0] · transposes_S32x32_S32x32_1_0) : (⟨S32x32, .f32⟩ : BufTy).Contents (Elt F) → (⟨S32x32, .f32⟩ : BufTy).Contents (Elt F)),
    StableHlo.binary main_v50 main_v51 main_v52 ((fun l r => Host.dotGeneral dot_S4x1024x32x32_S32x32_S4x1024x32x32_3_0_012_1_n_n none l r) : (⟨S4x1024x32x32, .f32⟩ : BufTy).Contents (Elt F) → (⟨S32x32, .f32⟩ : BufTy).Contents (Elt F) → (⟨S4x1024x32x32, .f32⟩ : BufTy).Contents (Elt F)),
    StableHlo.unary main_arg5 main_v53 (broadcastInDim S1x1x1x32 ![3] bcast_S32_S1x1x1x32_3 : (⟨S32, .f32⟩ : BufTy).Contents (Elt F) → (⟨S1x1x1x32, .f32⟩ : BufTy).Contents (Elt F)),
    StableHlo.unary main_v53 main_v54 (broadcastInDim S4x1024x32x32 ![0, 1, 2, 3] bcast_S1x1x1x32_S4x1024x32x32_0_1_2_3 : (⟨S1x1x1x32, .f32⟩ : BufTy).Contents (Elt F) → (⟨S4x1024x32x32, .f32⟩ : BufTy).Contents (Elt F)),
    StableHlo.binary main_v52 main_v54 main_v55 (addf : (⟨S4x1024x32x32, .f32⟩ : BufTy).Contents (Elt F) → (⟨S4x1024x32x32, .f32⟩ : BufTy).Contents (Elt F) → (⟨S4x1024x32x32, .f32⟩ : BufTy).Contents (Elt F)) ]
theorem postL2_sub : (postL2 : List (HloOp τ sig (Elt F))).Forall fun op => op.bufs ⊆ StableHlo.tcRefs τ sig :=
  ⟨StableHlo.unary_bufs_sub .., StableHlo.binary_bufs_sub .., StableHlo.unary_bufs_sub .., StableHlo.unary_bufs_sub .., StableHlo.binary_bufs_sub ..⟩
theorem postL2_fresh : (postL2 : List (HloOp τ sig (Elt F))).Forall fun op => op.fresh = ∅ :=
  StableHlo.forall_fresh_of_map rfl
/-- The buffers `postL2` writes. -/
abbrev postL2_W : List (Ref sig .tc) := [main_v51, main_v52, main_v53, main_v54, main_v55]
theorem postL2_writes : (postL2 : List (HloOp τ sig (Elt F))).Forall fun op => op.writes ⊆ (postL2_W.map (Proc.devRef (τ := τ) .tc)).toFinset :=
  StableHlo.forall_writes_sub_of_map rfl

/-- Its positive part. -/
abbrev postR2 : List (HloOp τ sig (Elt F)) :=
  [ StableHlo.TRef.nullary (.of main_call2_cst : StableHlo.TRef sig ⟨S_, .f32⟩) (constant S_ .f32 0x00000000#32),
    StableHlo.TRef.unary (.of main_call2_cst : StableHlo.TRef sig ⟨S_, .f32⟩) (.of main_call2_v0 : StableHlo.TRef sig ⟨S4x1024x32x32, .f32⟩) (broadcastInDim S4x1024x32x32 ![] bcast_S_S4x1024x32x32),
    StableHlo.TRef.binary (.of main_v55 : StableHlo.TRef sig ⟨S4x1024x32x32, .f32⟩) (.of main_call2_v0 : StableHlo.TRef sig ⟨S4x1024x32x32, .f32⟩) (.of main_v56 : StableHlo.TRef sig ⟨S4x1024x32x32, .f32⟩) maximumf ]
theorem postR2_sub : (postR2 : List (HloOp τ sig (Elt F))).Forall fun op => op.bufs ⊆ StableHlo.tcRefs τ sig :=
  ⟨StableHlo.nullary_bufs_sub .., StableHlo.unary_bufs_sub .., StableHlo.binary_bufs_sub ..⟩
theorem postR2_fresh : (postR2 : List (HloOp τ sig (Elt F))).Forall fun op => op.fresh = ∅ :=
  StableHlo.forall_fresh_of_map rfl
/-- The buffers `postR2` writes. -/
abbrev postR2_W : List (Ref sig .tc) := [main_call2_cst, main_call2_v0, main_v56]
theorem postR2_writes : (postR2 : List (HloOp τ sig (Elt F))).Forall fun op => op.writes ⊆ (postR2_W.map (Proc.devRef (τ := τ) .tc)).toFinset :=
  StableHlo.forall_writes_sub_of_map rfl

/-- The third layer. -/
abbrev postL3 : List (HloOp τ sig (Elt F)) :=
  [ StableHlo.unary main_arg6 main_v57 ((transpose S32x64 [1, 0] · transposes_S64x32_S32x64_1_0) : (⟨S64x32, .f32⟩ : BufTy).Contents (Elt F) → (⟨S32x64, .f32⟩ : BufTy).Contents (Elt F)),
    StableHlo.binary main_v56 main_v57 main_v58 ((fun l r => Host.dotGeneral dot_S4x1024x32x32_S32x64_S4x1024x32x64_3_0_012_1_n_n none l r) : (⟨S4x1024x32x32, .f32⟩ : BufTy).Contents (Elt F) → (⟨S32x64, .f32⟩ : BufTy).Contents (Elt F) → (⟨S4x1024x32x64, .f32⟩ : BufTy).Contents (Elt F)),
    StableHlo.unary main_arg7 main_v59 (broadcastInDim S1x1x1x64 ![3] bcast_S64_S1x1x1x64_3 : (⟨S64, .f32⟩ : BufTy).Contents (Elt F) → (⟨S1x1x1x64, .f32⟩ : BufTy).Contents (Elt F)),
    StableHlo.unary main_v59 main_v60 (broadcastInDim S4x1024x32x64 ![0, 1, 2, 3] bcast_S1x1x1x64_S4x1024x32x64_0_1_2_3 : (⟨S1x1x1x64, .f32⟩ : BufTy).Contents (Elt F) → (⟨S4x1024x32x64, .f32⟩ : BufTy).Contents (Elt F)),
    StableHlo.binary main_v58 main_v60 main_v61 (addf : (⟨S4x1024x32x64, .f32⟩ : BufTy).Contents (Elt F) → (⟨S4x1024x32x64, .f32⟩ : BufTy).Contents (Elt F) → (⟨S4x1024x32x64, .f32⟩ : BufTy).Contents (Elt F)) ]
theorem postL3_sub : (postL3 : List (HloOp τ sig (Elt F))).Forall fun op => op.bufs ⊆ StableHlo.tcRefs τ sig :=
  ⟨StableHlo.unary_bufs_sub .., StableHlo.binary_bufs_sub .., StableHlo.unary_bufs_sub .., StableHlo.unary_bufs_sub .., StableHlo.binary_bufs_sub ..⟩
theorem postL3_fresh : (postL3 : List (HloOp τ sig (Elt F))).Forall fun op => op.fresh = ∅ :=
  StableHlo.forall_fresh_of_map rfl
/-- The buffers `postL3` writes. -/
abbrev postL3_W : List (Ref sig .tc) := [main_v57, main_v58, main_v59, main_v60, main_v61]
theorem postL3_writes : (postL3 : List (HloOp τ sig (Elt F))).Forall fun op => op.writes ⊆ (postL3_W.map (Proc.devRef (τ := τ) .tc)).toFinset :=
  StableHlo.forall_writes_sub_of_map rfl

/-- Its positive part. -/
abbrev postR3 : List (HloOp τ sig (Elt F)) :=
  [ StableHlo.TRef.nullary (.of main_call3_cst : StableHlo.TRef sig ⟨S_, .f32⟩) (constant S_ .f32 0x00000000#32),
    StableHlo.TRef.unary (.of main_call3_cst : StableHlo.TRef sig ⟨S_, .f32⟩) (.of main_call3_v0 : StableHlo.TRef sig ⟨S4x1024x32x64, .f32⟩) (broadcastInDim S4x1024x32x64 ![] bcast_S_S4x1024x32x64),
    StableHlo.TRef.binary (.of main_v61 : StableHlo.TRef sig ⟨S4x1024x32x64, .f32⟩) (.of main_call3_v0 : StableHlo.TRef sig ⟨S4x1024x32x64, .f32⟩) (.of main_v62 : StableHlo.TRef sig ⟨S4x1024x32x64, .f32⟩) maximumf ]
theorem postR3_sub : (postR3 : List (HloOp τ sig (Elt F))).Forall fun op => op.bufs ⊆ StableHlo.tcRefs τ sig :=
  ⟨StableHlo.nullary_bufs_sub .., StableHlo.unary_bufs_sub .., StableHlo.binary_bufs_sub ..⟩
theorem postR3_fresh : (postR3 : List (HloOp τ sig (Elt F))).Forall fun op => op.fresh = ∅ :=
  StableHlo.forall_fresh_of_map rfl
/-- The buffers `postR3` writes. -/
abbrev postR3_W : List (Ref sig .tc) := [main_call3_cst, main_call3_v0, main_v62]
theorem postR3_writes : (postR3 : List (HloOp τ sig (Elt F))).Forall fun op => op.writes ⊆ (postR3_W.map (Proc.devRef (τ := τ) .tc)).toFinset :=
  StableHlo.forall_writes_sub_of_map rfl

/-- The greatest over the neighbours, and the transpose. -/
abbrev postMax : List (HloOp τ sig (Elt F)) :=
  [ StableHlo.nullary main_cst_12 (constant S_ .f32 0xFF800000#32),
    StableHlo.binary main_v62 main_cst_12 main_v63 ((fun x v => Host.reduce FloatOps.maximumf x v reducesTo_S4x1024x32x64_S4x1024x64_d2 h_S_) : (⟨S4x1024x32x64, .f32⟩ : BufTy).Contents (Elt F) → (⟨S_, .f32⟩ : BufTy).Contents (Elt F) → (⟨S4x1024x64, .f32⟩ : BufTy).Contents (Elt F)),
    StableHlo.unary main_v63 main_v64 ((transpose S4x64x1024 [0, 2, 1] · transposes_S4x1024x64_S4x64x1024_0_2_1) : (⟨S4x1024x64, .f32⟩ : BufTy).Contents (Elt F) → (⟨S4x64x1024, .f32⟩ : BufTy).Contents (Elt F)) ]
theorem postMax_sub : (postMax : List (HloOp τ sig (Elt F))).Forall fun op => op.bufs ⊆ StableHlo.tcRefs τ sig :=
  ⟨StableHlo.nullary_bufs_sub .., StableHlo.binary_bufs_sub .., StableHlo.unary_bufs_sub ..⟩
theorem postMax_fresh : (postMax : List (HloOp τ sig (Elt F))).Forall fun op => op.fresh = ∅ :=
  StableHlo.forall_fresh_of_map rfl
/-- The buffers `postMax` writes. -/
abbrev postMax_W : List (Ref sig .tc) := [main_cst_12, main_v63, main_v64]
theorem postMax_writes : (postMax : List (HloOp τ sig (Elt F))).Forall fun op => op.writes ⊆ (postMax_W.map (Proc.devRef (τ := τ) .tc)).toFinset :=
  StableHlo.forall_writes_sub_of_map rfl

theorem part0_chain (c : Dev nD) : main_part0 (F := F) c = (Pipeline.chainK
  [ StableHlo.seq preOps, HostLoop.enter 0, StableHlo.seq postCentres, StableHlo.seq postDist, StableHlo.seq postNear ]
  (StableHlo.seq postGrp) : Prog (TpuEff nD τ sig (Elt F) (HostLoop.Sig (Pipeline.Sig Λ₀ (Fin 0) fun p => (pcfgs (F := F) p).Adm) 1) .tc) PUnit) := by
  rewrite [StableHlo.chainK_seq_cons, Pipeline.chainK_cons, StableHlo.chainK_seq_cons, StableHlo.chainK_seq_cons, StableHlo.chainK_seq_cons]
  chain_rfl

theorem part1_chain (c : Dev nD) : main_part1 (F := F) c = (Pipeline.chain
  [ StableHlo.seq postFeat, StableHlo.seq postL1, StableHlo.seq postR1, StableHlo.seq postL2, StableHlo.seq postR2,
    StableHlo.seq postL3, StableHlo.seq postR3, StableHlo.seq postMax ] : Prog (TpuEff nD τ sig (Elt F) (HostLoop.Sig (Pipeline.Sig Λ₀ (Fin 0) fun p => (pcfgs (F := F) p).Adm) 1) .tc) PUnit) := by
  rewrite [StableHlo.chain_seq_cons, StableHlo.chain_seq_cons, Pipeline.chain_cons, StableHlo.chain_seq_cons, Pipeline.chain_cons, StableHlo.chain_seq_cons, Pipeline.chain_cons, StableHlo.chain_seq_cons]
  chain_rfl

theorem main_chain (c : Dev nD) : main (F := F) c = (Pipeline.chain
  [ StableHlo.seq preOps, HostLoop.enter 0, StableHlo.seq postCentres, StableHlo.seq postDist, StableHlo.seq postNear,
    StableHlo.seq postGrp, StableHlo.seq postFeat, StableHlo.seq postL1, StableHlo.seq postR1, StableHlo.seq postL2, StableHlo.seq postR2,
    StableHlo.seq postL3, StableHlo.seq postR3, StableHlo.seq postMax ] : Prog (TpuEff nD τ sig (Elt F) (HostLoop.Sig (Pipeline.Sig Λ₀ (Fin 0) fun p => (pcfgs (F := F) p).Adm) 1) .tc) PUnit) := by
  show (main_part0 (F := F) c >>= fun _ => main_part1 (F := F) c) = _
  rewrite [part1_chain, part0_chain, Pipeline.chainK_bind_chain]
  chain_rfl

theorem body_chain : main_while0_body (F := F) = (Pipeline.chain
  [ StableHlo.seq tripIdx, StableHlo.seq tripDist, StableHlo.seq tripArg, StableHlo.seq tripStep ] : Prog (TpuEff nD τ sig (Elt F) (HostLoop.Sig (Pipeline.Sig Λ₀ (Fin 0) fun p => (pcfgs (F := F) p).Adm) 1) .tc) PUnit) := by
  rewrite [StableHlo.chain_seq_cons, StableHlo.chain_seq_cons, Pipeline.chain_cons, StableHlo.chain_seq_cons]
  chain_rfl

/-- The loop's condition: the bound, and the counter compared with it. -/
abbrev condOps : List (HloOp τ sig (Elt F)) :=
  [ StableHlo.nullary main_while0c_c_19 (constantI S_ 32 1024#32),
    StableHlo.binary main_v4_2 main_while0c_c_19 main_while0c_v65 (cmpi .slt) ]
abbrev condOps_W : List (Ref sig .tc) := [main_while0c_c_19, main_while0c_v65]
theorem condOps_writes : (condOps : List (HloOp τ sig (Elt F))).Forall fun op => op.writes ⊆ (condOps_W.map (Proc.devRef (τ := τ) .tc)).toFinset :=
  StableHlo.forall_writes_sub_of_map rfl

abbrev preI : List (List (HloOp τ sig (Elt F))) := [preOps]
abbrev bodyI : List (List (HloOp τ sig (Elt F))) := [tripIdx, tripDist, tripArg, tripStep]
abbrev postI : List (List (HloOp τ sig (Elt F))) := [postCentres, postDist, postNear, postGrp, postFeat, postL1, postR1, postL2, postR2, postL3, postR3, postMax]

theorem hpre : Plain (preI (F := F)) := .cons preOps_sub (hf := List.forall_iff_forall_mem.mp preOps_fresh) (.nil)
theorem hbodyI : Plain (bodyI (F := F)) := .cons tripIdx_sub (hf := List.forall_iff_forall_mem.mp tripIdx_fresh) (.cons tripDist_sub (hf := List.forall_iff_forall_mem.mp tripDist_fresh) (.cons tripArg_sub (hf := List.forall_iff_forall_mem.mp tripArg_fresh) (.cons tripStep_sub (hf := List.forall_iff_forall_mem.mp tripStep_fresh) (.nil))))
theorem hpost : Plain (postI (F := F)) := .cons postCentres_sub (hf := List.forall_iff_forall_mem.mp postCentres_fresh) (.cons postDist_sub (hf := List.forall_iff_forall_mem.mp postDist_fresh) (.cons postNear_sub (hf := List.forall_iff_forall_mem.mp postNear_fresh) (.cons postGrp_sub (hf := List.forall_iff_forall_mem.mp postGrp_fresh) (.cons postFeat_sub (hf := List.forall_iff_forall_mem.mp postFeat_fresh) (.cons postL1_sub (hf := List.forall_iff_forall_mem.mp postL1_fresh) (.cons postR1_sub (hf := List.forall_iff_forall_mem.mp postR1_fresh) (.cons postL2_sub (hf := List.forall_iff_forall_mem.mp postL2_fresh) (.cons postR2_sub (hf := List.forall_iff_forall_mem.mp postR2_fresh) (.cons postL3_sub (hf := List.forall_iff_forall_mem.mp postL3_fresh) (.cons postR3_sub (hf := List.forall_iff_forall_mem.mp postR3_fresh) (.cons postMax_sub (hf := List.forall_iff_forall_mem.mp postMax_fresh) (.nil))))))))))))

variable (m : (ℓ : Loc nD τ sig) → Buf (Elt F) ℓ) (ρ : Dev nD → PrngReg)

/-- Every buffer's contents before the `k`-th run of the condition. -/
abbrev atK (k : ℕ) (c : Dev nD) : Valuation τ sig (Elt F) := atTrip condOps bodyI (entryContents preI m) k c

theorem ctr_trip (X : Valuation τ sig (Elt F)) :
    after tripStep (after tripArg (after tripDist (after tripIdx (after condOps X)))) (Proc.devRef .tc main_v4_2)
      = addi (X (Proc.devRef .tc main_v4_2)) (constantI S_ 32 1#32) := by
  have h (Y : Valuation τ sig (Elt F)) : after tripStep Y (Proc.devRef .tc main_v4_2) = addi (Y (Proc.devRef .tc main_v4_2)) (constantI S_ 32 1#32) := by
    after_results
    rfl
  rw [h, after_of_writes_sub tripArg _ tripArg_writes (by decide +kernel),
    after_of_writes_sub tripDist _ tripDist_writes (by decide +kernel),
    after_of_writes_sub tripIdx _ tripIdx_writes (by decide +kernel),
    after_of_writes_sub condOps _ condOps_writes (by decide +kernel)]

theorem ctr_entry (c : Dev nD) : entryContents preI m c (Proc.devRef .tc main_v4_2) = fun _ => (0#32 : BitVec 32) := by
  simp only [entryContents, afterL_cons, afterL_nil]
  after_reads_simp
  rfl

/-- Before the `k`-th condition the counter is `k`. -/
theorem atK_ctr (c : Dev nD) : ∀ k, atK m k c (Proc.devRef .tc main_v4_2) = fun _ => Scf.iv 0#32 1#32 k
  | 0 => by rw [show atK m 0 c = entryContents preI m c from rfl, ctr_entry, Scf.iv_zero]
  | k + 1 => by
    rw [show atK m (k + 1) c = afterL bodyI (after condOps (atK m k c)) from rfl]
    simp only [afterL_cons, afterL_nil]
    rw [ctr_trip, atK_ctr c k, Scf.iv_succ]
    rfl

set_option backward.isDefEq.respectTransparency.types false in
/-- The loop runs while the counter is under 1024. -/
theorem cond_spec : CondSpec (pcfgs (F := F)) defs₀ loops (main_while0_cond (F := F)) condOps bodyI (entryContents preI m) 1024 := by
  intro k hk c bd
  have hctr := atK_ctr m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atK m k c) main_v4_2 HostLoop.idx0)
        (HloOp.result _ (atK m k c) main_while0c_c_19 HostLoop.idx0) = 1#1) (k < 1024)
    rw [nullary_result_ne _ _ _ _ (by decide), nullary_result, hctr]
    exact Scf.cmpi_slt_iv_ub_iff (lb := 0#32) (ub := 1024#32) (st := 1#32) (by decide) (show k ≤ Scf.trips 0#32 1024#32 1#32 from hk)
  isplitl [Hb]; · iexact Hb
  rw [after_cons, after_cons, after_nil]; iexact Hh

set_option maxRecDepth 100000 in
/-- Every fair execution of the reference ends, with every buffer at what the lists leave. -/
theorem run_fold : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = finalContents condOps preI bodyI postI 1024 m c (Proc.devRef .tc b)) :=
  run_loop (pcfgs (F := F)) defs₀ loops main 0 main_while0_cond main_while0_body rfl preI bodyI postI condOps hpre hbodyI hpost
    (fun c => by rw [main_chain]; rfl) (by rw [body_chain]; rfl) 1024 m ρ (cond_spec m)

end Cert.RefRun
-- ==== Proof.RefFrame.lean ====
/- The reference leaves its arguments and its semaphores as they were. -/
module

public import proofs.«01_k».proof.Proof.RefRun
public import Idealize.ShloMosaic.Lib.StableHlo.RunHlo
public import Idealize.ShloMosaic.Lib.Quiescent

@[expose] public section

noncomputable section

namespace Cert.RefFrame

open Cert.ReferenceIdeal Cert.ReferenceIdeal.Gen Cert.RefRun
open Idealize.ShloMosaic Idealize.ShloMosaic.TcCoe Idealize.ShloMosaic.StableHlo
open Idealize.SL Idealize.SL.Sem

variable {F : FTy → Type} [FloatOps F]
variable (m : (ℓ : Loc nD τ sig) → Buf (Elt F) ℓ) (ρ : Dev nD → PrngReg)

/-- Every buffer a trip writes, its condition included. -/
abbrev trip_W : List (Ref sig .tc) := condOps_W ++ tripIdx_W ++ tripDist_W ++ tripArg_W ++ tripStep_W

/-- Every buffer written after the loop. -/
abbrev post_W : List (Ref sig .tc) := postCentres_W ++ postDist_W ++ postNear_W ++ postGrp_W ++ postFeat_W ++ postL1_W ++ postR1_W
  ++ postL2_W ++ postR2_W ++ postL3_W ++ postR3_W ++ postMax_W

/-- A trip keeps what it does not write. -/
theorem trip_keeps (X : Valuation τ sig (Elt F)) {r : Ref sig .tc} (h : r ∉ trip_W) :
    afterL bodyI (after condOps X) (Proc.devRef .tc r) = X (Proc.devRef .tc r) := by
  simp only [trip_W, List.mem_append, not_or] at h
  simp only [afterL_cons, afterL_nil]
  rw [after_of_writes_sub tripStep _ tripStep_writes h.2, after_of_writes_sub tripArg _ tripArg_writes h.1.2,
    after_of_writes_sub tripDist _ tripDist_writes h.1.1.2, after_of_writes_sub tripIdx _ tripIdx_writes h.1.1.1.2,
    after_of_writes_sub condOps _ condOps_writes h.1.1.1.1]

/-- The loop keeps what its trips do not write. -/
theorem loop_keeps (c : Dev nD) {r : Ref sig .tc} (h : r ∉ trip_W) :
    ∀ k, atK m k c (Proc.devRef .tc r) = entryContents preI m c (Proc.devRef .tc r)
  | 0 => rfl
  | k + 1 => (trip_keeps _ h).trans (loop_keeps c h k)

/-- What the operations after the loop keep. -/
theorem post_keeps (X : Valuation τ sig (Elt F)) {r : Ref sig .tc} (h : r ∉ post_W) :
    afterL postI X (Proc.devRef .tc r) = X (Proc.devRef .tc r) := by
  simp only [post_W, List.mem_append, not_or] at h
  obtain ⟨⟨⟨⟨⟨⟨⟨⟨⟨⟨⟨h1, h2⟩, h3⟩, h4⟩, h5⟩, h6⟩, h7⟩, h8⟩, h9⟩, h10⟩, h11⟩, h12⟩ := h
  simp only [afterL_cons, afterL_nil]
  rw [after_of_writes_sub postMax _ postMax_writes h12, after_of_writes_sub postR3 _ postR3_writes h11,
    after_of_writes_sub postL3 _ postL3_writes h10, after_of_writes_sub postR2 _ postR2_writes h9,
    after_of_writes_sub postL2 _ postL2_writes h8, after_of_writes_sub postR1 _ postR1_writes h7,
    after_of_writes_sub postL1 _ postL1_writes h6, after_of_writes_sub postFeat _ postFeat_writes h5,
    after_of_writes_sub postGrp _ postGrp_writes h4, after_of_writes_sub postNear _ postNear_writes h3,
    after_of_writes_sub postDist _ postDist_writes h2, after_of_writes_sub postCentres _ postCentres_writes h1]

/-- The contents when the loop is left. -/
abbrev loopEnd (c : Dev nD) : Valuation τ sig (Elt F) := after condOps (atK m 1024 c)

/-- A buffer that no operation writes is at the end as at the start. -/
theorem kept (c : Dev nD) {r : Ref sig .tc} (h0 : r ∉ preOps_W) (h1 : r ∉ trip_W) (h2 : r ∉ post_W) :
    finalContents condOps preI bodyI postI 1024 m c (Proc.devRef .tc r) = m ((c.tc : Thread nD τ).loc r) := by
  show afterL postI (loopEnd m c) _ = _
  rw [post_keeps _ h2, loopEnd, after_of_writes_sub condOps _ condOps_writes (fun h => h1 (by simp only [trip_W, List.mem_append, h, true_or])),
    loop_keeps m c h1]
  simp only [entryContents, afterL_cons, afterL_nil]
  rw [after_of_writes_sub preOps _ preOps_writes h0]

/-- The run with its results as the operations leave them, the arguments unchanged. -/
theorem run : θ_run (defs (F := F)) (onTc (τ := τ) (main (F := F))) ⟨m, fun _ => 0, ρ⟩ (fun r => ∀ c : Dev nD,
    r.2.mem (c.tc.loc main_v11) = finalContents condOps preI bodyI postI 1024 m c (Proc.devRef .tc main_v11)
      ∧ r.2.mem (c.tc.loc main_v64) = finalContents condOps preI bodyI postI 1024 m c (Proc.devRef .tc main_v64)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)
      ∧ r.2.mem (c.tc.loc main_arg7) = m (c.tc.loc main_arg7)) :=
  θ_run_mono (run_fold m ρ) fun r h c =>
    ⟨h c main_v11 rfl, h c main_v64 rfl,
      (h c main_arg0 rfl).trans (kept m c (by decide +kernel) (by decide +kernel) (by decide +kernel)),
      (h c main_arg1 rfl).trans (kept m c (by decide +kernel) (by decide +kernel) (by decide +kernel)),
      (h c main_arg2 rfl).trans (kept m c (by decide +kernel) (by decide +kernel) (by decide +kernel)),
      (h c main_arg3 rfl).trans (kept m c (by decide +kernel) (by decide +kernel) (by decide +kernel)),
      (h c main_arg4 rfl).trans (kept m c (by decide +kernel) (by decide +kernel) (by decide +kernel)),
      (h c main_arg5 rfl).trans (kept m c (by decide +kernel) (by decide +kernel) (by decide +kernel)),
      (h c main_arg6 rfl).trans (kept m c (by decide +kernel) (by decide +kernel) (by decide +kernel)),
      (h c main_arg7 rfl).trans (kept m c (by decide +kernel) (by decide +kernel) (by decide +kernel))⟩

/-- The frame: the arguments unchanged, the semaphores at rest. -/
theorem frame : θ_run (defs (F := F)) (onTc (τ := τ) (main (F := F))) ⟨m, fun _ => 0, ρ⟩ (fun r =>
    (∀ c : Dev nD, r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)
      ∧ r.2.mem (c.tc.loc main_arg7) = m (c.tc.loc main_arg7)) ∧ r.2.sem = fun _ => 0) :=
  θ_run_mono (run m ρ) fun r h => ⟨fun c => (h c).2.2, sem_eq_zero_of_no_sems rfl _⟩

end Cert.RefFrame
-- ==== Proof.RefArg.lean ====
/- The reference's arg-max is the first position of the greatest value. -/
module

public import proofs.«01_k».proof.Proof.Gen.ReferenceIdeal
public import proofs.«01_k».proof.Proof.Spec
public import Idealize.ShloMosaic.PureOps.Ideal
public import Idealize.ShloMosaic.PureOps.Ideal.Laws
public import Idealize.ShloMosaic.PureOps.Reduce
public import Idealize.ShloMosaic.Lib.ValueIdx

@[expose] public section

noncomputable section

namespace Cert.RefArg

open Cert.ReferenceIdeal Cert.ReferenceIdeal.Gen Cert.Spec
open Idealize.ShloMosaic Idealize.ShloMosaic.Ideal Idealize.ShloMosaic.ValueIdx

/-- `p` is kept against `q`: a greater value, or an equal one at a position not later. -/
def Beats (p q : EReal × BitVec 32) : Prop := q.1 < p.1 ∨ q.1 = p.1 ∧ p.2.toInt ≤ q.2.toInt

theorem beats_refl (p : EReal × BitVec 32) : Beats p p := .inr ⟨rfl, le_rfl⟩

theorem Beats.trans {p q r : EReal × BitVec 32} (h : Beats p q) (h' : Beats q r) : Beats p r := by
  rcases h with h | ⟨h, g⟩ <;> rcases h' with h' | ⟨h', g'⟩
  · exact .inl (h'.trans h)
  · exact .inl (h' ▸ h)
  · exact .inl (h ▸ h')
  · exact .inr ⟨h'.trans h, g.trans g'⟩

/-- The reducer returns one of its two pairs, the one kept against both. -/
theorem reducer_cases (a b : EReal × BitVec 32) :
    (reducer_argmax_f32_i32 (F := Ideal) a b = a ∨ reducer_argmax_f32_i32 (F := Ideal) a b = b)
      ∧ Beats (reducer_argmax_f32_i32 (F := Ideal) a b) a ∧ Beats (reducer_argmax_f32_i32 (F := Ideal) a b) b := by
  obtain ⟨a1, a2⟩ := a
  obtain ⟨b1, b2⟩ := b
  rcases lt_trichotomy a1 b1 with h | h | h
  · have e : reducer_argmax_f32_i32 (F := Ideal) (a1, a2) (b1, b2) = (b1, b2) := by
      simp [reducer_argmax_f32_i32, cmpf_def, Ideal.cmp, Scalar.select, IntOp.ori, IntOp.andi, h.le, h.ne, not_lt.mpr h.le]
    rw [e]; exact ⟨.inr rfl, .inl h, beats_refl _⟩
  · subst h
    by_cases g : a2.toInt < b2.toInt
    · have e : reducer_argmax_f32_i32 (F := Ideal) (a1, a2) (a1, b2) = (a1, a2) := by
        simp [reducer_argmax_f32_i32, cmpf_def, Ideal.cmp, Scalar.select, IntOp.ori, IntOp.andi, IntOp.cmpi, BitVec.slt, g]
      rw [e]; exact ⟨.inl rfl, beats_refl _, .inr ⟨rfl, g.le⟩⟩
    · have e : reducer_argmax_f32_i32 (F := Ideal) (a1, a2) (a1, b2) = (a1, b2) := by
        simp [reducer_argmax_f32_i32, cmpf_def, Ideal.cmp, Scalar.select, IntOp.ori, IntOp.andi, IntOp.cmpi, BitVec.slt, g]
      rw [e]; exact ⟨.inr rfl, .inr ⟨rfl, not_lt.mp g⟩, beats_refl _⟩
  · have e : reducer_argmax_f32_i32 (F := Ideal) (a1, a2) (b1, b2) = (a1, a2) := by
      simp [reducer_argmax_f32_i32, cmpf_def, Ideal.cmp, Scalar.select, IntOp.ori, IntOp.andi, h, h.ne']
    rw [e]; exact ⟨.inl rfl, beats_refl _, .inl h⟩

/-- The fold returns a pair it met, kept against every pair it met. -/
theorem fold_beats (L : List (EReal × BitVec 32)) : ∀ a : EReal × BitVec 32,
    L.foldl (reducer_argmax_f32_i32 (F := Ideal)) a ∈ a :: L
      ∧ ∀ p ∈ a :: L, Beats (L.foldl (reducer_argmax_f32_i32 (F := Ideal)) a) p := by
  induction L with
  | nil => intro a; simp [beats_refl]
  | cons b L ih =>
    intro a
    obtain ⟨h1, h2, h3⟩ := reducer_cases a b
    obtain ⟨i1, i2⟩ := ih (reducer_argmax_f32_i32 (F := Ideal) a b)
    rw [List.foldl_cons]
    refine ⟨?_, fun p hp => ?_⟩
    · rcases List.mem_cons.mp i1 with e | e
      · rw [e]; rcases h1 with e' | e' <;> rw [e'] <;> simp
      · exact List.mem_cons_of_mem _ (List.mem_cons_of_mem _ e)
    · rcases List.mem_cons.mp hp with rfl | hp
      · exact (i2 _ List.mem_cons_self).trans h2
      · rcases List.mem_cons.mp hp with rfl | hp
        · exact (i2 _ List.mem_cons_self).trans h3
        · exact i2 _ (List.mem_cons_of_mem _ hp)

theorem mem_fiber {s t : Shape} {axes : List (Fin s.rank)} {α β : Type} (x : s.Idx → α) (y : s.Idx → β) (h : s.ReducesTo axes t)
    (j : t.Idx) (p : α × β) : p ∈ Host.argReduceFiber x y h j ↔ ∃ i, h.drop i = j ∧ p = (x i, y i) := by
  simp only [Host.argReduceFiber, List.mem_map, List.mem_filter, List.mem_finRange, true_and, decide_eq_true_eq]
  refine ⟨fun ⟨n, hn, e⟩ => ⟨_, hn, e.symm⟩, fun ⟨i, hi, e⟩ => ⟨s.rowMajor i, ?_, ?_⟩⟩
  · rw [Equiv.symm_apply_apply]; exact hi
  · rw [Equiv.symm_apply_apply]; exact e.symm

/-- The reference's arg-max over a row of 16384 values: the word of the first position of the greatest. -/
theorem argmax_apply (x : FVec Ideal S4x16384 .f32) (b : Fin 4) :
    (Host.argReduce reducer_argmax_f32_i32 x (iotaInDim S4x16384 32 1) (constant S_ .f32 0xFF800000#32) (constantI S_ 32 0#32)
        reducesTo_S4x16384_S4_d1 h_S_ (ix1 b)).2
      = BitVec.ofNat 32 (top fun n : Fin (16383 + 1) => x (ix2 b n)).val := by
  rw [argReduce_eq_reduce2, Host.reduce2_eq_foldl_fiber]
  set L := Host.argReduceFiber x (iotaInDim S4x16384 32 1) reducesTo_S4x16384_S4_d1 (ix1 b) with hL
  have hbot : (constant (F := Ideal) S_ .f32 0xFF800000#32) (Shape.Idx.first h_S_) = (⊥ : EReal) := by
    show Ideal.ofBits .f32 0xFF800000#32 = ⊥
    simp [Ideal.ofBits, Ideal.ieee]
  rw [hbot]
  obtain ⟨h1, h2⟩ := fold_beats L (⊥, (constantI S_ 32 0#32) (Shape.Idx.first h_S_))
  set r := L.foldl (reducer_argmax_f32_i32 (F := Ideal)) (⊥, (constantI S_ 32 0#32) (Shape.Idx.first h_S_)) with hr
  have hmem (n : Fin (16383 + 1)) : (x (ix2 b n), BitVec.ofNat 32 n.val) ∈ L := by
    rw [hL, mem_fiber]
    exact ⟨ix2 b n, by funext a; fin_cases a; rfl, rfl⟩
  have hin : ∃ n : Fin (16383 + 1), r = (x (ix2 b n), BitVec.ofNat 32 n.val) := by
    rcases List.mem_cons.mp h1 with e | e
    · refine ⟨0, ?_⟩
      have := h2 _ (List.mem_cons_of_mem _ (hmem 0))
      rw [e] at this ⊢
      rcases this with g | ⟨g, -⟩
      · exact absurd g not_lt_bot
      · exact Prod.ext g.symm rfl
    · rw [hL, mem_fiber] at e
      obtain ⟨i, hi, e⟩ := e
      refine ⟨i 1, ?_⟩
      have hb : i 0 = b := congrFun hi 0
      rw [e, eq_ix2 i, hb]; rfl
  obtain ⟨n, hn⟩ := hin
  have ht : IsTop (fun n : Fin (16383 + 1) => x (ix2 b n)) n := by
    have hb (k : Fin (16383 + 1)) : Beats (x (ix2 b n), BitVec.ofNat 32 n.val) (x (ix2 b k), BitVec.ofNat 32 k.val) :=
      hn ▸ h2 _ (List.mem_cons_of_mem _ (hmem k))
    refine ⟨fun k => ?_, fun k e => ?_⟩
    · rcases hb k with g | ⟨g, -⟩
      · exact g.le
      · exact g.le
    · rcases hb k with g | ⟨-, g⟩
      · exact absurd e g.ne
      · have h1 := n.isLt
        have h2 := k.isLt
        rw [BitVec.toInt_eq_toNat_of_lt (by rw [BitVec.toNat_ofNat]; omega), BitVec.toInt_eq_toNat_of_lt (by rw [BitVec.toNat_ofNat]; omega),
          BitVec.toNat_ofNat, BitVec.toNat_ofNat] at g
        rw [Fin.le_def]
        omega
  rw [hn, top_eq ht]

end Cert.RefArg
-- ==== Proof.FpsRef.lean ====
/- The reference's loop step by step is the farthest-point sequence, and its first result the centres' coordinates. -/
module

public import proofs.«01_k».proof.Proof.RefFrame
public import proofs.«01_k».proof.Proof.RefArg
public import proofs.«01_k».proof.Proof.Gather
public import proofs.«01_k».proof.Proof.Words
public import proofs.«01_k».proof.Proof.Spec
public import Idealize.ShloMosaic.PureOps.Ideal.Laws
public import Idealize.ShloMosaic.Lib.ValueLayout

@[expose] public section

set_option maxRecDepth 16384

noncomputable section

namespace Cert.FpsRef

open Cert.ReferenceIdeal Cert.ReferenceIdeal.Gen Cert.RefRun Cert.RefFrame Cert.Spec
open Idealize.ShloMosaic Idealize.ShloMosaic.TcCoe Idealize.ShloMosaic.Tactic Idealize.ShloMosaic.ValueIdx
open Idealize.ShloMosaic.StableHlo hiding reshape

/-- The distance every point starts with. -/
abbrev big : EReal := Ideal.ofBits .f32 0x501502F9#32

/-- Batch row `b` of the points as a cloud. -/
def cloud (x : FVec Ideal S4x16384x3 .f32) (b : Fin 4) : Cloud := fun n e => x (ix3 b n e)

/-- The wrap of negative words. -/
abbrev wrapped {s : Shape} (w : IVec s 32) (h : S_.BroadcastsInDim s ![]) (N : BitVec 32) : IVec s 32 :=
  select (cmpi .slt w (broadcastInDim s ![] h (constantI S_ 32 0#32))) (addi w (broadcastInDim s ![] h (constantI S_ 32 N))) w

theorem wrapped_apply {s : Shape} (w : IVec s 32) (h : S_.BroadcastsInDim s ![]) (N : BitVec 32) (j : s.Idx) {n : ℕ} (hn : n < 2 ^ 31)
    (hw : w j = BitVec.ofNat 32 n) : wrapped w h N j = BitVec.ofNat 32 n := Words.wrap _ _ _ j hn rfl hw

/-! ## The squared distances to the centres -/

/-- The centres' words beside the batch rows'. -/
abbrev pairs (r f : IVec S4 32) : IVec S4x2 32 :=
  concatenate S4x2 1 [⟨S4x1, broadcastInDim S4x1 ![0] bcast_S4_S4x1_0 (wrapped r bcast_S_S4 4#32)⟩,
    ⟨S4x1, broadcastInDim S4x1 ![0] bcast_S4_S4x1_0 (wrapped f bcast_S_S4 16384#32)⟩] concatenates_S4x1_S4x1_S4x2_d1

/-- What a trip subtracts from every point. -/
abbrev spread (x : FVec Ideal S4x16384x3 .f32) (r f : IVec S4 32) : FVec Ideal S4x16384x3 .f32 :=
  broadcastInDim S4x16384x3 ![0, 1, 2] bcast_S4x1x3_S4x16384x3_0_1_2
    (broadcastInDim S4x1x3 ![0, 2] bcast_S4x3_S4x1x3_0_2 (Host.gather gather_S4x16384x3_S4x2_S4x3_1_01_n_n_01_1_113 x (pairs r f)))

/-- The trip's distances. -/
abbrev dists (x : FVec Ideal S4x16384x3 .f32) (r f : IVec S4 32) : FVec Ideal S4x16384 .f32 :=
  Host.reduceAdd (mulf (subf x (spread x r f)) (subf x (spread x r f))) (constant S_ .f32 0x00000000#32) reducesTo_S4x16384x3_S4x16384_d2 h_S_

theorem pairs_0 (r f : IVec S4 32) (b : Fin 4) {n : ℕ} (hn : n < 2 ^ 31) (h : r (ix1 b) = BitVec.ofNat 32 n) :
    pairs r f (ix2 b (0 : Fin 2)) = BitVec.ofNat 32 n := by
  refine (concatenate_pair_apply_left (t := S4x2) (s₁ := S4x1) (s₂ := S4x1) 1 _ _ _ _ rfl (ix2 b (0 : Fin 1)) fun a => by fin_cases a <;> rfl).trans ?_
  refine (broadcastInDim_apply _ _ _ _ (ix1 b) fun a => by fin_cases a; rfl).trans ?_
  exact wrapped_apply _ _ _ _ hn h

theorem pairs_1 (r f : IVec S4 32) (b : Fin 4) {n : ℕ} (hn : n < 2 ^ 31) (h : f (ix1 b) = BitVec.ofNat 32 n) :
    pairs r f (ix2 b (1 : Fin 2)) = BitVec.ofNat 32 n := by
  refine (concatenate_pair_apply_right (t := S4x2) (s₁ := S4x1) (s₂ := S4x1) 1 _ _ _ _ rfl rfl (ix2 b (0 : Fin 1)) (fun a ha => by
    fin_cases a
    · rfl
    · exact absurd rfl ha) rfl).trans ?_
  refine (broadcastInDim_apply _ _ _ _ (ix1 b) fun a => by fin_cases a; rfl).trans ?_
  exact wrapped_apply _ _ _ _ hn h

theorem spread_apply (x : FVec Ideal S4x16384x3 .f32) (f : IVec S4 32) (b : Fin 4) (g n : Fin (16383 + 1)) (e : Fin 3)
    (hf : f (ix1 b) = BitVec.ofNat 32 g.val) : spread x (iotaInDim S4 32 0) f (ix3 b n e) = cloud x b g e := by
  refine (broadcastInDim_apply _ _ _ _ (ix3 b (0 : Fin 1) e) fun a => by fin_cases a <;> rfl).trans ?_
  refine (broadcastInDim_apply _ _ _ _ (ix2 b e) fun a => by fin_cases a <;> rfl).trans ?_
  have hb : (4 : ℕ) < 2 ^ 31 := by norm_num
  exact Gather.pair _ x _ b b g e
    (by rw [pairs_0 _ f b (n := b.val) (by omega) rfl, Words.toInt_ofNat (by omega)])
    (by rw [pairs_1 _ f b (n := g.val) (by omega) hf, Words.toInt_ofNat (by omega)])

theorem dists_apply (x : FVec Ideal S4x16384x3 .f32) (f : IVec S4 32) (b : Fin 4) (g n : Fin (16383 + 1))
    (hf : f (ix1 b) = BitVec.ofNat 32 g.val) : dists x (iotaInDim S4 32 0) f (ix2 b n) = sqd (cloud x b) g n := by
  refine (Ideal.hostReduceAdd_single _ (by decide) _ _ _).trans ?_
  have h0 : (constant (F := Ideal) S_ .f32 0x00000000#32) (Shape.Idx.first h_S_) = (0 : EReal) := Ideal.ofBits_zero_f32
  rw [h0, zero_add]
  refine (Fin.sum_univ_three _).trans ?_
  have t (e : Fin 3) (i : S4x16384x3.Idx) (hi : i = ix3 b n e) : mulf (subf x (spread x (iotaInDim S4 32 0) f)) (subf x (spread x (iotaInDim S4 32 0) f)) i
      = (cloud x b n e - cloud x b g e) * (cloud x b n e - cloud x b g e) := by
    rw [hi, mulf_apply, subf_apply, spread_apply x f b g n e hf]; rfl
  rw [t 0 _ (by funext a; fin_cases a <;> rfl), t 1 _ (by funext a; fin_cases a <;> rfl), t 2 _ (by funext a; fin_cases a <;> rfl)]
  rfl

/-! ## What a trip's lists leave -/

section Lists

variable (Y : Valuation τ sig (Elt Ideal))

/-- The words a trip records. -/
abbrev recorded (w : IVec S4x1024 32) (k : IVec S_ 32) (f : IVec S4 32) : IVec S4x1024 32 :=
  Host.scatter scatter_S4x1024_S1_S4_0_1_1_0 (fun _ b => b) w
    (broadcastInDim S1 ![] bcast_S_S1 (select (cmpi .slt k (constantI S_ 32 0#32)) (addi k (constantI S_ 32 1024#32)) k)) f

theorem idx_v71 : after tripIdx Y (Proc.devRef .tc main_while0b_v71)
    = recorded (Y (Proc.devRef .tc main_v4_4)) (Y (Proc.devRef .tc main_v4_3)) (Y (Proc.devRef .tc main_v4_6)) := by
  after_results; rfl

theorem idx_v65 : after tripIdx Y (Proc.devRef .tc main_while0b_v65) = addi (Y (Proc.devRef .tc main_v4_3)) (constantI S_ 32 1#32) := by
  after_results

theorem dist_v91 : after tripDist Y (Proc.devRef .tc main_while0b_v91)
    = minimumf (F := Ideal) (φ := .f32) (Y (Proc.devRef .tc main_v4_5))
        (dists (Y (Proc.devRef .tc main_v4_1)) (Y (Proc.devRef .tc main_v4_0)) (Y (Proc.devRef .tc main_v4_6))) := by
  after_results

theorem arg_v92 : after tripArg Y (Proc.devRef .tc main_while0b_v92)
    = fun j => (Host.argReduce (F := Ideal) (reducer_argmax_f32_i32 (F := Ideal)) (Y (Proc.devRef .tc main_while0b_v91) : FVec Ideal S4x16384 .f32) (iotaInDim S4x16384 32 1)
        (constant S_ .f32 0xFF800000#32) (constantI S_ 32 0#32) reducesTo_S4x16384_S4_d1 h_S_ j).2 := by
  after_results; rfl

theorem step_v4_3 : after tripStep Y (Proc.devRef .tc main_v4_3) = Y (Proc.devRef .tc main_while0b_v65) := by after_results; rfl
theorem step_v4_4 : after tripStep Y (Proc.devRef .tc main_v4_4) = Y (Proc.devRef .tc main_while0b_v71) := by after_results; rfl
theorem step_v4_5 : after tripStep Y (Proc.devRef .tc main_v4_5) = Y (Proc.devRef .tc main_while0b_v91) := by after_results; rfl
theorem step_v4_6 : after tripStep Y (Proc.devRef .tc main_v4_6) = Y (Proc.devRef .tc main_while0b_v92) := by after_results; rfl

end Lists

/-! ## The loop -/

/-- Before trip `k` over the points `x`. -/
structure Inv (x : FVec Ideal S4x16384x3 .f32) (k : ℕ) (Y : Valuation τ sig (Elt Ideal)) : Prop where
  rows : Y (Proc.devRef .tc main_v4_0) = iotaInDim S4 32 0
  points : Y (Proc.devRef .tc main_v4_1) = x
  count : (Y (Proc.devRef .tc main_v4_3) : IVec S_ 32) = fun _ => BitVec.ofNat 32 k
  words : ∀ (b : Fin 4) (n : Fin 1024), n.val < k →
    (Y (Proc.devRef .tc main_v4_4) : IVec S4x1024 32) (ix2 b n) = BitVec.ofNat 32 (centre big (cloud x b) n.val).val
  near : ∀ (b : Fin 4) (n : Fin (16383 + 1)),
    (Y (Proc.devRef .tc main_v4_5) : FVec Ideal S4x16384 .f32) (ix2 b n) = (state big (cloud x b) k).1 n
  far : ∀ b : Fin 4, (Y (Proc.devRef .tc main_v4_6) : IVec S4 32) (ix1 b) = BitVec.ofNat 32 (centre big (cloud x b) k).val

theorem recorded_apply (w : IVec S4x1024 32) (c : IVec S_ 32) (f : IVec S4 32) (k : Fin 1024) (hc : c = fun _ => BitVec.ofNat 32 k.val)
    (b : Fin 4) (n : Fin 1024) : recorded w c f (ix2 b n) = if n = k then f (ix1 b) else w (ix2 b n) := by
  refine Routing.scatter_col_set _ w _ f k ?_ b n
  have hk := k.isLt
  have h : broadcastInDim S1 ![] bcast_S_S1 (select (cmpi .slt c (constantI S_ 32 0#32)) (addi c (constantI S_ 32 1024#32)) c) (ix1 (0 : Fin 1))
      = BitVec.ofNat 32 k.val :=
    (broadcastInDim_apply _ _ _ _ ix0 fun a => a.elim0).trans (Words.wrap _ _ _ _ (by omega) rfl (by rw [hc]))
  exact (congrArg BitVec.toInt h).trans (Words.toInt_ofNat (by omega))

set_option maxHeartbeats 1000000 in
theorem inv_trip (x : FVec Ideal S4x16384x3 .f32) (k : ℕ) (hk : k < 1024) (Y : Valuation τ sig (Elt Ideal)) (h : Inv x k Y) :
    Inv x (k + 1) (afterL bodyI (after condOps Y)) := by
  set Z := after condOps Y with hZ
  have z (r : Ref sig .tc) (hr : r ∉ condOps_W) : Z (Proc.devRef .tc r) = Y (Proc.devRef .tc r) :=
    after_of_writes_sub condOps _ condOps_writes hr
  set Z1 := after tripIdx Z with hZ1
  have z1 (r : Ref sig .tc) (hr : r ∉ tripIdx_W) : Z1 (Proc.devRef .tc r) = Z (Proc.devRef .tc r) :=
    after_of_writes_sub tripIdx _ tripIdx_writes hr
  set Z2 := after tripDist Z1 with hZ2
  have z2 (r : Ref sig .tc) (hr : r ∉ tripDist_W) : Z2 (Proc.devRef .tc r) = Z1 (Proc.devRef .tc r) :=
    after_of_writes_sub tripDist _ tripDist_writes hr
  set Z3 := after tripArg Z2 with hZ3
  have z3 (r : Ref sig .tc) (hr : r ∉ tripArg_W) : Z3 (Proc.devRef .tc r) = Z2 (Proc.devRef .tc r) :=
    after_of_writes_sub tripArg _ tripArg_writes hr
  have e : afterL bodyI Z = after tripStep Z3 := by simp only [afterL_cons, afterL_nil, hZ1, hZ2, hZ3]
  have a0 : Z1 (Proc.devRef .tc main_v4_0) = iotaInDim S4 32 0 := by
    rw [z1 _ (by decide +kernel), z _ (by decide +kernel), h.rows]
  have a1 : Z1 (Proc.devRef .tc main_v4_1) = x := by rw [z1 _ (by decide +kernel), z _ (by decide +kernel), h.points]
  have a5 : Z1 (Proc.devRef .tc main_v4_5) = Y (Proc.devRef .tc main_v4_5) := by rw [z1 _ (by decide +kernel), z _ (by decide +kernel)]
  have a6 : Z1 (Proc.devRef .tc main_v4_6) = Y (Proc.devRef .tc main_v4_6) := by rw [z1 _ (by decide +kernel), z _ (by decide +kernel)]
  have hnear (b : Fin 4) (n : Fin (16383 + 1)) : (Z2 (Proc.devRef .tc main_while0b_v91) : FVec Ideal S4x16384 .f32) (ix2 b n)
      = nearer (cloud x b) (state big (cloud x b) k) n := by
    rw [hZ2, dist_v91, a0, a1, a5, a6]
    exact congrArg₂ (min : EReal → EReal → EReal) (h.near b n) (dists_apply x _ b _ n (h.far b))
  rw [e]
  refine ⟨?_, ?_, ?_, fun b n hn => ?_, fun b n => ?_, fun b => ?_⟩
  · rw [after_of_writes_sub tripStep _ tripStep_writes (by decide +kernel), z3 _ (by decide +kernel), z2 _ (by decide +kernel), a0]
  · rw [after_of_writes_sub tripStep _ tripStep_writes (by decide +kernel), z3 _ (by decide +kernel), z2 _ (by decide +kernel), a1]
  · rw [step_v4_3, z3 _ (by decide +kernel), z2 _ (by decide +kernel), hZ1, idx_v65, z _ (by decide +kernel)]
    refine (congrArg (fun c : IVec S_ 32 => addi c (constantI S_ 32 1#32)) h.count).trans (funext fun _ => ?_)
    exact BitVec.ofNat_add_ofNat _ _
  · rw [step_v4_4, z3 _ (by decide +kernel), z2 _ (by decide +kernel), hZ1, idx_v71]
    refine (recorded_apply _ _ _ ⟨k, hk⟩ ((z _ (by decide +kernel)).trans h.count) b n).trans ?_
    rw [z _ (by decide +kernel), z _ (by decide +kernel)]
    split
    · next g => rw [g]; exact h.far b
    · next g => exact h.words b n (by have : n.val ≠ k := fun q => g (Fin.ext q); omega)
  · rw [step_v4_5, z3 _ (by decide +kernel)]; exact hnear b n
  · rw [step_v4_6, hZ3, arg_v92]
    refine (RefArg.argmax_apply _ b).trans ?_
    rw [show (fun n : Fin (16383 + 1) => (Z2 (Proc.devRef .tc main_while0b_v91) : FVec Ideal S4x16384 .f32) (ix2 b n))
      = nearer (cloud x b) (state big (cloud x b) k) from funext fun n => hnear b n]
    rfl

variable (m : (ℓ : Loc nD τ sig) → Buf (Elt Ideal) ℓ)

/-- The points. -/
abbrev pts (c : Dev nD) : FVec Ideal S4x16384x3 .f32 := m (c.tc.loc main_arg0)

theorem inv_entry (c : Dev nD) : Inv (pts m c) 0 (entryContents preI m c) := by
  have e (r : Ref sig .tc) : entryContents preI m c (Proc.devRef .tc r) = after preOps (fun b => m (c, b)) (Proc.devRef .tc r) := by
    simp only [entryContents, afterL_cons, afterL_nil]
  refine ⟨?_, ?_, ?_, fun b n hn => absurd hn (Nat.not_lt_zero _), fun b n => ?_, fun b => ?_⟩
  · rw [e]; after_results; rfl
  · rw [e]; after_results; rfl
  · rw [e]; after_results; rfl
  · rw [e]; after_results; rfl
  · rw [e]; after_results; rfl

theorem inv (c : Dev nD) : ∀ k, k ≤ 1024 → Inv (pts m c) k (atK m k c)
  | 0, _ => inv_entry m c
  | k + 1, hk => inv_trip _ k hk _ (inv c k (Nat.le_of_succ_le hk))

/-- When the loop is left every word is its centre's. -/
theorem words_end (c : Dev nD) (b : Fin 4) (n : Fin 1024) : (loopEnd m c (Proc.devRef .tc main_v4_4) : IVec S4x1024 32) (ix2 b n)
    = BitVec.ofNat 32 (centre big (cloud (pts m c) b) n.val).val := by
  rw [loopEnd, after_of_writes_sub condOps _ condOps_writes (by decide +kernel)]
  exact (inv m c 1024 le_rfl).words b n n.isLt

/-- The points are still there. -/
theorem points_end (c : Dev nD) {r : Ref sig .tc} (h0 : r ∉ preOps_W) (h1 : r ∉ trip_W) :
    loopEnd m c (Proc.devRef .tc r) = m (c.tc.loc r) := by
  rw [loopEnd, after_of_writes_sub condOps _ condOps_writes (fun h => h1 (by simp only [trip_W, List.mem_append, h, true_or])), loop_keeps m c h1]
  simp only [entryContents, afterL_cons, afterL_nil]
  rw [after_of_writes_sub preOps _ preOps_writes h0]

/-- The centres' coordinates, from the words. -/
theorem centres_v11 (Y : Valuation τ sig (Elt Ideal)) : after postCentres Y (Proc.devRef .tc main_v11)
    = Host.gather gather_S4x16384x3_S4x1024x1_S4x1024x3_2_1_0_0_1_2_113 (Y (Proc.devRef .tc main_arg0) : FVec Ideal S4x16384x3 .f32)
        (broadcastInDim S4x1024x1 ![0, 1] bcast_S4x1024_S4x1024x1_0_1 (wrapped (Y (Proc.devRef .tc main_v4_4)) bcast_S_S4x1024 16384#32)) := by
  after_results; rfl

/-- What the centres' operations leave: the coordinates of the centres. -/
theorem centres (c : Dev nD) (b : Fin 4) (n : Fin 1024) (e : Fin 3) :
    (after postCentres (loopEnd m c) (Proc.devRef .tc main_v11) : FVec Ideal S4x1024x3 .f32) (ix3 b n e)
      = cloud (pts m c) b (centre big (cloud (pts m c) b) n.val) e := by
  rw [centres_v11, points_end m c (by decide +kernel) (by decide +kernel)]
  refine Gather.rows _ _ _ b n (centre big (cloud (pts m c) b) n.val) e ?_
  have h := (centre big (cloud (pts m c) b) n.val).isLt
  rw [broadcastInDim_apply _ _ _ _ (ix2 b n) (fun a => by fin_cases a <;> rfl),
    wrapped_apply _ _ _ _ (n := (centre big (cloud (pts m c) b) n.val).val) (by omega) (words_end m c b n), Words.toInt_ofNat (by omega)]

/-- The first result. -/
theorem result0 (c : Dev nD) (b : Fin 4) (n : Fin 1024) (e : Fin 3) :
    (finalContents condOps preI bodyI postI 1024 m c (Proc.devRef .tc main_v11) : FVec Ideal S4x1024x3 .f32) (ix3 b n e)
      = cloud (pts m c) b (centre big (cloud (pts m c) b) n.val) e := by
  rw [← centres]
  show afterL postI (loopEnd m c) _ _ = _
  simp only [afterL_cons, afterL_nil]
  rw [after_of_writes_sub postMax _ postMax_writes (by decide +kernel), after_of_writes_sub postR3 _ postR3_writes (by decide +kernel),
    after_of_writes_sub postL3 _ postL3_writes (by decide +kernel), after_of_writes_sub postR2 _ postR2_writes (by decide +kernel),
    after_of_writes_sub postL2 _ postL2_writes (by decide +kernel), after_of_writes_sub postR1 _ postR1_writes (by decide +kernel),
    after_of_writes_sub postL1 _ postL1_writes (by decide +kernel), after_of_writes_sub postFeat _ postFeat_writes (by decide +kernel),
    after_of_writes_sub postGrp _ postGrp_writes (by decide +kernel), after_of_writes_sub postNear _ postNear_writes (by decide +kernel),
    after_of_writes_sub postDist _ postDist_writes (by decide +kernel)]

end Cert.FpsRef
-- ==== Proof.Dist.lean ====
/- The squared distances between queries and points as plain array operations write them. -/
module

public import proofs.«01_k».proof.Proof.Dot
public import proofs.«01_k».proof.Proof.Spec
public import Idealize.ShloMosaic.Lib.ValueLayout

@[expose] public section

noncomputable section

namespace Cert.Dist

open Idealize.ShloMosaic Idealize.ShloMosaic.ValueIdx Cert.Spec

/-- Shapes of two and of three axes. -/
abbrev two (a b : ℕ) : Shape := ⟨2, ![a, b]⟩
abbrev three (a b c : ℕ) : Shape := ⟨3, ![a, b, c]⟩
abbrev nil : Shape := ⟨0, ![]⟩

/-- The squared lengths of the rows. -/
abbrev lengths {B Q : ℕ} (z : FVec Ideal (three B Q 3) .f32) (h : (three B Q 3).ReducesTo [2] (two B Q)) (hu : 0 < nil.numel) : FVec Ideal (two B Q) .f32 :=
  Host.reduceAdd (mulf z z) (constant nil .f32 0x00000000#32) h hu

theorem lengths_apply {B Q : ℕ} (z : FVec Ideal (three B Q 3) .f32) (h : (three B Q 3).ReducesTo [2] (two B Q)) (hu : 0 < nil.numel)
    (h' : (three B Q 3).Reduces [2] (two B Q)) (b : Fin B) (q : Fin Q) : lengths z h hu (ix2 b q) = sqlen fun e => z (ix3 b q e) := by
  refine (Ideal.hostReduceAdd_single _ h' _ _ _).trans ?_
  have h0 : (constant (F := Ideal) nil .f32 0x00000000#32) (Shape.Idx.first hu) = (0 : EReal) := Ideal.ofBits_zero_f32
  rw [h0, zero_add]
  refine (Fin.sum_univ_three _).trans ?_
  have t (e : Fin 3) (i : (three B Q 3).Idx) (hi : i = ix3 b q e) : mulf z z i = z (ix3 b q e) * z (ix3 b q e) := by
    rw [hi]; rfl
  rw [t 0 _ (by funext a; fin_cases a <;> rfl), t 1 _ (by funext a; fin_cases a <;> rfl), t 2 _ (by funext a; fin_cases a <;> rfl)]
  rfl

section

variable {B Q N : ℕ} (z : FVec Ideal (three B Q 3) .f32) (x : FVec Ideal (three B N 3) .f32)
  (d : DotDims (three B Q 3) (three B N 3) (three B Q N)) (hz : (three B Q 3).ReducesTo [2] (two B Q)) (hx : (three B N 3).ReducesTo [2] (two B N))
  (hu : 0 < nil.numel) (h1 : (two B Q).BroadcastsInDim (three B Q 1) ![0, 1]) (h2 : (three B Q 1).BroadcastsInDim (three B Q N) ![0, 1, 2])
  (h3 : nil.BroadcastsInDim (three B Q N) ![]) (h4 : (two B N).BroadcastsInDim (three B 1 N) ![0, 2]) (h5 : (three B 1 N).BroadcastsInDim (three B Q N) ![0, 1, 2])

/-- The distances, less their sign. -/
abbrev near : FVec Ideal (three B Q N) .f32 :=
  Host.negf (addf (subf (broadcastInDim (three B Q N) ![0, 1, 2] h2 (broadcastInDim (three B Q 1) ![0, 1] h1 (lengths z hz hu)))
      (mulf (broadcastInDim (three B Q N) ![] h3 (constant nil .f32 0x40000000#32)) (Host.dotGeneral d none z x)))
    (broadcastInDim (three B Q N) ![0, 1, 2] h5 (broadcastInDim (three B 1 N) ![0, 2] h4 (lengths x hx hu))))

theorem near_apply (hz' : (three B Q 3).Reduces [2] (two B Q)) (hx' : (three B N 3).Reduces [2] (two B N)) (hr : d.contr.rank = 1)
    (hs : d.contr.size ⟨0, by omega⟩ = 3) (hp : ∀ b q n e, d.lhsIdx (ix3 b q n) ((contrEquiv1 d 3 hr hs).symm e) = ix3 b q e)
    (hq : ∀ b q n e, d.rhsIdx (ix3 b q n) ((contrEquiv1 d 3 hr hs).symm e) = ix3 b n e) (b : Fin B) (q : Fin Q) (n : Fin N) :
    near z x d hz hx hu h1 h2 h3 h4 h5 (ix3 b q n)
      = (-gdist (Ideal.ofBits .f32 0x40000000#32) (fun e => z (ix3 b q e)) (fun e => x (ix3 b n e)) : EReal) := by
  have a1 : broadcastInDim (three B Q N) ![0, 1, 2] h2 (broadcastInDim (three B Q 1) ![0, 1] h1 (lengths z hz hu)) (ix3 b q n) = sqlen fun e => z (ix3 b q e) := by
    refine (broadcastInDim_apply _ _ _ _ (ix3 b q (0 : Fin 1)) fun a => ?_).trans ((broadcastInDim_apply _ _ _ _ (ix2 b q) fun a => ?_).trans (lengths_apply z hz hu hz' b q))
    · fin_cases a
      · show b.val = if B = 1 then 0 else b.val
        split <;> omega
      · show q.val = if Q = 1 then 0 else q.val
        split <;> omega
      · rfl
    · fin_cases a
      · show b.val = if B = 1 then 0 else b.val
        split <;> omega
      · show q.val = if Q = 1 then 0 else q.val
        split <;> omega
  have a2 : broadcastInDim (three B Q N) ![0, 1, 2] h5 (broadcastInDim (three B 1 N) ![0, 2] h4 (lengths x hx hu)) (ix3 b q n) = sqlen fun e => x (ix3 b n e) := by
    refine (broadcastInDim_apply _ _ _ _ (ix3 b (0 : Fin 1) n) fun a => ?_).trans ((broadcastInDim_apply _ _ _ _ (ix2 b n) fun a => ?_).trans (lengths_apply x hx hu hx' b n))
    · fin_cases a
      · show b.val = if B = 1 then 0 else b.val
        split <;> omega
      · rfl
      · show n.val = if N = 1 then 0 else n.val
        split <;> omega
    · fin_cases a
      · show b.val = if B = 1 then 0 else b.val
        split <;> omega
      · show n.val = if N = 1 then 0 else n.val
        split <;> omega
  have a3 : Host.dotGeneral d none z x (ix3 b q n) = (inner (fun e => z (ix3 b q e)) (fun e => x (ix3 b n e)) : EReal) := by
    simp only [Host.dotGeneral]
    refine (Ideal.dotGeneral_apply _ _ _ _ _ _).trans ?_
    refine (Dot.sum_contr d 3 hr hs z x _ (fun e => ix3 b q e) (fun e => ix3 b n e) (hp b q n) (hq b q n)).trans ?_
    exact Fin.sum_univ_three _
  have a4 : broadcastInDim (three B Q N) ![] h3 (constant (F := Ideal) nil .f32 0x40000000#32) (ix3 b q n) = Ideal.ofBits .f32 0x40000000#32 := rfl
  unfold near
  show (-(_ - _ * _ + _) : EReal) = _
  rw [a1, a2, a3, a4]
  rfl

end

end Cert.Dist
-- ==== Proof.RefLayer.lean ====
/- The reference's dense layers and its maximum over the neighbours, as plain array operations write them. -/
module

public import proofs.«01_k».proof.Proof.Dense
public import proofs.«01_k».proof.Proof.Dist
public import Idealize.ShloMosaic.Lib.KernelVsHost

@[expose] public section

noncomputable section

namespace Cert.RefLayer

open Idealize.ShloMosaic Idealize.ShloMosaic.ValueIdx Cert.Spec Cert.Dense Cert.Dist

/-- Shapes of one and of four axes. -/
abbrev one (a : ℕ) : Shape := ⟨1, ![a]⟩
abbrev four (a b c d : ℕ) : Shape := ⟨4, ![a, b, c, d]⟩

/-- A dense layer with its positive part. -/
abbrev dense {B Q K n k : ℕ} (d : DotDims (four B Q K n) (mat n k) (four B Q K k)) (ht : (mat k n).Transposes [1, 0] (mat n k))
    (h1 : (one k).BroadcastsInDim (four 1 1 1 k) ![3]) (h2 : (four 1 1 1 k).BroadcastsInDim (four B Q K k) ![0, 1, 2, 3])
    (h3 : nil.BroadcastsInDim (four B Q K k) ![]) (W : FVec Ideal (mat k n) .f32) (b : FVec Ideal (one k) .f32) (x : FVec Ideal (four B Q K n) .f32) :
    FVec Ideal (four B Q K k) .f32 :=
  maximumf (addf (Host.dotGeneral d none x (transpose (mat n k) [1, 0] W ht))
      (broadcastInDim (four B Q K k) ![0, 1, 2, 3] h2 (broadcastInDim (four 1 1 1 k) ![3] h1 b)))
    (broadcastInDim (four B Q K k) ![] h3 (constant nil .f32 0x00000000#32))

theorem dense_apply {B Q K n k : ℕ} (d : DotDims (four B Q K n) (mat n k) (four B Q K k)) (ht : (mat k n).Transposes [1, 0] (mat n k))
    (h1 : (one k).BroadcastsInDim (four 1 1 1 k) ![3]) (h2 : (four 1 1 1 k).BroadcastsInDim (four B Q K k) ![0, 1, 2, 3])
    (h3 : nil.BroadcastsInDim (four B Q K k) ![]) (W : FVec Ideal (mat k n) .f32) (bias : FVec Ideal (one k) .f32) (x : FVec Ideal (four B Q K n) .f32)
    (hr : d.contr.rank = 1) (hs : d.contr.size ⟨0, by omega⟩ = n)
    (hp : ∀ b q j o i, d.lhsIdx (ix4 b q j o) ((contrEquiv1 d n hr hs).symm i) = ix4 b q j i)
    (hq : ∀ b q j o i, d.rhsIdx (ix4 b q j o) ((contrEquiv1 d n hr hs).symm i) = ix2 i o)
    (b : Fin B) (q : Fin Q) (j : Fin K) (o : Fin k) :
    dense d ht h1 h2 h3 W bias x (ix4 b q j o) = layer (fun o i => W (ix2 o i)) (fun o => bias (ix1 o)) (fun i => x (ix4 b q j i)) o := by
  have a1 : Host.dotGeneral d none x (transpose (mat n k) [1, 0] W ht) (ix4 b q j o) = (∑ i, x (ix4 b q j i) * W (ix2 o i) : EReal) := by
    simp only [Host.dotGeneral]
    refine (Ideal.dotGeneral_apply _ _ _ _ _ _).trans ?_
    refine (Dot.sum_contr d n hr hs x _ _ (fun i => ix4 b q j i) (fun i => ix2 i o) (hp b q j o) (hq b q j o)).trans ?_
    refine Finset.sum_congr rfl fun i _ => ?_
    rw [transpose_ix2_apply]
  have a2 : broadcastInDim (four B Q K k) ![0, 1, 2, 3] h2 (broadcastInDim (four 1 1 1 k) ![3] h1 bias) (ix4 b q j o) = bias (ix1 o) := by
    refine (broadcastInDim_apply _ _ _ _ (ix4 (0 : Fin 1) (0 : Fin 1) (0 : Fin 1) o) fun a => ?_).trans (broadcastInDim_apply _ _ _ _ (ix1 o) fun a => ?_)
    · fin_cases a
      · rfl
      · rfl
      · rfl
      · show o.val = if k = 1 then 0 else o.val
        split <;> omega
    · fin_cases a
      show o.val = if k = 1 then 0 else o.val
      split <;> omega
  have a3 : broadcastInDim (four B Q K k) ![] h3 (constant (F := Ideal) nil .f32 0x00000000#32) (ix4 b q j o) = (0 : EReal) := Ideal.ofBits_zero_f32
  unfold dense
  rw [maximumf_apply, addf_apply, a1, a2, a3]
  rfl

/-- The greatest over the neighbours, the channels before the queries. -/
abbrev pooled {B Q K k : ℕ} (h : (four B Q K k).ReducesTo [2] (three B Q k)) (hu : 0 < nil.numel) (ht : (three B Q k).Transposes [0, 2, 1] (three B k Q))
    (x : FVec Ideal (four B Q K k) .f32) : FVec Ideal (three B k Q) .f32 :=
  transpose (three B k Q) [0, 2, 1] (Host.reduce FloatOps.maximumf x (constant nil .f32 0xFF800000#32) h hu) ht

theorem pooled_apply {B Q K k : ℕ} (h : (four B Q K k).ReducesTo [2] (three B Q k)) (hu : 0 < nil.numel) (ht : (three B Q k).Transposes [0, 2, 1] (three B k Q))
    (x : FVec Ideal (four B Q K k) .f32) (h' : (four B Q K k).Reduces [2] (three B Q k)) (b : Fin B) (o : Fin k) (q : Fin Q) :
    pooled h hu ht x (ix3 b o q) = (Finset.univ : Finset (Fin K)).fold max (⊥ : EReal) (fun j => x (ix4 b q j o)) := by
  unfold pooled
  rw [transpose_ix3_021_apply, hostReduce_maximumf_eq_multiReduction (F := Ideal) (φ := .f32) x 0xFF800000#32 h hu h' (Or.inl rfl) rfl]
  refine (Ideal.multiReduction_maximumf_single _ _ _ _ _ _).trans ?_
  have hb : (FloatOps.ofBits .f32 0xFF800000#32 : Ideal .f32) = (⊥ : EReal) := by
    show Ideal.ofBits .f32 0xFF800000#32 = ⊥
    simp [Ideal.ofBits, Ideal.ieee]
  rw [hb]
  refine congrArg (fun f => (Finset.univ : Finset (Fin K)).fold max ⊥ f) (funext fun j => congrArg x ?_)
  funext a; fin_cases a <;> rfl

end Cert.RefLayer
-- ==== Proof.TopK.lean ====
/- The first places of a stable sort by the greatest value: the nearest points, when the 33rd is strictly farther than the 32nd. -/
module

public import proofs.«01_k».proof.Proof.KnnPick
public import Idealize.ShloMosaic.Lib.SortFacts
public import Idealize.ShloMosaic.Lib.ValueIdx
public import Idealize.ShloMosaic.PureOps.Ideal.Laws
public import Idealize.ShloMosaic.Lib.ValueLayout

@[expose] public section

noncomputable section

namespace Cert.TopK

open Idealize.ShloMosaic Idealize.ShloMosaic.ValueIdx Cert.KnnPick

/-- One place is sorted before another: its value is greater. -/
abbrev ahead (f : Fin 16384 → EReal) (a b : Fin 16384) : Bool := (FloatOps.cmpfTotal (F := Ideal) (φ := .f32) .gt (f a) (f b)) == 1#1

/-- The place the sort puts at a position. -/
def place (f : Fin 16384 → EReal) : Fin 16384 → Fin 16384 := sortedFrom (ahead f)

theorem ahead_iff (f : Fin 16384 → EReal) (a b : Fin 16384) : ahead f a b = true ↔ f b < f a := by
  unfold ahead
  show (BitVec.ofBool (decide (f b < f a)) == 1#1) = true ↔ _
  by_cases h : f b < f a <;> simp [h]

theorem place_injective (f : Fin 16384 → EReal) : Function.Injective (place f) := sortedFrom_injective _

/-- Later positions have no greater values. -/
theorem place_antitone (f : Fin 16384 → EReal) {i j : Fin 16384} (h : i ≤ j) : f (place f j) ≤ f (place f i) := by
  rcases h.eq_or_lt with rfl | h
  · exact le_rfl
  have e := sortedFrom_noInversion (ahead f) (ahead f) (fun a b hab => by
    rw [ahead_iff] at hab
    exact Bool.eq_false_iff.2 fun hba => absurd ((ahead_iff f b a).1 hba) hab.not_gt) (fun _ _ h => h) (fun a b c hab hbc => by
    have hab := mt (ahead_iff f a b).2 (Bool.eq_false_iff.1 hab)
    have hbc := mt (ahead_iff f b c).2 (Bool.eq_false_iff.1 hbc)
    exact Bool.eq_false_iff.2 fun hac => absurd ((ahead_iff f a c).1 hac) (not_lt.2 ((not_lt.1 hab).trans (not_lt.1 hbc)))) i j h
  exact not_lt.1 fun hlt => Bool.eq_false_iff.1 e ((ahead_iff f _ _).2 hlt)

/-- The first 32 places. -/
def first (f : Fin 16384 → EReal) : Finset (Fin 16384) := Finset.univ.image fun k : Fin 32 => place f ⟨k.val, by omega⟩

/-- They are the nearest points, by the values' negatives, when the 33rd value is strictly less than the 32nd. -/
theorem first_nearest (d : Fin 16384 → EReal) (h : -d (place (fun n => -d n) ⟨32, by omega⟩) < -d (place (fun n => -d n) ⟨31, by omega⟩)) :
    Nearest d (first fun n => -d n) where
  card := by
    rw [first, Finset.card_image_of_injective _ fun a b e => Fin.ext (Fin.mk.inj_iff.1 (place_injective _ e)), Finset.card_univ, Fintype.card_fin]
  lt n hn k hk := by
    obtain ⟨i, -, rfl⟩ := Finset.mem_image.1 hn
    obtain ⟨j, rfl⟩ := sortedFrom_surjective (ahead fun n => -d n) k
    have hj : 32 ≤ j.val := by
      by_contra hlt
      exact hk (Finset.mem_image.2 ⟨⟨j.val, by omega⟩, Finset.mem_univ _, rfl⟩)
    have h1 := place_antitone (fun n => -d n) (i := ⟨i.val, by omega⟩) (j := ⟨31, by omega⟩) (by show i.val ≤ 31; omega)
    have h2 := place_antitone (fun n => -d n) (i := ⟨32, by omega⟩) (j := j) hj
    exact EReal.neg_lt_neg_iff.1 (h2.trans_lt (h.trans_le h1))

/-- A shape of rows of values. -/
abbrev rows (B Q K : ℕ) : Shape := ⟨3, ![B, Q, K]⟩

theorem along_eq {B Q : ℕ} (b : Fin B) (q : Fin Q) (j k : Fin 16384) : (ix3 b q j : (rows B Q 16384).Idx).along (2 : Fin 3) k = ix3 b q k := by
  funext a; fin_cases a <;> rfl

section Sorted

variable {B Q K : ℕ} (x : FVec Ideal (rows B Q 16384) .f32)

/-- The sort takes every row's values, and whatever goes with them, from their places. -/
theorem sorted_apply {β : Type} (y : (rows B Q 16384).Idx → β) (b : Fin B) (q : Fin Q) (j : Fin 16384) :
    (Host.sort2 (rows B Q 16384) 2 (fun l r => FloatOps.cmpfTotal (F := Ideal) (φ := .f32) .gt l.1 r.1) x y).1 (ix3 b q j) = x (ix3 b q (place (fun n => x (ix3 b q n)) j))
    ∧ (Host.sort2 (rows B Q 16384) 2 (fun l r => FloatOps.cmpfTotal (F := Ideal) (φ := .f32) .gt l.1 r.1) x y).2 (ix3 b q j) = y (ix3 b q (place (fun n => x (ix3 b q n)) j)) := by
  unfold Host.sort2
  rw [dif_pos (show 2 < 3 by decide)]
  have e : (fun k => x ((ix3 b q j : (rows B Q 16384).Idx).along (2 : Fin 3) k)) = fun n => x (ix3 b q n) := funext fun k => congrArg x (along_eq b q j k)
  have hp : sortedFrom (ahead fun k => x ((ix3 b q j : (rows B Q 16384).Idx).along (2 : Fin 3) k)) j = place (fun n => x (ix3 b q n)) j :=
    congrArg (fun f => sortedFrom (ahead f) j) e
  have hi : (ix3 b q j : (rows B Q 16384).Idx).along (2 : Fin 3) (sortedFrom (ahead fun k => x ((ix3 b q j : (rows B Q 16384).Idx).along (2 : Fin 3) k)) j)
      = ix3 b q (place (fun n => x (ix3 b q n)) j) :=
    (congrArg (fun k => (ix3 b q j : (rows B Q 16384).Idx).along (2 : Fin 3) k) hp).trans (along_eq b q j _)
  exact ⟨congrArg x hi, congrArg y hi⟩

variable (h : (rows B Q 16384).Slices (fun _ => 0) (rows B Q K)) (b : Fin B) (q : Fin Q) (k : Fin K) (hk : k.val < 16384)

theorem cut_apply {β : Type} (y : (rows B Q 16384).Idx → β) : extractStridedSlice (rows B Q K) (fun _ => 0) y h (ix3 b q k) = y (ix3 b q ⟨k.val, hk⟩) :=
  extractStridedSlice_apply _ _ _ _ (ix3 b q ⟨k.val, hk⟩) fun a => by fin_cases a <;> exact (Nat.zero_add _).symm

/-- The numbers of the places along a row. -/
abbrev numbers (B Q : ℕ) : IVec (rows B Q 16384) 32 := fun i =>
  if hd : 2 < (rows B Q 16384).rank then iotaInDim (rows B Q 16384) 32 ⟨2, hd⟩ i else 0#32

theorem values_apply : (Host.topK (rows B Q K) 2 (FloatOps.cmpfTotal .gt) x h).1 (ix3 b q k)
    = x (ix3 b q (place (fun n => x (ix3 b q n)) ⟨k.val, hk⟩)) :=
  (cut_apply h b q k hk _).trans (sorted_apply x (numbers B Q) b q ⟨k.val, hk⟩).1

theorem indices_apply : (Host.topK (rows B Q K) 2 (FloatOps.cmpfTotal .gt) x h).2 (ix3 b q k)
    = BitVec.ofNat 32 (place (fun n => x (ix3 b q n)) ⟨k.val, hk⟩).val :=
  (cut_apply h b q k hk _).trans ((sorted_apply x (numbers B Q) b q ⟨k.val, hk⟩).2.trans rfl)

end Sorted

end Cert.TopK
-- ==== Proof.RefPost.lean ====
/- The reference's second result: for every centre the greatest of the layers over the points that come first in the order of the
   negated distances. -/
module

public import proofs.«01_k».proof.Proof.FpsRef
public import proofs.«01_k».proof.Proof.RefLayer
public import proofs.«01_k».proof.Proof.TopK
public import proofs.«01_k».proof.Proof.Group

@[expose] public section

set_option maxRecDepth 16384

noncomputable section

namespace Cert.RefPost

open Cert.ReferenceIdeal Cert.ReferenceIdeal.Gen Cert.RefRun Cert.RefFrame Cert.Spec Cert.FpsRef
open Cert.Group (grouped about layered grouped_apply)
open Cert.Dist (near near_apply)
open Cert.RefLayer (dense dense_apply pooled pooled_apply)
open Idealize.ShloMosaic Idealize.ShloMosaic.TcCoe Idealize.ShloMosaic.Tactic Idealize.ShloMosaic.ValueIdx
open Idealize.ShloMosaic.StableHlo hiding reshape

section Lists

variable (Y : Valuation τ sig (Elt Ideal))

/-- The negated distances of all the queries. -/
abbrev nears (x : FVec Ideal S4x16384x3 .f32) (z : FVec Ideal S4x1024x3 .f32) : FVec Ideal S4x1024x16384 .f32 :=
  near (B := 4) (Q := 1024) (N := 16384) z x dot_S4x1024x3_S4x16384x3_S4x1024x16384_2_2_1_1_0_0 reducesTo_S4x1024x3_S4x1024_d2 reducesTo_S4x16384x3_S4x16384_d2 h_S_
    bcast_S4x1024_S4x1024x1_0_1 bcast_S4x1024x1_S4x1024x16384_0_1_2 bcast_S_S4x1024x16384 bcast_S4x16384_S4x1x16384_0_2 bcast_S4x1x16384_S4x1024x16384_0_1_2

theorem dist_v25 : after postDist Y (Proc.devRef .tc main_v25) = nears (Y (Proc.devRef .tc main_arg0)) (Y (Proc.devRef .tc main_v11)) := by
  after_results

theorem near_indices : after postNear Y (Proc.devRef .tc main_indices)
    = (Host.topK S4x1024x32 2 (FloatOps.cmpfTotal (F := Ideal) (φ := .f32) .gt) (Y (Proc.devRef .tc main_v25) : FVec Ideal S4x1024x16384 .f32) sliceFits_S4x1024x16384_S4x1024x32).2 := by
  after_results

theorem group_v44 : after postFeat (after postGrp Y) (Proc.devRef .tc main_v44)
    = grouped (Y (Proc.devRef .tc main_arg0)) (Y (Proc.devRef .tc main_v11)) (Y (Proc.devRef .tc main_arg1)) (Y (Proc.devRef .tc main_indices)) := by
  after_results; rfl

theorem layer1 : after postR1 (after postL1 Y) (Proc.devRef .tc main_v50)
    = dense (B := 4) (Q := 1024) (K := 32) (n := 19) (k := 32) dot_S4x1024x32x19_S19x32_S4x1024x32x32_3_0_012_1_n_n transposes_S32x19_S19x32_1_0 bcast_S32_S1x1x1x32_3
        bcast_S1x1x1x32_S4x1024x32x32_0_1_2_3 bcast_S_S4x1024x32x32 (Y (Proc.devRef .tc main_arg2)) (Y (Proc.devRef .tc main_arg3)) (Y (Proc.devRef .tc main_v44)) := by
  after_results; rfl

theorem layer2 : after postR2 (after postL2 Y) (Proc.devRef .tc main_v56)
    = dense (B := 4) (Q := 1024) (K := 32) (n := 32) (k := 32) dot_S4x1024x32x32_S32x32_S4x1024x32x32_3_0_012_1_n_n transposes_S32x32_S32x32_1_0 bcast_S32_S1x1x1x32_3
        bcast_S1x1x1x32_S4x1024x32x32_0_1_2_3 bcast_S_S4x1024x32x32 (Y (Proc.devRef .tc main_arg4)) (Y (Proc.devRef .tc main_arg5)) (Y (Proc.devRef .tc main_v50)) := by
  after_results; rfl

theorem layer3 : after postR3 (after postL3 Y) (Proc.devRef .tc main_v62)
    = dense (B := 4) (Q := 1024) (K := 32) (n := 32) (k := 64) dot_S4x1024x32x32_S32x64_S4x1024x32x64_3_0_012_1_n_n transposes_S64x32_S32x64_1_0 bcast_S64_S1x1x1x64_3
        bcast_S1x1x1x64_S4x1024x32x64_0_1_2_3 bcast_S_S4x1024x32x64 (Y (Proc.devRef .tc main_arg6)) (Y (Proc.devRef .tc main_arg7)) (Y (Proc.devRef .tc main_v56)) := by
  after_results; rfl

theorem max_v64 : after postMax Y (Proc.devRef .tc main_v64)
    = pooled (B := 4) (Q := 1024) (K := 32) (k := 64) reducesTo_S4x1024x32x64_S4x1024x64_d2 h_S_ transposes_S4x1024x64_S4x64x1024_0_2_1 (Y (Proc.devRef .tc main_v62)) := by
  after_results

/-- What the lists before the layers, and every layer's, leave alone. -/
theorem kept_near {r : Ref sig .tc} (h1 : r ∉ postDist_W) (h2 : r ∉ postNear_W) :
    after postNear (after postDist Y) (Proc.devRef .tc r) = Y (Proc.devRef .tc r) := by
  rw [after_of_writes_sub postNear _ postNear_writes h2, after_of_writes_sub postDist _ postDist_writes h1]
theorem kept_group {r : Ref sig .tc} (h1 : r ∉ postGrp_W) (h2 : r ∉ postFeat_W) :
    after postFeat (after postGrp Y) (Proc.devRef .tc r) = Y (Proc.devRef .tc r) := by
  rw [after_of_writes_sub postFeat _ postFeat_writes h2, after_of_writes_sub postGrp _ postGrp_writes h1]
theorem kept_1 {r : Ref sig .tc} (h1 : r ∉ postL1_W) (h2 : r ∉ postR1_W) :
    after postR1 (after postL1 Y) (Proc.devRef .tc r) = Y (Proc.devRef .tc r) := by
  rw [after_of_writes_sub postR1 _ postR1_writes h2, after_of_writes_sub postL1 _ postL1_writes h1]
theorem kept_2 {r : Ref sig .tc} (h1 : r ∉ postL2_W) (h2 : r ∉ postR2_W) :
    after postR2 (after postL2 Y) (Proc.devRef .tc r) = Y (Proc.devRef .tc r) := by
  rw [after_of_writes_sub postR2 _ postR2_writes h2, after_of_writes_sub postL2 _ postL2_writes h1]
theorem kept_centres {r : Ref sig .tc} (h : r ∉ postCentres_W) : after postCentres Y (Proc.devRef .tc r) = Y (Proc.devRef .tc r) :=
  after_of_writes_sub postCentres _ postCentres_writes h

/-- The layers of the rows, and the greatest of a query's 32. -/
theorem layers_v64 (b : Fin 4) (o : Fin 64) (q : Fin 1024) :
    (after postMax (after postR3 (after postL3 (after postR2 (after postL2 (after postR1 (after postL1 Y)))))) (Proc.devRef .tc main_v64) : FVec Ideal S4x64x1024 .f32)
        (ix3 b o q)
      = (Finset.univ : Finset (Fin 32)).fold max (⊥ : EReal) fun j =>
          layered (Y (Proc.devRef .tc main_arg2)) (Y (Proc.devRef .tc main_arg3)) (Y (Proc.devRef .tc main_arg4)) (Y (Proc.devRef .tc main_arg5))
            (Y (Proc.devRef .tc main_arg6)) (Y (Proc.devRef .tc main_arg7)) (fun e => (Y (Proc.devRef .tc main_v44) : FVec Ideal S4x1024x32x19 .f32) (ix4 b q j e)) o := by
  rw [max_v64, pooled_apply _ _ _ _ (by decide)]
  refine congrArg (fun f => (Finset.univ : Finset (Fin 32)).fold max (⊥ : EReal) f) (funext fun j => ?_)
  rw [layer3, dense_apply _ _ _ _ _ _ _ _ rfl rfl (fun b q j o i => by funext a; fin_cases a <;> rfl) (fun b q j o i => by funext a; fin_cases a <;> rfl),
    kept_2 _ (by decide +kernel) (by decide +kernel), kept_2 _ (by decide +kernel) (by decide +kernel),
    kept_1 _ (by decide +kernel) (by decide +kernel), kept_1 _ (by decide +kernel) (by decide +kernel)]
  refine congrArg (fun y => layer _ _ y o) (funext fun i => ?_)
  rw [layer2, dense_apply _ _ _ _ _ _ _ _ rfl rfl (fun b q j o i => by funext a; fin_cases a <;> rfl) (fun b q j o i => by funext a; fin_cases a <;> rfl),
    kept_1 _ (by decide +kernel) (by decide +kernel), kept_1 _ (by decide +kernel) (by decide +kernel)]
  refine congrArg (fun y => layer _ _ y i) (funext fun i => ?_)
  rw [layer1, dense_apply _ _ _ _ _ _ _ _ rfl rfl (fun b q j o i => by funext a; fin_cases a <;> rfl) (fun b q j o i => by funext a; fin_cases a <;> rfl)]

/-- A query's negated distances. -/
abbrev negated (x : FVec Ideal S4x16384x3 .f32) (z : FVec Ideal S4x1024x3 .f32) (b : Fin 4) (q : Fin 1024) : Fin 16384 → EReal := fun n =>
  -gdist (Ideal.ofBits .f32 0x40000000#32) (fun e => z (ix3 b q e)) (fun e => x (ix3 b n e))

theorem nears_apply (x : FVec Ideal S4x16384x3 .f32) (z : FVec Ideal S4x1024x3 .f32) (b : Fin 4) (q : Fin 1024) :
    (fun n => nears x z (ix3 b q n)) = negated x z b q := funext fun n =>
  near_apply _ _ _ _ _ _ _ _ _ _ _ (by decide) (by decide) rfl rfl (fun b q n e => by funext a; fin_cases a <;> rfl) (fun b q n e => by funext a; fin_cases a <;> rfl) b q n

/-- The rows the layers take: for every query the points that come first. -/
theorem rows_v44 (b : Fin 4) (q : Fin 1024) (j : Fin 32) (e : Fin 19) :
    (after postFeat (after postGrp (after postNear (after postDist Y))) (Proc.devRef .tc main_v44) : FVec Ideal S4x1024x32x19 .f32) (ix4 b q j e)
      = about (Y (Proc.devRef .tc main_arg0)) (Y (Proc.devRef .tc main_v11)) (Y (Proc.devRef .tc main_arg1)) b q
          (TopK.place (negated (Y (Proc.devRef .tc main_arg0)) (Y (Proc.devRef .tc main_v11)) b q) ⟨j.val, by omega⟩) e := by
  rw [group_v44, kept_near _ (by decide +kernel) (by decide +kernel), kept_near _ (by decide +kernel) (by decide +kernel),
    kept_near _ (by decide +kernel) (by decide +kernel)]
  refine grouped_apply _ _ _ _ b q j _ ?_ e
  rw [near_indices, dist_v25]
  refine (TopK.indices_apply (B := 4) (Q := 1024) (K := 32) _ _ b q j (by omega)).trans ?_
  rw [nears_apply]

end Lists

variable (m : (ℓ : Loc nD τ sig) → Buf (Elt Ideal) ℓ)

/-- The layers of the given weights. -/
abbrev given (c : Dev nD) : (Fin 19 → EReal) → Fin 64 → EReal :=
  layered (m (c.tc.loc main_arg2)) (m (c.tc.loc main_arg3)) (m (c.tc.loc main_arg4)) (m (c.tc.loc main_arg5)) (m (c.tc.loc main_arg6)) (m (c.tc.loc main_arg7))

theorem centres_eq (c : Dev nD) : after postCentres (loopEnd m c) (Proc.devRef .tc main_v11) = Group.centres big (pts m c) := by
  funext i
  refine (congrArg _ (eq_ix3 (n0 := 4) (n1 := 1024) (n2 := 3) i)).trans (FpsRef.centres m c (i 0) (i 1) (i 2))

/-- What the centres' operations and the loop leave alone. -/
theorem arg_kept (c : Dev nD) {r : Ref sig .tc} (h0 : r ∉ preOps_W) (h1 : r ∉ trip_W) (h2 : r ∉ postCentres_W) :
    after postCentres (loopEnd m c) (Proc.devRef .tc r) = m (c.tc.loc r) := (kept_centres _ h2).trans (points_end m c h0 h1)

/-- The second result. -/
theorem result1 (c : Dev nD) (b : Fin 4) (o : Fin 64) (q : Fin 1024) :
    (finalContents condOps preI bodyI postI 1024 m c (Proc.devRef .tc main_v64) : FVec Ideal S4x64x1024 .f32) (ix3 b o q)
      = (TopK.first (negated (pts m c) (Group.centres big (pts m c)) b q)).sup fun n =>
          given m c (about (pts m c) (Group.centres big (pts m c)) (m (c.tc.loc main_arg1)) b q n) o := by
  show (afterL postI (loopEnd m c) (Proc.devRef .tc main_v64) : FVec Ideal S4x64x1024 .f32) (ix3 b o q) = _
  simp only [afterL_cons, afterL_nil]
  rw [layers_v64]
  refine (congrArg (fun f => (Finset.univ : Finset (Fin 32)).fold max (⊥ : EReal) f)
    (funext fun j => congrArg (fun y => layered _ _ _ _ _ _ y o) (funext fun e => rows_v44 _ b q j e))).trans ?_
  rw [TopK.first, ← Dense.fold_image, centres_eq]
  have k (r : Ref sig .tc) (h0 : r ∉ preOps_W) (h1 : r ∉ trip_W) (h2 : r ∉ postCentres_W) (h3 : r ∉ postDist_W) (h4 : r ∉ postNear_W) (h5 : r ∉ postGrp_W)
      (h6 : r ∉ postFeat_W) : after postFeat (after postGrp (after postNear (after postDist (after postCentres (loopEnd m c))))) (Proc.devRef .tc r) = m (c.tc.loc r) := by
    rw [kept_group _ h5 h6, kept_near _ h3 h4, arg_kept m c h0 h1 h2]
  rw [k main_arg2 (by decide +kernel) (by decide +kernel) (by decide +kernel) (by decide +kernel) (by decide +kernel) (by decide +kernel) (by decide +kernel),
    k main_arg3 (by decide +kernel) (by decide +kernel) (by decide +kernel) (by decide +kernel) (by decide +kernel) (by decide +kernel) (by decide +kernel),
    k main_arg4 (by decide +kernel) (by decide +kernel) (by decide +kernel) (by decide +kernel) (by decide +kernel) (by decide +kernel) (by decide +kernel),
    k main_arg5 (by decide +kernel) (by decide +kernel) (by decide +kernel) (by decide +kernel) (by decide +kernel) (by decide +kernel) (by decide +kernel),
    k main_arg6 (by decide +kernel) (by decide +kernel) (by decide +kernel) (by decide +kernel) (by decide +kernel) (by decide +kernel) (by decide +kernel),
    k main_arg7 (by decide +kernel) (by decide +kernel) (by decide +kernel) (by decide +kernel) (by decide +kernel) (by decide +kernel) (by decide +kernel),
    arg_kept m c (r := main_arg0) (by decide +kernel) (by decide +kernel) (by decide +kernel),
    arg_kept m c (r := main_arg1) (by decide +kernel) (by decide +kernel) (by decide +kernel)]

end Cert.RefPost
-- ==== Proof.Determined.lean ====
/- What the precondition says: around every point of a cloud the 32 nearest points are one set. -/
module

public import proofs.«01_k».proof.Proof.Gen.Pre_nearest_determined
public import proofs.«01_k».proof.Proof.Dist
public import proofs.«01_k».proof.Proof.TopK

@[expose] public section

set_option maxRecDepth 16384

noncomputable section

namespace Cert.Determined

open Cert.Pre_nearest_determined Cert.Pre_nearest_determined.Facts
open Idealize.ShloMosaic Idealize.ShloMosaic.ValueIdx Cert.Spec Cert.KnnPick
open Cert.Dist (near near_apply)

section

variable [Cert.Pre_nearest_determined.Facts]

/-- The negated distances between all points. -/
abbrev nears (x : FVec Ideal S4x16384x3 .f32) : FVec Ideal S4x16384x16384 .f32 :=
  near (B := 4) (Q := 16384) (N := 16384) x x dot_S4x16384x3_S4x16384x3_S4x16384x16384_2_2_1_1_0_0 reducesTo_S4x16384x3_S4x16384_d2 reducesTo_S4x16384x3_S4x16384_d2 h_S_
    bcast_S4x16384_S4x16384x1_0_1 bcast_S4x16384x1_S4x16384x16384_0_1_2 bcast_S_S4x16384x16384 bcast_S4x16384_S4x1x16384_0_2 bcast_S4x1x16384_S4x16384x16384_0_1_2

/-- A point's distances. -/
abbrev around (x : FVec Ideal S4x16384x3 .f32) (b : Fin 4) (p : Fin 16384) : Fin 16384 → EReal := fun n =>
  gdist (Ideal.ofBits .f32 0x40000000#32) (fun e => x (ix3 b p e)) (fun e => x (ix3 b n e))

theorem nears_apply (x : FVec Ideal S4x16384x3 .f32) (b : Fin 4) (p : Fin 16384) :
    (fun n => nears x (ix3 b p n)) = fun n => (-around x b p n : EReal) := funext fun n =>
  near_apply _ _ _ _ _ _ _ _ _ _ _ (by decide) (by decide) rfl rfl (fun b q n e => by funext a; fin_cases a <;> rfl) (fun b q n e => by funext a; fin_cases a <;> rfl) b p n

/-- The values that come first, 33 for every point. -/
abbrev values (x : FVec Ideal S4x16384x3 .f32) : FVec Ideal S4x16384x33 .f32 :=
  (Host.topK S4x16384x33 2 (FloatOps.cmpfTotal (F := Ideal) (φ := .f32) .gt) (nears x) sliceFits_S4x16384x16384_S4x16384x33).1

theorem values_apply (x : FVec Ideal S4x16384x3 .f32) (b : Fin 4) (p : Fin 16384) (k : Fin 33) :
    values x (ix3 b p k) = (-around x b p (TopK.place (fun n => -around x b p n) ⟨k.val, by omega⟩) : EReal) := by
  refine (TopK.values_apply (B := 4) (Q := 16384) (K := 33) _ _ b p k (by omega)).trans ?_
  rw [nears_apply]
  exact congrFun (nears_apply x b p) _

theorem column_apply (y : FVec Ideal S4x16384x33 .f32) (k : Fin 33) (h : S4x16384x33.Slices ![0, 0, k.val] S4x16384x1) (b : Fin 4) (p : Fin 16384) :
    shapeCast S4x16384 (extractStridedSlice S4x16384x1 ![0, 0, k.val] y h) shapeCasts_S4x16384x1_S4x16384 (ix2 b p) = y (ix3 b p k) := by
  refine (shapeCast_apply _ _ _ (ix3 b p (0 : Fin 1)) ?_).trans ?_
  · refine (Shape.rowMajor_val_three _).trans ((?_ : _ = _).trans (Shape.rowMajor_val_two _).symm)
    show (b.val * 16384 + p.val) * 1 + 0 = b.val * 16384 + p.val
    omega
  · exact extractStridedSlice_apply _ _ _ _ (ix3 b p k) fun a => by
      fin_cases a
      · exact (Nat.zero_add _).symm
      · exact (Nat.zero_add _).symm
      · rfl

/-- The precondition's one operation after the columns: a comparison. -/
abbrev compared (x : FVec Ideal S4x16384x3 .f32) : IVec S4x16384 1 :=
  cmpf .olt (shapeCast S4x16384 (extractStridedSlice S4x16384x1 ![0, 0, 32] (values x) slices_S4x16384x33_S4x16384x1_0_0_32) shapeCasts_S4x16384x1_S4x16384)
    (shapeCast S4x16384 (extractStridedSlice S4x16384x1 ![0, 0, 31] (values x) slices_S4x16384x33_S4x16384x1_0_0_31) shapeCasts_S4x16384x1_S4x16384)

theorem olt_apply {s : Shape} (u v : FVec Ideal s .f32) (i : s.Idx) : cmpf .olt u v i = BitVec.ofBool (decide ((u i : EReal) < v i)) := rfl

theorem compared_apply (x : FVec Ideal S4x16384x3 .f32) (b : Fin 4) (p : Fin 16384) : compared x (ix2 b p)
    = BitVec.ofBool (decide ((values x (ix3 b p ⟨32, by omega⟩) : EReal) < values x (ix3 b p ⟨31, by omega⟩))) := by
  have h1 := column_apply (values x) ⟨32, by omega⟩ slices_S4x16384x33_S4x16384x1_0_0_32 b p
  have h2 := column_apply (values x) ⟨31, by omega⟩ slices_S4x16384x33_S4x16384x1_0_0_31 b p
  exact (olt_apply _ _ _).trans (congrArg₂ (fun u v : EReal => BitVec.ofBool (decide (u < v))) h1 h2)

theorem fn_eq (x : FVec Ideal S4x16384x3 .f32) (a1 : FVec Ideal S4x16x16384 .f32) (a2 : FVec Ideal S32x19 .f32) (a3 : FVec Ideal S32 .f32)
    (a4 : FVec Ideal S32x32 .f32) (a5 : FVec Ideal S32 .f32) (a6 : FVec Ideal S64x32 .f32) (a7 : FVec Ideal S64 .f32) :
    fn (F := Ideal) x a1 a2 a3 a4 a5 a6 a7 = compared x := rfl

/-- The 33rd value is strictly less than the 32nd, so the first 32 are the nearest. -/
theorem nearest (x : FVec Ideal S4x16384x3 .f32) (a1 : FVec Ideal S4x16x16384 .f32) (a2 : FVec Ideal S32x19 .f32) (a3 : FVec Ideal S32 .f32)
    (a4 : FVec Ideal S32x32 .f32) (a5 : FVec Ideal S32 .f32) (a6 : FVec Ideal S64x32 .f32) (a7 : FVec Ideal S64 .f32)
    (h : fn (F := Ideal) x a1 a2 a3 a4 a5 a6 a7 = fun _ => 1#1) (b : Fin 4) (p : Fin 16384) :
    Nearest (around x b p) (TopK.first fun n => -around x b p n) := by
  refine TopK.first_nearest _ ?_
  have e := (compared_apply x b p).symm.trans ((congrFun (fn_eq x a1 a2 a3 a4 a5 a6 a7) (ix2 b p)).symm.trans (congrFun h (ix2 b p)))
  have l : (values x (ix3 b p ⟨32, by omega⟩) : EReal) < values x (ix3 b p ⟨31, by omega⟩) := by
    by_contra hn
    rw [decide_eq_false hn] at e
    exact absurd e (by decide)
  rw [values_apply, values_apply] at l
  exact l

end

end Cert.Determined
-- ==== Proof.Equation.lean ====
/- The two programs' results are the same arrays. -/
module

public import proofs.«01_k».proof.Defs
public import proofs.«01_k».proof.Proof.MlpHost
public import proofs.«01_k».proof.Proof.RefPost
public import proofs.«01_k».proof.Proof.Determined

@[expose] public section

set_option maxRecDepth 16384

noncomputable section

namespace Cert.Equation

open Idealize.ShloMosaic hiding ix1 ix2 ix3 ix4 addf_apply subf_apply mulf_apply
open Idealize.ShloMosaic.TcCoe Idealize.ShloMosaic.ValueIdx

variable (m : (ℓ : Loc KernelIdeal.nD KernelIdeal.τ KernelIdeal.sig) → Buf (Elt Ideal) ℓ) (ρ : Dev KernelIdeal.nD → PrngReg)
  (m' : (ℓ : Loc ReferenceIdeal.nD ReferenceIdeal.τ ReferenceIdeal.sig) → Buf (Elt Ideal) ℓ)

/-- What the kernel's program leaves. -/
abbrev kernel0 (c : Dev KernelIdeal.nD) : FVec Ideal KernelIdeal.S4x1024x3 .f32 := KernelIdeal.Gen.W7 m ρ c (Proc.devRef .tc KernelIdeal.main_v17)
abbrev kernel1 (c : Dev KernelIdeal.nD) : FVec Ideal KernelIdeal.S4x64x1024 .f32 := KernelIdeal.Gen.W7 m ρ c (Proc.devRef .tc KernelIdeal.main_v55)

/-- What the reference's program leaves. -/
abbrev reference0 (c : Dev KernelIdeal.nD) : FVec Ideal KernelIdeal.S4x1024x3 .f32 :=
  StableHlo.finalContents RefRun.condOps RefRun.preI RefRun.bodyI RefRun.postI 1024 m' c (Proc.devRef .tc ReferenceIdeal.main_v11)
abbrev reference1 (c : Dev KernelIdeal.nD) : FVec Ideal KernelIdeal.S4x64x1024 .f32 :=
  StableHlo.finalContents RefRun.condOps RefRun.preI RefRun.bodyI RefRun.postI 1024 m' c (Proc.devRef .tc ReferenceIdeal.main_v64)

/-- The centres' coordinates. -/
theorem results0 (c : Dev KernelIdeal.nD) (h : FpsRef.pts m' c = FpsHost.pts m c) : reference0 m' c = kernel0 m ρ c := by
  funext i
  rw [ValueIdx.eq_ix3 (n0 := 4) (n1 := 1024) (n2 := 3) i]
  refine (FpsRef.result0 m' c (i 0) (i 1) (i 2)).trans ?_
  rw [h]
  exact ((congrFun (FpsHost.result0 m ρ c) _).trans (FpsHost.centres m ρ c (i 0) (i 1) (i 2))).symm

/-- Every query is one of its block's lanes. -/
theorem exists_query (q : Fin 1024) : ∃ g l, FpsHost.query g l = q :=
  ⟨⟨q.val / 128, by omega⟩, ⟨q.val % 128, by omega⟩, Fin.ext (by show 128 * (q.val / 128) + q.val % 128 = q.val; omega)⟩

/-- The greatest of the layers over the nearest points. -/
theorem results1 (hpre : Cert.Pre_KernelIdeal_nearest_determined m) (c : Dev KernelIdeal.nD) (h0 : FpsRef.pts m' c = FpsHost.pts m c)
    (h1 : (m' (c.tc.loc ReferenceIdeal.main_arg1) : FVec Ideal KernelIdeal.S4x16x16384 .f32) = m (c.tc.loc KernelIdeal.main_arg1))
    (hw : RefPost.given m' c = MlpHost.given m c) : reference1 m' c = kernel1 m ρ c := by
  funext i
  rw [ValueIdx.eq_ix3 (n0 := 4) (n1 := 64) (n2 := 1024) i]
  obtain ⟨g, l, hq⟩ := exists_query (i 2)
  refine (RefPost.result1 m' c (i 0) (i 1) (i 2)).trans ?_
  have hn := Determined.nearest _ _ _ _ _ _ _ _ (hpre c) (i 0) (Spec.centre FpsKernel.big (FpsHost.cloud (FpsHost.pts m c) (i 0)) (FpsHost.query g l).val)
  have hk := MlpHost.result1 m ρ c (i 0) g l (i 1) _ hn
  rw [h0, hw, h1, ← hq]
  exact hk.symm

end Cert.Equation
-- ==== Proof.lean ====
/- The certificate's claims: the three programs end and keep their arguments, the idealization leaves the kernel as it is, and
   kernel and reference have the same two results wherever the nearest points are determined. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_nearest_determined
public import proofs.«01_k».proof.Proof.KernelRun
public import proofs.«01_k».proof.Proof.Equation
public import Idealize.ShloMosaic.Adequacy
public import Idealize.ShloMosaic.Init

@[expose] public section

noncomputable section

namespace Cert.Proof

open Idealize.ShloMosaic Idealize.SL.Sem Cert.Kernel

/-- Where the arguments agree and every point's nearest are determined, both programs end with the same two results. -/
theorem equal : Cert.algebraic_KernelIdeal_ReferenceIdeal_pre_nearest_determined (hKernelIdeal := Cert.KernelIdeal.Gen.facts)
    (hReferenceIdeal := Cert.ReferenceIdeal.Gen.facts) (hPre_nearest_determined := Cert.Pre_nearest_determined.Gen.facts) := by
  intro m g m' g' hpre hargs
  refine ⟨fun c => Cert.KernelIdeal.Gen.W7 m g c (Proc.devRef .tc Cert.KernelIdeal.main_v17),
    fun c => Cert.KernelIdeal.Gen.W7 m g c (Proc.devRef .tc Cert.KernelIdeal.main_v55), Cert.KernelRun.run m g, ?_⟩
  refine θ_run_mono (Cert.RefFrame.run m' g') fun r h c => ?_
  obtain ⟨h0, h1, hr⟩ := h c
  obtain ⟨a0, a1, a2, a3, a4, a5, a6, a7⟩ := hargs c
  have hw : Cert.RefPost.given m' c = Cert.MlpHost.given m c := by
    unfold Cert.RefPost.given Cert.MlpHost.given
    rw [a2, a3, a4, a5, a6, a7]
  exact ⟨h0.trans (Cert.Equation.results0 m g m' c a0), h1.trans (Cert.Equation.results1 m g m' hpre c a0 a1 hw), hr⟩

theorem claim : Cert.Claim := ⟨Cert.Kernel.Gen.facts, Cert.KernelIdeal.Gen.facts, Cert.ReferenceIdeal.Gen.facts, Cert.Pre_nearest_determined.Gen.facts,
  fun m g _ => Cert.Kernel.Gen.frame m g, fun m g _ => Cert.KernelIdeal.Gen.frame m g, fun m g _ => Cert.KernelIdeal.Gen.frame m g,
  fun m g _ => Cert.RefFrame.frame m g, fun m g _ => Cert.RefFrame.frame m g, trivial, equal⟩

end Cert.Proof

end
